-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)) (v6 : (c : Dev Cert.Kernel4Ideal.nD) → Buf (Elt Ideal) ((c.tc : Thread Cert.Kernel4Ideal.nD Cert.Kernel4Ideal.τ).loc Cert.Kernel4Ideal.main_v39_6)) (v7 : (c : Dev Cert.Kernel4Ideal.nD) → Buf (Elt Ideal) ((c.tc : Thread Cert.Kernel4Ideal.nD Cert.Kernel4Ideal.τ).loc Cert.Kernel4Ideal.main_v39_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_v39_6) = v6 c
          ∧ r.2.mem ((c.tc : Thread Cert.Kernel4Ideal.nD Cert.Kernel4Ideal.τ).loc Cert.Kernel4Ideal.main_v39_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v95) = v0 c
          ∧ r.2.mem ((c.tc : Thread Cert.Reference4Ideal.nD Cert.Reference4Ideal.τ).loc Cert.Reference4Ideal.main_v97) = v1 c
          ∧ r.2.mem ((c.tc : Thread Cert.Reference4Ideal.nD Cert.Reference4Ideal.τ).loc Cert.Reference4Ideal.main_v99) = v2 c
          ∧ r.2.mem ((c.tc : Thread Cert.Reference4Ideal.nD Cert.Reference4Ideal.τ).loc Cert.Reference4Ideal.main_v101) = v3 c
          ∧ r.2.mem ((c.tc : Thread Cert.Reference4Ideal.nD Cert.Reference4Ideal.τ).loc Cert.Reference4Ideal.main_v103) = v4 c
          ∧ r.2.mem ((c.tc : Thread Cert.Reference4Ideal.nD Cert.Reference4Ideal.τ).loc Cert.Reference4Ideal.main_v105) = v5 c
          ∧ r.2.mem ((c.tc : Thread Cert.Reference4Ideal.nD Cert.Reference4Ideal.τ).loc Cert.Reference4Ideal.main_v107) = v6 c
          ∧ r.2.mem ((c.tc : Thread Cert.Reference4Ideal.nD Cert.Reference4Ideal.τ).loc Cert.Reference4Ideal.main_v109) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x512 : Shape := ⟨2, ![4096, 512]⟩
abbrev S256x1024 : Shape := ⟨2, ![256, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x1024 : S_.BroadcastsInDim S256x1024 (![] : Fin 0 → Fin S256x1024.rank)

variable [Facts]

def fn {F : FTy → Type} [FloatOps F] (main_arg0 : FVec F S4096x512 .bf16) (main_arg1 : FVec F S4096x512 .bf16) (main_arg2 : FVec F S256x1024 .bf16) (main_arg3 : FVec F S4096x512 .bf16) : IVec S4096x512 1 × IVec S4096x512 1 × IVec S256x1024 1 × IVec S4096x512 1 :=
  let main_v0 : FVec F S4096x512 .f32 := (extf .f32 · bitsLt_bf16_f32) main_arg0
  let main_v1 : FVec F S4096x512 .f32 := (extf .f32 · bitsLt_bf16_f32) main_arg0
  let main_v2 : FVec F S4096x512 .f32 := subf main_v0 main_v1
  let main_cst : FVec F S_ .f32 := constant S_ .f32 0x00000000#32
  let main_v3 : FVec F S4096x512 .f32 := broadcastInDim S4096x512 ![] bcast_S_S4096x512 main_cst
  let main_v4 : IVec S4096x512 1 := cmpf .oeq main_v2 main_v3
  let main_v5 : FVec F S4096x512 .f32 := (extf .f32 · bitsLt_bf16_f32) main_arg1
  let main_v6 : FVec F S4096x512 .f32 := (extf .f32 · bitsLt_bf16_f32) main_arg1
  let main_v7 : FVec F S4096x512 .f32 := subf main_v5 main_v6
  let main_cst_0 : FVec F S_ .f32 := constant S_ .f32 0x00000000#32
  let main_v8 : FVec F S4096x512 .f32 := broadcastInDim S4096x512 ![] bcast_S_S4096x512 main_cst_0
  let main_v9 : IVec S4096x512 1 := cmpf .oeq main_v7 main_v8
  let main_v10 : FVec F S256x1024 .f32 := (extf .f32 · bitsLt_bf16_f32) main_arg2
  let main_v11 : FVec F S256x1024 .f32 := (extf .f32 · bitsLt_bf16_f32) main_arg2
  let main_v12 : FVec F S256x1024 .f32 := subf main_v10 main_v11
  let main_cst_1 : FVec F S_ .f32 := constant S_ .f32 0x00000000#32
  let main_v13 : FVec F S256x1024 .f32 := broadcastInDim S256x1024 ![] bcast_S_S256x1024 main_cst_1
  let main_v14 : IVec S256x1024 1 := cmpf .oeq main_v12 main_v13
  let main_v15 : FVec F S4096x512 .f32 := (extf .f32 · bitsLt_bf16_f32) main_arg3
  let main_v16 : FVec F S4096x512 .f32 := (extf .f32 · bitsLt_bf16_f32) main_arg3
  let main_v17 : FVec F S4096x512 .f32 := subf main_v15 main_v16
  let main_cst_2 : FVec F S_ .f32 := constant S_ .f32 0x00000000#32
  let main_v18 : FVec F S4096x512 .f32 := broadcastInDim S4096x512 ![] bcast_S_S4096x512 main_cst_2
  let main_v19 : IVec S4096x512 1 := cmpf .oeq main_v17 main_v18
  (main_v4, main_v9, main_v14, main_v19)
-- ==== Pre_finite2.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S1024x7424 : Shape := ⟨2, ![1024, 7424]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x512 : S_.BroadcastsInDim S4096x512 (![] : Fin 0 → Fin S4096x512.rank)
  bcast_S_S4096x256 : S_.BroadcastsInDim S4096x256 (![] : Fin 0 → Fin S4096x256.rank)
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x7424 : S_.BroadcastsInDim S1024x7424 (![] : Fin 0 → Fin S1024x7424.rank)

variable [Facts]

def fn_part2 {F : FTy → Type} [FloatOps F] (main_arg9 : FVec F S1x1024 .f32) (main_arg10 : FVec F S1024x7424 .f32) (main_v4 : IVec S4096x2048 1) (main_v9 : IVec S4096x512 1) (main_v14 : IVec S4096x256 1) (main_v19 : IVec S4096x512 1) (main_v24 : IVec S4096x512 1) (main_v29 : IVec S4096x512 1) (main_v34 : IVec S4096x3072 1) (main_v37 : IVec S4096x1024 1) (main_v38 : FVec F S4096x1024 .f32) (main_cst_7 : FVec F S_ .f32) : IVec S4096x2048 1 × IVec S4096x512 1 × IVec S4096x256 1 × IVec S4096x512 1 × IVec S4096x512 1 × IVec S4096x512 1 × IVec S4096x3072 1 × IVec S4096x1024 1 × IVec S4096x1024 1 × IVec S1x1024 1 × IVec S1024x7424 1 :=
  let main_v39 : FVec F S4096x1024 .f32 := broadcastInDim S4096x1024 ![] bcast_S_S4096x1024 main_cst_7
  let main_v40 : IVec S4096x1024 1 := cmpf .oeq main_v38 main_v39
  let main_v41 : FVec F S1x1024 .f32 := subf main_arg9 main_arg9
  let main_cst_8 : FVec F S_ .f32 := constant S_ .f32 0x00000000#32
  let main_v42 : FVec F S1x1024 .f32 := broadcastInDim S1x1024 ![] bcast_S_S1x1024 main_cst_8
  let main_v43 : IVec S1x1024 1 := cmpf .oeq main_v41 main_v42
  let main_v44 : FVec F S1024x7424 .f32 := subf main_arg10 main_arg10
  let main_cst_9 : FVec F S_ .f32 := constant S_ .f32 0x00000000#32
  let main_v45 : FVec F S1024x7424 .f32 := broadcastInDim S1024x7424 ![] bcast_S_S1024x7424 main_cst_9
  let main_v46 : IVec S1024x7424 1 := cmpf .oeq main_v44 main_v45
  (main_v4, main_v9, main_v14, main_v19, main_v24, main_v29, main_v34, main_v37, main_v40, main_v43, main_v46)

def fn_part1 {F : FTy → Type} [FloatOps F] (main_arg4 : FVec F S4096x512 .bf16) (main_arg5 : FVec F S4096x512 .bf16) (main_arg6 : FVec F S4096x3072 .bf16) (main_arg7 : FVec F S4096x1024 .f32) (main_arg8 : FVec F S4096x1024 .f32) (main_arg9 : FVec F S1x1024 .f32) (main_arg10 : FVec F S1024x7424 .f32) (main_v4 : IVec S4096x2048 1) (main_v9 : IVec S4096x512 1) (main_v14 : IVec S4096x256 1) (main_v19 : IVec S4096x512 1) : IVec S4096x2048 1 × IVec S4096x512 1 × IVec S4096x256 1 × IVec S4096x512 1 × IVec S4096x512 1 × IVec S4096x512 1 × IVec S4096x3072 1 × IVec S4096x1024 1 × IVec S4096x1024 1 × IVec S1x1024 1 × IVec S1024x7424 1 :=
  let main_v20 : FVec F S4096x512 .f32 := (extf .f32 · bitsLt_bf16_f32) main_arg4
  let main_v21 : FVec F S4096x512 .f32 := (extf .f32 · bitsLt_bf16_f32) main_arg4
  let main_v22 : FVec F S4096x512 .f32 := subf main_v20 main_v21
  let main_cst_3 : FVec F S_ .f32 := constant S_ .f32 0x00000000#32
  let main_v23 : FVec F S4096x512 .f32 := broadcastInDim S4096x512 ![] bcast_S_S4096x512 main_cst_3
  let main_v24 : IVec S4096x512 1 := cmpf .oeq main_v22 main_v23
  let main_v25 : FVec F S4096x512 .f32 := (extf .f32 · bitsLt_bf16_f32) main_arg5
  let main_v26 : FVec F S4096x512 .f32 := (extf .f32 · bitsLt_bf16_f32) main_arg5
  let main_v27 : FVec F S4096x512 .f32 := subf main_v25 main_v26
  let main_cst_4 : FVec F S_ .f32 := constant S_ .f32 0x00000000#32
  let main_v28 : FVec F S4096x512 .f32 := broadcastInDim S4096x512 ![] bcast_S_S4096x512 main_cst_4
  let main_v29 : IVec S4096x512 1 := cmpf .oeq main_v27 main_v28
  let main_v30 : FVec F S4096x3072 .f32 := (extf .f32 · bitsLt_bf16_f32) main_arg6
  let main_v31 : FVec F S4096x3072 .f32 := (extf .f32 · bitsLt_bf16_f32) main_arg6
  let main_v32 : FVec F S4096x3072 .f32 := subf main_v30 main_v31
  let main_cst_5 : FVec F S_ .f32 := constant S_ .f32 0x00000000#32
  let main_v33 : FVec F S4096x3072 .f32 := broadcastInDim S4096x3072 ![] bcast_S_S4096x3072 main_cst_5
  let main_v34 : IVec S4096x3072 1 := cmpf .oeq main_v32 main_v33
  let main_v35 : FVec F S4096x1024 .f32 := subf main_arg7 main_arg7
  let main_cst_6 : FVec F S_ .f32 := constant S_ .f32 0x00000000#32
  let main_v36 : FVec F S4096x1024 .f32 := broadcastInDim S4096x1024 ![] bcast_S_S4096x1024 main_cst_6
  let main_v37 : IVec S4096x1024 1 := cmpf .oeq main_v35 main_v36
  let main_v38 : FVec F S4096x1024 .f32 := subf main_arg8 main_arg8
  let main_cst_7 : FVec F S_ .f32 := constant S_ .f32 0x00000000#32
  fn_part2 (F := F) main_arg9 main_arg10 main_v4 main_v9 main_v14 main_v19 main_v24 main_v29 main_v34 main_v37 main_v38 main_cst_7

def fn {F : FTy → Type} [FloatOps F] (main_arg0 : FVec F S4096x2048 .bf16) (main_arg1 : FVec F S4096x512 .bf16) (main_arg2 : FVec F S4096x256 .bf16) (main_arg3 : FVec F S4096x512 .bf16) (main_arg4 : FVec F S4096x512 .bf16) (main_arg5 : FVec F S4096x512 .bf16) (main_arg6 : FVec F S4096x3072 .bf16) (main_arg7 : FVec F S4096x1024 .f32) (main_arg8 : FVec F S4096x1024 .f32) (main_arg9 : FVec F S1x1024 .f32) (main_arg10 : FVec F S1024x7424 .f32) : IVec S4096x2048 1 × IVec S4096x512 1 × IVec S4096x256 1 × IVec S4096x512 1 × IVec S4096x512 1 × IVec S4096x512 1 × IVec S4096x3072 1 × IVec S4096x1024 1 × IVec S4096x1024 1 × IVec S1x1024 1 × IVec S1024x7424 1 :=
  let main_v0 : FVec F S4096x2048 .f32 := (extf .f32 · bitsLt_bf16_f32) main_arg0
  let main_v1 : FVec F S4096x2048 .f32 := (extf .f32 · bitsLt_bf16_f32) main_arg0
  let main_v2 : FVec F S4096x2048 .f32 := subf main_v0 main_v1
  let main_cst : FVec F S_ .f32 := constant S_ .f32 0x00000000#32
  let main_v3 : FVec F S4096x2048 .f32 := broadcastInDim S4096x2048 ![] bcast_S_S4096x2048 main_cst
  let main_v4 : IVec S4096x2048 1 := cmpf .oeq main_v2 main_v3
  let main_v5 : FVec F S4096x512 .f32 := (extf .f32 · bitsLt_bf16_f32) main_arg1
  let main_v6 : FVec F S4096x512 .f32 := (extf .f32 · bitsLt_bf16_f32) main_arg1
  let main_v7 : FVec F S4096x512 .f32 := subf main_v5 main_v6
  let main_cst_0 : FVec F S_ .f32 := constant S_ .f32 0x00000000#32
  let main_v8 : FVec F S4096x512 .f32 := broadcastInDim S4096x512 ![] bcast_S_S4096x512 main_cst_0
  let main_v9 : IVec S4096x512 1 := cmpf .oeq main_v7 main_v8
  let main_v10 : FVec F S4096x256 .f32 := (extf .f32 · bitsLt_bf16_f32) main_arg2
  let main_v11 : FVec F S4096x256 .f32 := (extf .f32 · bitsLt_bf16_f32) main_arg2
  let main_v12 : FVec F S4096x256 .f32 := subf main_v10 main_v11
  let main_cst_1 : FVec F S_ .f32 := constant S_ .f32 0x00000000#32
  let main_v13 : FVec F S4096x256 .f32 := broadcastInDim S4096x256 ![] bcast_S_S4096x256 main_cst_1
  let main_v14 : IVec S4096x256 1 := cmpf .oeq main_v12 main_v13
  let main_v15 : FVec F S4096x512 .f32 := (extf .f32 · bitsLt_bf16_f32) main_arg3
  let main_v16 : FVec F S4096x512 .f32 := (extf .f32 · bitsLt_bf16_f32) main_arg3
  let main_v17 : FVec F S4096x512 .f32 := subf main_v15 main_v16
  let main_cst_2 : FVec F S_ .f32 := constant S_ .f32 0x00000000#32
  let main_v18 : FVec F S4096x512 .f32 := broadcastInDim S4096x512 ![] bcast_S_S4096x512 main_cst_2
  let main_v19 : IVec S4096x512 1 := cmpf .oeq main_v17 main_v18
  fn_part1 (F := F) main_arg4 main_arg5 main_arg6 main_arg7 main_arg8 main_arg9 main_arg10 main_v4 main_v9 main_v14 main_v19
-- ==== Kernel.lean ====
abbrev S4096x512 : Shape := ⟨2, ![4096, 512]⟩
abbrev S256x1024 : Shape := ⟨2, ![256, 1024]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512 : Shape := ⟨1, ![512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x512 : Shape := ⟨2, ![4096, 512]⟩
abbrev S256x1024 : Shape := ⟨2, ![256, 1024]⟩
abbrev S1x4096x512 : Shape := ⟨3, ![1, 4096, 512]⟩
abbrev S1x256x1024 : Shape := ⟨3, ![1, 256, 1024]⟩
abbrev S1x256x512 : Shape := ⟨3, ![1, 256, 512]⟩
abbrev S1x4096x4x128 : Shape := ⟨4, ![1, 4096, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S256x1024, .bf16⟩
  | .hbm, ⟨3, _⟩ => ⟨S4096x512, .bf16⟩
  | .hbm, ⟨4, _⟩ => ⟨S4096x512, .f32⟩
  | .hbm, ⟨5, _⟩ => ⟨S1x4096x512, .f32⟩
  | .hbm, ⟨6, _⟩ => ⟨S4096x512, .f32⟩
  | .hbm, ⟨7, _⟩ => ⟨S1x4096x512, .f32⟩
  | .hbm, ⟨8, _⟩ => ⟨S256x1024, .f32⟩
  | .hbm, ⟨9, _⟩ => ⟨S1x256x1024, .f32⟩
  | .hbm, ⟨10, _⟩ => ⟨S4096x512, .f32⟩
  | .hbm, ⟨11, _⟩ => ⟨S1x4096x512, .f32⟩
  | .hbm, ⟨12, _⟩ => ⟨S1x256x512, .f32⟩
  | .hbm, ⟨13, _⟩ => ⟨S1x256x512, .f32⟩
  | .hbm, ⟨14, _⟩ => ⟨S1x4096x4x128, .f32⟩
  | .hbm, ⟨15, _⟩ => ⟨S1x256x4x128, .f32⟩
  | .hbm, ⟨16, _⟩ => ⟨S1x256x4x128, .f32⟩
  | .hbm, ⟨17, _⟩ => ⟨S1x4x4096x256, .f32⟩
  | .hbm, ⟨18, _⟩ => ⟨S_, .f32⟩
  | .hbm, ⟨19, _⟩ => ⟨S1x4x4096x256, .f32⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S1x4x4096x1, .f32⟩
  | .hbm, ⟨24, _⟩ => ⟨S1x4x4096x256, .f32⟩
  | .hbm, ⟨25, _⟩ => ⟨S1x4x4096x256, .i1⟩
  | .hbm, ⟨26, _⟩ => ⟨S1x4x4096x256, .f32⟩
  | .hbm, ⟨27, _⟩ => ⟨S_, .f32⟩
  | .hbm, ⟨28, _⟩ => ⟨S1x4x4096, .f32⟩
  | .hbm, ⟨29, _⟩ => ⟨S_, .f32⟩
  | .hbm, ⟨30, _⟩ => ⟨S1x4x4096, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .i1⟩
  | .hbm, ⟨35, _⟩ => ⟨S_, .f32⟩
  | .hbm, ⟨36, _⟩ => ⟨S1x4x4096, .f32⟩
  | .hbm, ⟨37, _⟩ => ⟨S1x4x4096, .i1⟩
  | .hbm, ⟨38, _⟩ => ⟨S_, .f32⟩
  | .hbm, ⟨39, _⟩ => ⟨S1x4x4096, .f32⟩
  | .hbm, ⟨40, _⟩ => ⟨S_, .f32⟩
  | .hbm, ⟨41, _⟩ => ⟨S1x4x4096, .f32⟩
  | .hbm, ⟨42, _⟩ => ⟨S_, .f32⟩
  | .hbm, ⟨43, _⟩ => ⟨S1x4x4096, .f32⟩
  | .hbm, ⟨44, _⟩ => ⟨S1x4x4096, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x256, .f32⟩
  | .hbm, ⟨50, _⟩ => ⟨S_, .f32⟩
  | .hbm, ⟨51, _⟩ => ⟨S1x4x4096, .f32⟩
  | .hbm, ⟨52, _⟩ => ⟨S1x4x4096x1, .f32⟩
  | .hbm, ⟨53, _⟩ => ⟨S1x4x4096x256, .f32⟩
  | .hbm, ⟨54, _⟩ => ⟨S1x4x4096x256, .f32⟩
  | .hbm, ⟨55, _⟩ => ⟨S1x4x4096x1, .f32⟩
  | .hbm, ⟨56, _⟩ => ⟨S_, .f32⟩
  | .hbm, ⟨57, _⟩ => ⟨S1x4x4096x1, .f32⟩
  | .hbm, ⟨58, _⟩ => ⟨S1x4x4096x1, .f32⟩
  | .hbm, ⟨59, _⟩ => ⟨S1x4x128x4096, .f32⟩
  | .hbm, ⟨60, _⟩ => ⟨S1x4096x4x128, .f32⟩
  | .hbm, ⟨61, _⟩ => ⟨S1x4096x512, .f32⟩
  | .hbm, ⟨62, _⟩ => ⟨S1x4096x512, .f32⟩
  | .hbm, ⟨63, _⟩ => ⟨S1x4096x512, .f32⟩
  | .hbm, ⟨64, _⟩ => ⟨S_, .f32⟩
  | .hbm, ⟨65, _⟩ => ⟨S1x4096x512, .f32⟩
  | .hbm, ⟨66, _⟩ => ⟨S1x4096x512, .f32⟩
  | .hbm, ⟨67, _⟩ => ⟨S_, .f32⟩
  | .hbm, ⟨68, _⟩ => ⟨S1x4096x512, .f32⟩
  | .hbm, ⟨69, _⟩ => ⟨S1x4096x512, .f32⟩
  | .hbm, ⟨70, _⟩ => ⟨S_, .f32⟩
  | .hbm, ⟨71, _⟩ => ⟨S1x4096x512, .f32⟩
  | .hbm, ⟨72, _⟩ => ⟨S1x4096x512, .f32⟩
  | .hbm, ⟨73, _⟩ => ⟨S1x4096x512, .f32⟩
  | .hbm, ⟨74, _⟩ => ⟨S1x4096x512, .f32⟩
  | .hbm, ⟨75, _⟩ => ⟨S1x4096x512, .f32⟩
  | .hbm, ⟨76, _⟩ => ⟨S1x4096x512, .f32⟩
  | .hbm, ⟨77, _⟩ => ⟨S1x4096x512, .f32⟩
  | .hbm, ⟨78, _⟩ => ⟨S1x4096x512, .f32⟩
  | .hbm, ⟨79, _⟩ => ⟨S1x4096x512, .f32⟩
  | .hbm, ⟨80, _⟩ => ⟨S1x4096x512, .f32⟩
  | .hbm, ⟨81, _⟩ => ⟨S1x4096x512, .f32⟩
  | .hbm, ⟨82, _⟩ => ⟨S1x4096x4x128, .f32⟩
  | .hbm, ⟨83, _⟩ => ⟨S1x4x128x4096, .f32⟩
  | .hbm, ⟨84, _⟩ => ⟨S1x4x4096x256, .f32⟩
  | .hbm, ⟨85, _⟩ => ⟨S1x4x128x256, .f32⟩
  | .hbm, ⟨86, _⟩ => ⟨S1x256x4x128, .f32⟩
  | .hbm, ⟨87, _⟩ => ⟨S1x4x4096x256, .f32⟩
  | .hbm, ⟨88, _⟩ => ⟨S1x4x4096x256, .f32⟩
  | .hbm, ⟨89, _⟩ => ⟨S1x4x4096x256, .f32⟩
  | .hbm, ⟨90, _⟩ => ⟨S_, .f32⟩
  | .hbm, ⟨91, _⟩ => ⟨S1x4x4096, .f32⟩
  | .hbm, ⟨92, _⟩ => ⟨S1x4x4096x1, .f32⟩
  | .hbm, ⟨93, _⟩ => ⟨S1x4x4096x1, .f32⟩
  | .hbm, ⟨94, _⟩ => ⟨S1x4x4096x256, .f32⟩
  | .hbm, ⟨95, _⟩ => ⟨S1x4x4096x256, .f32⟩
  | .hbm, ⟨96, _⟩ => ⟨S_, .f32⟩
  | .hbm, ⟨97, _⟩ => ⟨S4x4096, .f32⟩
  | .hbm, ⟨98, _⟩ => ⟨S1x4x4096, .f32⟩
  | .hbm, ⟨99, _⟩ => ⟨S1x4x4096x256, .f32⟩
  | .hbm, ⟨100, _⟩ => ⟨S1x4x4096x256, .f32⟩
  | .hbm, ⟨101, _⟩ => ⟨S1x4x4096x256, .f32⟩
  | .hbm, ⟨102, _⟩ => ⟨S_, .f32⟩
  | .hbm, ⟨103, _⟩ => ⟨S1x4x4096x256, .f32⟩
  | .hbm, ⟨104, _⟩ => ⟨S1x4x4096x256, .f32⟩
  | .hbm, ⟨105, _⟩ => ⟨S1x4x256x128, .f32⟩
  | .hbm, ⟨106, _⟩ => ⟨S1x256x4x128, .f32⟩
  | .hbm, ⟨107, _⟩ => ⟨S1x4x4096x128, .f32⟩
  | .hbm, ⟨108, _⟩ => ⟨S1x4096x4x128, .f32⟩
  | .hbm, ⟨109, _⟩ => ⟨S1x256x512, .f32⟩
  | .hbm, ⟨110, _⟩ => ⟨S1x256x512, .f32⟩
  | .hbm, ⟨111, _⟩ => ⟨S1x4096x512, .f32⟩
  | .hbm, ⟨112, _⟩ => ⟨S1x256x1024, .f32⟩
  | .hbm, ⟨113, _⟩ => ⟨S4096x512, .f32⟩
  | .hbm, ⟨114, _⟩ => ⟨S4096x512, .bf16⟩
  | .hbm, ⟨115, _⟩ => ⟨S4096x512, .f32⟩
  | .hbm, ⟨116, _⟩ => ⟨S4096x512, .bf16⟩
  | .hbm, ⟨117, _⟩ => ⟨S256x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v47_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v47_1 : Ref sig .tc := ⟨.hbm, 73, rfl⟩
abbrev main_v47_0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel2.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S1024x7424 : Shape := ⟨2, ![1024, 7424]⟩
abbrev S7424x1024 : Shape := ⟨2, ![7424, 1024]⟩
abbrev S256x2048 : Shape := ⟨2, ![256, 2048]⟩
abbrev S256x512 : Shape := ⟨2, ![256, 512]⟩
abbrev S256x256 : Shape := ⟨2, ![256, 256]⟩
abbrev S256x3072 : Shape := ⟨2, ![256, 3072]⟩
abbrev S256x1024 : Shape := ⟨2, ![256, 1024]⟩
abbrev S1 : Shape := ⟨1, ![1]⟩
abbrev S_ : Shape := ⟨0, ![]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024x7424, .f32⟩
  | .hbm, ⟨11, _⟩ => ⟨S7424x1024, .f32⟩
  | .hbm, ⟨12, _⟩ => ⟨S7424x1024, .bf16⟩
  | .hbm, ⟨13, _⟩ => ⟨S4096x1024, .f32⟩
  | .hbm, ⟨14, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x3072, .bf16⟩
  | .local _ .vmem, ⟨13, _⟩ => ⟨S256x3072, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S7424x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S1x1024 : Shape := ⟨2, ![1, 1024]⟩
abbrev S1024x7424 : Shape := ⟨2, ![1024, 7424]⟩
abbrev S_ : Shape := ⟨0, ![]⟩
abbrev S4096 : Shape := ⟨1, ![4096]⟩
abbrev S4096x1 : Shape := ⟨2, ![4096, 1]⟩
abbrev S4096x7424 : Shape := ⟨2, ![4096, 7424]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024x7424, .f32⟩
  | .hbm, ⟨11, _⟩ => ⟨S4096x2048, .f32⟩
  | .hbm, ⟨12, _⟩ => ⟨S4096x512, .f32⟩
  | .hbm, ⟨13, _⟩ => ⟨S4096x256, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x3072, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x7424, .f32⟩
  | .hbm, ⟨38, _⟩ => ⟨S4096x2048, .f32⟩
  | .hbm, ⟨39, _⟩ => ⟨S4096x512, .f32⟩
  | .hbm, ⟨40, _⟩ => ⟨S4096x256, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x3072, .f32⟩
  | .hbm, ⟨45, _⟩ => ⟨S4096x7424, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel3.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S7424x1024 : Shape := ⟨2, ![7424, 1024]⟩
abbrev S256x1024 : Shape := ⟨2, ![256, 1024]⟩
abbrev S1 : Shape := ⟨1, ![1]⟩
abbrev S_ : Shape := ⟨0, ![]⟩

abbrev nBuf : Space → Nat
  | .hbm => 9
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .bf16⟩
  | .hbm, ⟨8, _⟩ => ⟨S7424x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S256x1024, .bf16⟩
  | .local _ .vmem, ⟨15, _⟩ => ⟨S256x1024, .bf16⟩
  | .local _ .vmem, ⟨16, _⟩ => ⟨S4096x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c8_i32_3 : BitVec 32 := 8#32
  let v8 : BitVec 1 := Scalar.cmpi .sge arg0 c8_i32_3
  let c10_i32 : BitVec 32 := 10#32
  let v9 : BitVec 1 := Scalar.cmpi .slt arg0 c10_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c10_i32_5 : BitVec 32 := 10#32
  let v13 : BitVec 1 := Scalar.cmpi .sge arg0 c10_i32_5
  let c11_i32 : BitVec 32 := 11#32
  let v14 : BitVec 1 := Scalar.cmpi .slt arg0 c11_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg0 : BitVec 32 := BitVec.ofNat 32 (i 0).val
  let c11_i32_7 : BitVec 32 := 11#32
  let v18 : BitVec 1 := Scalar.cmpi .sge arg0 c11_i32_7
  let c13_i32 : BitVec 32 := 13#32
  let v19 : BitVec 1 := Scalar.cmpi .slt arg0 c13_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg0 : BitVec 32 := BitVec.ofNat 32 (i 0).val
  let c13_i32_9 : BitVec 32 := 13#32
  let v23 : BitVec 1 := Scalar.cmpi .sge arg0 c13_i32_9
  let c15_i32 : BitVec 32 := 15#32
  let v24 : BitVec 1 := Scalar.cmpi .slt arg0 c15_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg0 : BitVec 32 := BitVec.ofNat 32 (i 0).val
  let c15_i32_11 : BitVec 32 := 15#32
  let v28 : BitVec 1 := Scalar.cmpi .sge arg0 c15_i32_11
  let c17_i32 : BitVec 32 := 17#32
  let v29 : BitVec 1 := Scalar.cmpi .slt arg0 c17_i32
  let v30 : BitVec 1 := Scalar.andi v28 v29
  let v31 : BitVec 32 := Scalar.extui v30
  let c0_i32_12 : BitVec 32 := 0#32
  let v32 : BitVec 1 := Scalar.cmpi .ne v31 c0_i32_12
  v32

def k0_cond8 (i : grid0.Coords) : BitVec 1 :=
  let arg0 : BitVec 32 := BitVec.ofNat 32 (i 0).val
  let c17_i32_13 : BitVec 32 := 17#32
  let v33 : BitVec 1 := Scalar.cmpi .sge arg0 c17_i32_13
  let c29_i32 : BitVec 32 := 29#32
  let v34 : BitVec 1 := Scalar.cmpi .slt arg0 c29_i32
  let v35 : BitVec 1 := Scalar.andi v33 v34
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c13_i32 : BitVec 32 := 13#32
  let v0 : BitVec 32 := Scalar.subi arg0 c13_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c17_i32 : BitVec 32 := 17#32
  let v0 : BitVec 32 := Scalar.subi arg0 c17_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S4096x1024 : Shape := ⟨2, ![4096, 1024]⟩
abbrev S_ : Shape := ⟨0, ![]⟩
abbrev S1024x7424 : Shape := ⟨2, ![1024, 7424]⟩
abbrev S4096x7424 : Shape := ⟨2, ![4096, 7424]⟩
abbrev S7424x1024 : Shape := ⟨2, ![7424, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x256, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x3072, .bf16⟩
  | .hbm, ⟨7, _⟩ => ⟨S4096x1024, .bf16⟩
  | .hbm, ⟨8, _⟩ => ⟨S4096x2048, .f32⟩
  | .hbm, ⟨9, _⟩ => ⟨S4096x512, .f32⟩
  | .hbm, ⟨10, _⟩ => ⟨S4096x256, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x3072, .f32⟩
  | .hbm, ⟨15, _⟩ => ⟨S_, .f32⟩
  | .hbm, ⟨16, _⟩ => ⟨S1024x7424, .f32⟩
  | .hbm, ⟨17, _⟩ => ⟨S4096x1024, .f32⟩
  | .hbm, ⟨18, _⟩ => ⟨S4096x7424, .f32⟩
  | .hbm, ⟨19, _⟩ => ⟨S4096x2048, .f32⟩
  | .hbm, ⟨20, _⟩ => ⟨S4096x512, .f32⟩
  | .hbm, ⟨21, _⟩ => ⟨S4096x256, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x3072, .f32⟩
  | .hbm, ⟨26, _⟩ => ⟨S4096x7424, .f32⟩
  | .hbm, ⟨27, _⟩ => ⟨S7424x1024, .f32⟩
  | .hbm, ⟨28, _⟩ => ⟨S1024x7424, .f32⟩
  | .hbm, ⟨29, _⟩ => ⟨S7424x1024, .f32⟩
  | .hbm, ⟨30, _⟩ => ⟨S7424x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x7424 : Shape := ⟨2, ![1024, 7424]⟩
abbrev S7424x1024 : Shape := ⟨2, ![7424, 1024]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x128 : Shape := ⟨2, ![4096, 128]⟩
abbrev S1x4096x128 : Shape := ⟨3, ![1, 4096, 128]⟩
abbrev S3x4096x128 : Shape := ⟨3, ![3, 4096, 128]⟩
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩
abbrev S512x1024 : Shape := ⟨2, ![512, 1024]⟩
abbrev S3x512x128 : Shape := ⟨3, ![3, 512, 128]⟩
abbrev S512x2048 : Shape := ⟨2, ![512, 2048]⟩
abbrev S512x512 : Shape := ⟨2, ![512, 512]⟩
abbrev S512x256 : Shape := ⟨2, ![512, 256]⟩
abbrev S512x3072 : Shape := ⟨2, ![512, 3072]⟩
abbrev S1 : Shape := ⟨1, ![1]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S256x1024 : Shape := ⟨2, ![256, 1024]⟩

abbrev nBuf : Space → Nat
  | .hbm => 66
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S7424x1024, .f32⟩
  | .hbm, ⟨4, _⟩ => ⟨S7424x1024, .bf16⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S48, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S4096x128, .i32⟩
  | .hbm, ⟨21, _⟩ => ⟨S4096x128, .f32⟩
  | .hbm, ⟨22, _⟩ => ⟨S4096x128, .i32⟩
  | .hbm, ⟨23, _⟩ => ⟨S_, .i32⟩
  | .hbm, ⟨24, _⟩ => ⟨S4096x128, .i32⟩
  | .hbm, ⟨25, _⟩ => ⟨S4096x128, .i32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .i32⟩
  | .hbm, ⟨31, _⟩ => ⟨S4096x128, .i32⟩
  | .hbm, ⟨32, _⟩ => ⟨S4096x128, .i1⟩
  | .hbm, ⟨33, _⟩ => ⟨S_, .i32⟩
  | .hbm, ⟨34, _⟩ => ⟨S4096x128, .i32⟩
  | .hbm, ⟨35, _⟩ => ⟨S4096x128, .i1⟩
  | .hbm, ⟨36, _⟩ => ⟨S_, .i32⟩
  | .hbm, ⟨37, _⟩ => ⟨S4096x128, .i32⟩
  | .hbm, ⟨38, _⟩ => ⟨S4096x128, .i1⟩
  | .hbm, ⟨39, _⟩ => ⟨S4096x128, .i1⟩
  | .hbm, ⟨40, _⟩ => ⟨S4096x128, .i1⟩
  | .hbm, ⟨41, _⟩ => ⟨S_, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S1x4096x128, .f32⟩
  | .hbm, ⟨55, _⟩ => ⟨S1x4096x128, .f32⟩
  | .hbm, ⟨56, _⟩ => ⟨S1x4096x128, .f32⟩
  | .hbm, ⟨57, _⟩ => ⟨S3x4096x128, .f32⟩
  | .hbm, ⟨58, _⟩ => ⟨S4096x1024, .bf16⟩
  | .hbm, ⟨59, _⟩ => ⟨S4096x2048, .bf16⟩
  | .hbm, ⟨60, _⟩ => ⟨S4096x512, .bf16⟩
  | .hbm, ⟨61, _⟩ => ⟨S4096x256, .bf16⟩
  | .hbm, ⟨62, _⟩ => ⟨S4096x512, .bf16⟩
  | .hbm, ⟨63, _⟩ => ⟨S4096x512, .bf16⟩
  | .hbm, ⟨64, _⟩ => ⟨S4096x512, .bf16⟩
  | .hbm, ⟨65, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512x128, .f32⟩
  | .local _ .vmem, ⟨4, _⟩ => ⟨S3x512x128, .f32⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | .local _ .vmem, ⟨9, _⟩ => ⟨S512x512, .bf16⟩
  | .local _ .vmem, ⟨10, _⟩ => ⟨S512x512, .bf16⟩
  | .local _ .vmem, ⟨11, _⟩ => ⟨S512x256, .bf16⟩
  | .local _ .vmem, ⟨12, _⟩ => ⟨S512x256, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x3072, .bf16⟩
  | .local _ .vmem, ⟨20, _⟩ => ⟨S512x3072, .bf16⟩
  | .local _ .vmem, ⟨21, _⟩ => ⟨S7424x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev main_v39_5 : Ref sig .tc := ⟨.hbm, 63, rfl⟩
abbrev main_v39_6 : Ref sig .tc := ⟨.hbm, 64, rfl⟩
abbrev main_v39_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4096x1024 : Shape := ⟨2, ![4096, 1024]⟩
abbrev S1x1024 : Shape := ⟨2, ![1, 1024]⟩
abbrev S1024x7424 : Shape := ⟨2, ![1024, 7424]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x7424 : Shape := ⟨3, ![1, 4096, 7424]⟩
abbrev S1x4096x2048 : Shape := ⟨3, ![1, 4096, 2048]⟩
abbrev S1x4096x512 : Shape := ⟨3, ![1, 4096, 512]⟩
abbrev S1x4096x256 : Shape := ⟨3, ![1, 4096, 256]⟩
abbrev S1x4096x3072 : Shape := ⟨3, ![1, 4096, 3072]⟩
abbrev S1x4096x128 : Shape := ⟨3, ![1, 4096, 128]⟩
abbrev S4096 : Shape := ⟨1, ![4096]⟩
abbrev S1x4096x8x64 : Shape := ⟨4, ![1, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S1x4096x8x16 : Shape := ⟨4, ![1, 4096, 8, 16]⟩
abbrev S1x4096x8x8 : Shape := ⟨4, ![1, 4096, 8, 8]⟩
abbrev S1x4096x8x48 : Shape := ⟨4, ![1, 4096, 8, 48]⟩
abbrev S1x4096x2x64 : Shape := ⟨4, ![1, 4096, 2, 64]⟩
abbrev S1x4096x2x16 : Shape := ⟨4, ![1, 4096, 2, 16]⟩
abbrev S1x4096x2x8 : Shape := ⟨4, ![1, 4096, 2, 8]⟩
abbrev S1x4096x2x48 : Shape := ⟨4, ![1, 4096, 2, 48]⟩
abbrev S4096x2048 : Shape := ⟨2, ![4096, 2048]⟩
abbrev S4096x512 : Shape := ⟨2, ![4096, 512]⟩
abbrev S4096x256 : Shape := ⟨2, ![4096, 256]⟩
abbrev S4096x3072 : Shape := ⟨2, ![4096, 3072]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x7424, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x7424, .f32⟩
  | .hbm, ⟨21, _⟩ => ⟨S1x4096x2048, .f32⟩
  | .hbm, ⟨22, _⟩ => ⟨S1x4096x512, .f32⟩
  | .hbm, ⟨23, _⟩ => ⟨S1x4096x256, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S1x4096x3072, .f32⟩
  | .hbm, ⟨28, _⟩ => ⟨S1x4096x128, .f32⟩
  | .hbm, ⟨29, _⟩ => ⟨S1x4096x128, .f32⟩
  | .hbm, ⟨30, _⟩ => ⟨S4096, .i32⟩
  | .hbm, ⟨31, _⟩ => ⟨S1x4096x8x64, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S4096, .f32⟩
  | .hbm, ⟨41, _⟩ => ⟨S4096x1, .f32⟩
  | .hbm, ⟨42, _⟩ => ⟨S1x8, .f32⟩
  | .hbm, ⟨43, _⟩ => ⟨S4096x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S1x4096x1x8, .f32⟩
  | .hbm, ⟨48, _⟩ => ⟨S4096x8, .f32⟩
  | .hbm, ⟨49, _⟩ => ⟨S1x4096x1x8, .f32⟩
  | .hbm, ⟨50, _⟩ => ⟨S1x4096x8x16, .f32⟩
  | .hbm, ⟨51, _⟩ => ⟨S1x4096x8x8, .f32⟩
  | .hbm, ⟨52, _⟩ => ⟨S1x4096x8x8, .f32⟩
  | .hbm, ⟨53, _⟩ => ⟨S1x4096x8x8, .f32⟩
  | .hbm, ⟨54, _⟩ => ⟨S1x4096x8x8, .f32⟩
  | .hbm, ⟨55, _⟩ => ⟨S1x4096x8x8, .f32⟩
  | .hbm, ⟨56, _⟩ => ⟨S1x4096x8x8, .f32⟩
  | .hbm, ⟨57, _⟩ => ⟨S1x4096x8x8, .f32⟩
  | .hbm, ⟨58, _⟩ => ⟨S1x4096x8x8, .f32⟩
  | .hbm, ⟨59, _⟩ => ⟨S1x4096x8x8, .f32⟩
  | .hbm, ⟨60, _⟩ => ⟨S1x4096x8x8, .f32⟩
  | .hbm, ⟨61, _⟩ => ⟨S1x4096x8x8, .f32⟩
  | .hbm, ⟨62, _⟩ => ⟨S1x4096x8x8, .f32⟩
  | .hbm, ⟨63, _⟩ => ⟨S1x4096x8x16, .f32⟩
  | .hbm, ⟨64, _⟩ => ⟨S1x4096x8x48, .f32⟩
  | .hbm, ⟨65, _⟩ => ⟨S1x4096x8x64, .f32⟩
  | .hbm, ⟨66, _⟩ => ⟨S1x4096x512, .f32⟩
  | .hbm, ⟨67, _⟩ => ⟨S1x4096x2x64, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S4096, .f32⟩
  | .hbm, ⟨77, _⟩ => ⟨S4096x1, .f32⟩
  | .hbm, ⟨78, _⟩ => ⟨S1x8, .f32⟩
  | .hbm, ⟨79, _⟩ => ⟨S4096x8, .f32⟩
  | .hbm, ⟨80, _⟩ => ⟨S4096x8, .f32⟩
  | .hbm, ⟨81, _⟩ => ⟨S4096x8, .f32⟩
  | .hbm, ⟨82, _⟩ => ⟨S4096x8, .f32⟩
  | .hbm, ⟨83, _⟩ => ⟨S1x4096x1x8, .f32⟩
  | .hbm, ⟨84, _⟩ => ⟨S4096x8, .f32⟩
  | .hbm, ⟨85, _⟩ => ⟨S1x4096x1x8, .f32⟩
  | .hbm, ⟨86, _⟩ => ⟨S1x4096x2x16, .f32⟩
  | .hbm, ⟨87, _⟩ => ⟨S1x4096x2x8, .f32⟩
  | .hbm, ⟨88, _⟩ => ⟨S1x4096x2x8, .f32⟩
  | .hbm, ⟨89, _⟩ => ⟨S1x4096x2x8, .f32⟩
  | .hbm, ⟨90, _⟩ => ⟨S1x4096x2x8, .f32⟩
  | .hbm, ⟨91, _⟩ => ⟨S1x4096x2x8, .f32⟩
  | .hbm, ⟨92, _⟩ => ⟨S1x4096x2x8, .f32⟩
  | .hbm, ⟨93, _⟩ => ⟨S1x4096x2x8, .f32⟩
  | .hbm, ⟨94, _⟩ => ⟨S1x4096x2x8, .f32⟩
  | .hbm, ⟨95, _⟩ => ⟨S1x4096x2x8, .f32⟩
  | .hbm, ⟨96, _⟩ => ⟨S1x4096x2x8, .f32⟩
  | .hbm, ⟨97, _⟩ => ⟨S1x4096x2x8, .f32⟩
  | .hbm, ⟨98, _⟩ => ⟨S1x4096x2x8, .f32⟩
  | .hbm, ⟨99, _⟩ => ⟨S1x4096x2x16, .f32⟩
  | .hbm, ⟨100, _⟩ => ⟨S1x4096x2x48, .f32⟩
  | .hbm, ⟨101, _⟩ => ⟨S1x4096x2x64, .f32⟩
  | .hbm, ⟨102, _⟩ => ⟨S1x4096x128, .f32⟩
  | .hbm, ⟨103, _⟩ => ⟨S1x4096x256, .f32⟩
  | .hbm, ⟨104, _⟩ => ⟨S4096x1024, .f32⟩
  | .hbm, ⟨105, _⟩ => ⟨S4096x1024, .bf16⟩
  | .hbm, ⟨106, _⟩ => ⟨S4096x2048, .f32⟩
  | .hbm, ⟨107, _⟩ => ⟨S4096x2048, .bf16⟩
  | .hbm, ⟨108, _⟩ => ⟨S4096x512, .f32⟩
  | .hbm, ⟨109, _⟩ => ⟨S4096x512, .bf16⟩
  | .hbm, ⟨110, _⟩ => ⟨S4096x256, .f32⟩
  | .hbm, ⟨111, _⟩ => ⟨S4096x256, .bf16⟩
  | .hbm, ⟨112, _⟩ => ⟨S4096x512, .f32⟩
  | .hbm, ⟨113, _⟩ => ⟨S4096x512, .bf16⟩
  | .hbm, ⟨114, _⟩ => ⟨S4096x512, .f32⟩
  | .hbm, ⟨115, _⟩ => ⟨S4096x512, .bf16⟩
  | .hbm, ⟨116, _⟩ => ⟨S4096x512, .f32⟩
  | .hbm, ⟨117, _⟩ => ⟨S4096x512, .bf16⟩
  | .hbm, ⟨118, _⟩ => ⟨S4096x3072, .f32⟩
  | .hbm, ⟨119, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x512 : Shape := ⟨2, ![4096, 512]⟩
abbrev S3x4096x1024 : Shape := ⟨3, ![3, 4096, 1024]⟩
abbrev S8x1536x128 : Shape := ⟨3, ![8, 1536, 128]⟩
abbrev S4096x256 : Shape := ⟨2, ![4096, 256]⟩
abbrev S1x4096x1024 : Shape := ⟨3, ![1, 4096, 1024]⟩
abbrev S8x256x128 : Shape := ⟨3, ![8, 256, 128]⟩
abbrev S4096x1024 : Shape := ⟨2, ![4096, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x4096x1024, .bf16⟩
  | .hbm, ⟨4, _⟩ => ⟨S8x1536x128, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x4096x1024, .bf16⟩
  | .local _ .vmem, ⟨7, _⟩ => ⟨S1x4096x1024, .bf16⟩
  | .local _ .vmem, ⟨8, _⟩ => ⟨S8x256x128, .bf16⟩
  | .local _ .vmem, ⟨9, _⟩ => ⟨S8x256x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg0 : BitVec 32 := BitVec.ofNat 32 (i 0).val
  let c0_i32_16 : BitVec 32 := 0#32
  let v41 : BitVec 1 := Scalar.cmpi .sgt arg0 c0_i32_16
  let v42 : BitVec 32 := Scalar.extui v41
  let c0_i32_17 : BitVec 32 := 0#32
  let v43 : BitVec 1 := Scalar.cmpi .slt arg0 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg0 c2_i32_15
  let c0_i32_20 : BitVec 32 := 0#32
  let v53 : BitVec 1 := Scalar.cmpi .ne v52 c0_i32_20
  let v54 : BitVec 1 := Scalar.andi v51 v53
  let v40 : BitVec 32 := Scalar.divsi arg0 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x512 : Shape := ⟨2, ![4096, 512]⟩
abbrev S3x4096x1024 : Shape := ⟨3, ![3, 4096, 1024]⟩
abbrev S_ : Shape := ⟨0, ![]⟩
abbrev S512x1024 : Shape := ⟨2, ![512, 1024]⟩
abbrev S4096x1024 : Shape := ⟨2, ![4096, 1024]⟩
abbrev S1x4096x1024 : Shape := ⟨3, ![1, 4096, 1024]⟩
abbrev S1024x512 : Shape := ⟨2, ![1024, 512]⟩
abbrev S1536x1024 : Shape := ⟨2, ![1536, 1024]⟩
abbrev S1536x8x128 : Shape := ⟨3, ![1536, 8, 128]⟩
abbrev S8x1536x128 : Shape := ⟨3, ![8, 1536, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x4096x1024, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S3x4096x1024, .f32⟩
  | .hbm, ⟨8, _⟩ => ⟨S_, .f32⟩
  | .hbm, ⟨9, _⟩ => ⟨S512x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S4096x1024, .f32⟩
  | .hbm, ⟨19, _⟩ => ⟨S1024x512, .f32⟩
  | .hbm, ⟨20, _⟩ => ⟨S512x1024, .f32⟩
  | .hbm, ⟨21, _⟩ => ⟨S1024x512, .f32⟩
  | .hbm, ⟨22, _⟩ => ⟨S512x1024, .f32⟩
  | .hbm, ⟨23, _⟩ => ⟨S1024x512, .f32⟩
  | .hbm, ⟨24, _⟩ => ⟨S512x1024, .f32⟩
  | .hbm, ⟨25, _⟩ => ⟨S1536x1024, .f32⟩
  | .hbm, ⟨26, _⟩ => ⟨S1536x8x128, .f32⟩
  | .hbm, ⟨27, _⟩ => ⟨S8x1536x128, .f32⟩
  | .hbm, ⟨28, _⟩ => ⟨S8x1536x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel7.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S256x1024, .bf16⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference7Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S256x1024, .f32⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .hbm, ⟨3, _⟩ => ⟨S256x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.MemFrames.lean ====
module

public import proofs.«01_k».proof.Defs
public import proofs.«01_k».proof.Proof.Gen.Pre_finite
public import proofs.«01_k».proof.Proof.Gen.Kernel.Frame
public import proofs.«01_k».proof.Proof.Gen.KernelIdeal.Frame
public import proofs.«01_k».proof.Proof.Gen.ReferenceIdeal.Run

/-!
# The memory attention's gradient: frames

Each program runs to its end, leaves its arguments as they were and every semaphore counter at zero.  The kernel's frames are
the generated ones; the reference declares no semaphore, so its run alone gives its frame.
-/

@[expose] public section

namespace Cert.Mem
open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_kernelIdeal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_reference_pre : Cert.quiescent_ReferenceIdeal_pre_finite := fun m ρ _ => frame_reference m ρ trivial

end Cert.Mem
-- ==== Proof.MemMath.lean ====
module

public import Idealize.ShloMosaic.Lib.Pointwise

/-!
# The real arithmetic of the memory attention's gradient

Once every argument is a real number, each value of the kernel and of the reference is one.  This module says which: it
states the gradient over ℝ (`prob`, `dscore`, `silu`, …) and proves the scalar identities that carry the two programs'
extended-real expressions to it.  The softmax is taken with an arbitrary real shift: whichever maximum a program
subtracts, the quotient is the same.
-/

@[expose] public section

noncomputable section

open scoped BigOperators
open Idealize.ShloMosaic

namespace Cert.Mem

/-! ### Sums and maxima of real numbers inside the extended reals -/

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum whose every term is a product of two real numbers is the real sum of the products. -/
theorem sum_mul_coe {ι : Type*} (s : Finset ι) (f g : ι → ℝ) :
    (∑ i ∈ s, ((f i : ℝ) : EReal) * ((g i : ℝ) : EReal)) = ((∑ i ∈ s, f i * g i : ℝ) : EReal) := by
  rw [← coe_sum]; exact Finset.sum_congr rfl fun i _ => (EReal.coe_mul _ _).symm

/-- The maximum, from −∞, of finitely many (at least one) real numbers is a real number. -/
theorem exists_fold_max {n : ℕ} (x : Fin (n + 1) → ℝ) :
    ∃ μ : ℝ, (Finset.univ : Finset (Fin (n + 1))).fold max (⊥ : EReal) (fun i => ((x i : ℝ) : EReal)) = (μ : EReal) := by
  have key : ∀ s : Finset (Fin (n + 1)), s.Nonempty →
      ∃ μ : ℝ, s.fold max (⊥ : EReal) (fun i => ((x i : ℝ) : EReal)) = (μ : EReal) := by
    intro s hs
    induction hs using Finset.Nonempty.cons_induction with
    | singleton a => exact ⟨x a, by simp⟩
    | cons a s ha hs ih =>
      obtain ⟨μ, hμ⟩ := ih
      refine ⟨max (x a) μ, ?_⟩
      rw [Finset.fold_cons, hμ]; exact (EReal.coe_strictMono.monotone.map_max).symm
  exact key _ Finset.univ_nonempty

/-! ### The softmax of one column and its gradient -/

/-- The softmax of the scores `x`, over ℝ. -/
def prob {n : ℕ} (x : Fin n → ℝ) (i : Fin n) : ℝ := Real.exp (x i) / ∑ j, Real.exp (x j)

/-- The gradient in the scores, from the gradient `g` in the softmax `p`. -/
def dscore {n : ℕ} (p g : Fin n → ℝ) (i : Fin n) : ℝ := p i * (g i - ∑ j, p j * g j)

theorem sum_exp_pos {n : ℕ} (x : Fin (n + 1) → ℝ) : 0 < ∑ j, Real.exp (x j) :=
  Finset.sum_pos (fun j _ => Real.exp_pos _) Finset.univ_nonempty

/-- Subtracting one number from every score changes no softmax value. -/
theorem prob_shift {n : ℕ} (x : Fin (n + 1) → ℝ) (μ : ℝ) (i : Fin (n + 1)) :
    Real.exp (x i - μ) / ∑ j, Real.exp (x j - μ) = prob x i := by
  unfold prob
  simp only [Real.exp_sub, ← Finset.sum_div]
  rw [div_div_div_cancel_right₀ (Real.exp_pos μ).ne']

/-- The kernel's softmax value: the exponential times the reciprocal of the column's sum. -/
theorem kernel_prob {n : ℕ} (x : Fin (n + 1) → ℝ) (μ : ℝ) (i : Fin (n + 1)) :
    Ideal.exp (((x i : ℝ) : EReal) - μ) * Ideal.div 1 (∑ j, Ideal.exp (((x j : ℝ) : EReal) - μ)) = (prob x i : EReal) := by
  simp only [← EReal.coe_sub, Ideal.exp_coe, coe_sum]
  rw [Ideal.div_coe (sum_exp_pos _).ne', one_mul, ← EReal.coe_mul, ← prob_shift x μ i, mul_one_div]

/-- The reference's softmax value: the quotient of the exponential by the column's sum. -/
theorem ref_prob {n : ℕ} (x : Fin (n + 1) → ℝ) (μ : ℝ) (i : Fin (n + 1)) :
    Ideal.div (Ideal.exp (((x i : ℝ) : EReal) - μ)) (∑ j, Ideal.exp (((x j : ℝ) : EReal) - μ)) = (prob x i : EReal) := by
  simp only [← EReal.coe_sub, Ideal.exp_coe, coe_sum]
  rw [Ideal.div_coe (sum_exp_pos _).ne', ← EReal.coe_mul, ← prob_shift x μ i, mul_one_div]

/-- The reference's gradient in a score.  It differentiates the quotient: the numerator's part divides the incoming
    gradient by the sum, the denominator's part collects `−g·e/sum²` over the column. -/
theorem ref_dscore {n : ℕ} (x g : Fin (n + 1) → ℝ) (μ : ℝ) (i : Fin (n + 1)) :
    (Ideal.div ((g i : ℝ) : EReal) (∑ j, Ideal.exp (((x j : ℝ) : EReal) - μ))
        + -(∑ k, ((g k : ℝ) : EReal)
            * Ideal.div 1 ((∑ j, Ideal.exp (((x j : ℝ) : EReal) - μ)) * (∑ j, Ideal.exp (((x j : ℝ) : EReal) - μ)))
            * Ideal.exp (((x k : ℝ) : EReal) - μ)))
      * Ideal.exp (((x i : ℝ) : EReal) - μ) = (dscore (prob x) g i : EReal) := by
  have hS : (∑ j, Real.exp (x j - μ)) ≠ 0 := (sum_exp_pos _).ne'
  simp only [← EReal.coe_sub, Ideal.exp_coe, coe_sum]
  simp only [← EReal.coe_mul]
  rw [Ideal.div_coe (mul_ne_zero hS hS), Ideal.div_coe hS]
  simp only [one_mul, ← EReal.coe_mul, coe_sum]
  rw [← EReal.coe_neg, ← EReal.coe_add, ← EReal.coe_mul, EReal.coe_eq_coe_iff]
  unfold dscore
  simp only [← prob_shift x μ]
  generalize (∑ j, Real.exp (x j - μ)) = S at hS
  have : ∑ k, g k * (1 / (S * S)) * Real.exp (x k - μ) = (∑ k, Real.exp (x k - μ) / S * g k) * (1 / S) := by
    rw [Finset.sum_mul]; refine Finset.sum_congr rfl fun k _ => ?_
    field_simp
  rw [this]
  field_simp
  ring

/-! ### The gate -/

/-- The logistic function. -/
def logis (z : ℝ) : ℝ := 1 / (1 + Real.exp (-z))

/-- The gate's slope: `σ(z)·(1 + z·(1 − σ(z)))`. -/
def dsilu (z : ℝ) : ℝ := logis z * (1 + z * (1 - logis z))

theorem div_logis (z : ℝ) : Ideal.div 1 (1 + Ideal.exp (-((z : ℝ) : EReal))) = (logis z : EReal) := by
  rw [← EReal.coe_neg, Ideal.exp_coe, ← EReal.coe_one, ← EReal.coe_add, Ideal.div_coe (by positivity), EReal.coe_one, one_mul]
  rfl

/-! ### The gradient of one row, head by head

`K` and `V` are the memory's keys and values (256 slots, 4 heads of 128 columns), `q` one row of queries, `z` the row's
gate and `y` the gradient in the row's gated output. -/

/-- The scale of the scores: the single-precision number nearest to `128^(-1/2)`, as a fraction. -/
def scale : ℝ := 11863283 / 134217728

theorem scale_bits : Ideal.ofBits .f32 0x3DB504F3#32 = (scale : EReal) := by
  simp [Ideal.ofBits, Ideal.ieee, -EReal.coe_mul, scale]; norm_num

/-- The bits of −∞ are the least extended real. -/
theorem negInf_bits : Ideal.ofBits .f32 0xFF800000#32 = (⊥ : EReal) := by
  simp [Ideal.ofBits, Ideal.ieee]

/-- Column `d` of head `h`. -/
def col (h : Fin 4) (d : Fin 128) : Fin 512 := ⟨128 * h.val + d.val, by omega⟩

/-- The scores of one row against every memory slot of head `h`. -/
def scores (K : Fin 256 → Fin 512 → ℝ) (q : Fin 512 → ℝ) (h : Fin 4) (m : Fin 256) : ℝ :=
  (∑ d, K m (col h d) * q (col h d)) * scale

/-- The gradient in the ungated output. -/
def gradO (z y : Fin 512 → ℝ) (l : Fin 512) : ℝ := y l * (z l * logis (z l))

/-- The attention weights of the row. -/
def weights (K : Fin 256 → Fin 512 → ℝ) (q : Fin 512 → ℝ) (h : Fin 4) : Fin 256 → ℝ := prob (scores K q h)

/-- The gradient in the attention weights. -/
def gradP (V : Fin 256 → Fin 512 → ℝ) (z y : Fin 512 → ℝ) (h : Fin 4) (m : Fin 256) : ℝ :=
  ∑ d, V m (col h d) * gradO z y (col h d)

/-- The gradient in the scores. -/
def gradS (K V : Fin 256 → Fin 512 → ℝ) (q z y : Fin 512 → ℝ) (h : Fin 4) (m : Fin 256) : ℝ :=
  dscore (weights K q h) (gradP V z y h) m

/-- The gradient in the row's queries. -/
def gradQ (K V : Fin 256 → Fin 512 → ℝ) (q z y : Fin 512 → ℝ) (h : Fin 4) (l : Fin 512) : ℝ :=
  (∑ m, gradS K V q z y h m * K m l) * scale

/-- The gradient in the row's gate. -/
def gradZ (K V : Fin 256 → Fin 512 → ℝ) (q z y : Fin 512 → ℝ) (h : Fin 4) (l : Fin 512) : ℝ :=
  y l * (∑ m, weights K q h m * V m l) * dsilu (z l)

/-- The head a column of the 512 belongs to. -/
def headOf (l : Fin 512) : Fin 4 := ⟨l.val / 128, by omega⟩

theorem headOf_col (h : Fin 4) (d : Fin 128) : headOf (col h d) = h := by
  apply Fin.ext; show (128 * h.val + d.val) / 128 = h.val; omega

/-- What the rows `q r`, `z r`, `y r` (`r < n`) add to the gradient of the memory's keys and values, at slot `m` and
    column `j`: the keys' gradient in columns 0 to 511, the values' in columns 512 to 1023. -/
def gradKV {n : ℕ} (K V : Fin 256 → Fin 512 → ℝ) (q z y : Fin n → Fin 512 → ℝ) (m : Fin 256) (j : Fin 1024) : ℝ :=
  if hj : j.val < 512 then
    (∑ r, gradS K V (q r) (z r) (y r) (headOf ⟨j.val, hj⟩) m * q r ⟨j.val, hj⟩) * scale
  else
    ∑ r, weights K (q r) (headOf ⟨j.val - 512, by omega⟩) m * gradO (z r) (y r) ⟨j.val - 512, by omega⟩

theorem gradKV_key {n : ℕ} (K V : Fin 256 → Fin 512 → ℝ) (q z y : Fin n → Fin 512 → ℝ) (m : Fin 256) (j : Fin 1024) (h : Fin 4) (d : Fin 128)
    (hj : j.val = 128 * h.val + d.val) :
    gradKV K V q z y m j = (∑ r, gradS K V (q r) (z r) (y r) h m * q r (col h d)) * scale := by
  have hlt : j.val < 512 := by omega
  have e : (⟨j.val, hlt⟩ : Fin 512) = col h d := Fin.ext hj
  unfold gradKV; rw [dif_pos hlt, e, headOf_col]

theorem gradKV_val {n : ℕ} (K V : Fin 256 → Fin 512 → ℝ) (q z y : Fin n → Fin 512 → ℝ) (m : Fin 256) (j : Fin 1024) (h : Fin 4) (d : Fin 128)
    (hj : j.val = 512 + 128 * h.val + d.val) :
    gradKV K V q z y m j = ∑ r, weights K (q r) h m * gradO (z r) (y r) (col h d) := by
  have hlt : ¬ j.val < 512 := by omega
  have e : (⟨j.val - 512, by omega⟩ : Fin 512) = col h d := Fin.ext (by show j.val - 512 = 128 * h.val + d.val; omega)
  unfold gradKV; rw [dif_neg hlt, e, headOf_col]

end Cert.Mem

end
-- ==== Proof.MemHead.lean ====
module

public import proofs.«01_k».proof.Proof.Gen.KernelIdeal.Skeleton
public import proofs.«01_k».proof.Proof.MemMath
public import Idealize.ShloMosaic.Lib.Pointwise

/-!
# One head of the kernel's tile, read at an index

The body treats four heads of 128 columns with the same operations.  `headDs`, `headDq`, `headDz`, `headDk` and
`headDv` are those operations as functions of the head's own arrays; each payload of the body is one of them by
definition.  Each is read here once, on real arguments.
-/

@[expose] public section

noncomputable section

open scoped BigOperators
open Idealize.ShloMosaic Idealize.SL.Sem

namespace Cert.KernelIdeal.Gen
open Facts Cert.Mem

variable [Facts]

/-- The gradient in the scores, from the weights `p`, the values `v` and the gradient `g` in the output. -/
def headDs (p : FVec Ideal S256x512 .f32) (v : FVec Ideal S256x128 .bf16) (g : FVec Ideal S512x128 .bf16) :
    FVec Ideal S256x512 .bf16 :=
  let dp : FVec Ideal S256x512 .f32 := matmul dot_S256x128_S512x128_S256x512_1_1_0_0_n_n none v g (constant S256x512 .f32 0x00000000#32)
  let t : FVec Ideal S512 .f32 := multiReduction .add [0] S512 (mulf p dp) 0x00000000#32 reduces_S256x512_S512 (.inl rfl) rfl
  truncf .bf16 (mulf p (subf dp (broadcastTo S256x512 (shapeCast S1x512 t shapeCasts_S512_S1x512) broadcasts_S1x512_S256x512)))
    bitsLt_bf16_f32

/-- The gradient in the queries. -/
def headDq (ds : FVec Ideal S256x512 .bf16) (k : FVec Ideal S256x128 .bf16) : FVec Ideal S512x128 .bf16 :=
  truncf .bf16 (mulf (matmul dot_S256x512_S256x128_S512x128_0_0_1_1_n_n none ds k (constant S512x128 .f32 0x00000000#32))
    (broadcast S512x128 (Scalar.ofBits .f32 0x3DB504F3#32))) bitsLt_bf16_f32

/-- The gradient in the gate: `y` the incoming gradient, `s` the gate's slope. -/
def headDz (p : FVec Ideal S256x512 .bf16) (v : FVec Ideal S256x128 .bf16) (y s : FVec Ideal S512x128 .f32) :
    FVec Ideal S512x128 .bf16 :=
  truncf .bf16 (mulf (mulf y (matmul dot_S256x512_S256x128_S512x128_0_0_1_1_n_n none p v (constant S512x128 .f32 0x00000000#32))) s)
    bitsLt_bf16_f32

/-- The keys' gradient, added to what the block held. -/
def headDk (ds : FVec Ideal S256x512 .bf16) (q : FVec Ideal S512x128 .bf16) (a : FVec Ideal S256x128 .f32) :
    FVec Ideal S256x128 .f32 :=
  addf (shapeCast S256x128 a shapeCasts_S256x128_S256x128)
    (mulf (matmul dot_S256x512_S512x128_S256x128_1_0_0_1_n_n none ds q (constant S256x128 .f32 0x00000000#32))
      (broadcast S256x128 (Scalar.ofBits .f32 0x3DB504F3#32)))

/-- The values' gradient, added to what the block held. -/
def headDv (p : FVec Ideal S256x512 .bf16) (g : FVec Ideal S512x128 .bf16) (a : FVec Ideal S256x128 .f32) :
    FVec Ideal S256x128 .f32 :=
  addf (shapeCast S256x128 a shapeCasts_S256x128_S256x128)
    (matmul dot_S256x512_S512x128_S256x128_1_0_0_1_n_n none p g (constant S256x128 .f32 0x00000000#32))

theorem prob_read (q : Vec Ideal S512x128 .bf16) (k : Vec Ideal S256x128 .bf16) (a : Fin 128 → ℝ) (b : Fin 256 → Fin 128 → ℝ)
    (m : Fin 256) (r : Fin 512) (hq : ∀ d, q (ix2 r d) = ((a d : ℝ) : EReal)) (hk : ∀ m d, k (ix2 m d) = ((b m d : ℝ) : EReal)) :
    k0_pay28 q k (ix2 m r) = ((prob (fun m' => (∑ d, b m' d * a d) * scale) m : ℝ) : EReal) := by
  unfold k0_pay28
  pointwise []
  simp only [hq, hk, coe_sum, scale_bits, negInf_bits, ← EReal.coe_mul]
  obtain ⟨μ, hμ⟩ := exists_fold_max (fun m' : Fin 256 => (∑ d, b m' d * a d) * scale)
  rw [hμ]
  exact kernel_prob (fun m' : Fin 256 => (∑ d, b m' d * a d) * scale) μ m

theorem ds_read (p : FVec Ideal S256x512 .f32) (v : Vec Ideal S256x128 .bf16) (g : FVec Ideal S512x128 .bf16)
    (P : Fin 256 → ℝ) (w : Fin 256 → Fin 128 → ℝ) (γ : Fin 128 → ℝ) (m : Fin 256) (r : Fin 512)
    (hp : ∀ m, p (ix2 m r) = ((P m : ℝ) : EReal)) (hv : ∀ m d, v (ix2 m d) = ((w m d : ℝ) : EReal))
    (hg : ∀ d, g (ix2 r d) = ((γ d : ℝ) : EReal)) :
    headDs p v g (ix2 m r) = ((dscore P (fun m => ∑ d, w m d * γ d) m : ℝ) : EReal) := by
  unfold headDs
  pointwise []
  simp only [hp, hv, hg, coe_sum, ← EReal.coe_mul, ← EReal.coe_sub]
  rfl

theorem dq_read (ds : FVec Ideal S256x512 .bf16) (k : Vec Ideal S256x128 .bf16) (D b : Fin 256 → ℝ) (r : Fin 512) (d : Fin 128)
    (hd : ∀ m, ds (ix2 m r) = ((D m : ℝ) : EReal)) (hk : ∀ m, k (ix2 m d) = ((b m : ℝ) : EReal)) :
    headDq ds k (ix2 r d) = (((∑ m, D m * b m) * scale : ℝ) : EReal) := by
  unfold headDq
  pointwise []
  simp only [hd, hk, coe_sum, scale_bits, ← EReal.coe_mul]

theorem dz_read (p : FVec Ideal S256x512 .bf16) (v : Vec Ideal S256x128 .bf16) (y s : FVec Ideal S512x128 .f32)
    (P b : Fin 256 → ℝ) (y' s' : ℝ) (r : Fin 512) (d : Fin 128)
    (hp : ∀ m, p (ix2 m r) = ((P m : ℝ) : EReal)) (hv : ∀ m, v (ix2 m d) = ((b m : ℝ) : EReal))
    (hy : y (ix2 r d) = ((y' : ℝ) : EReal)) (hs : s (ix2 r d) = ((s' : ℝ) : EReal)) :
    headDz p v y s (ix2 r d) = ((y' * (∑ m, P m * b m) * s' : ℝ) : EReal) := by
  unfold headDz
  pointwise []
  simp only [hp, hv, hy, hs, coe_sum, ← EReal.coe_mul]

theorem dk_read (ds : FVec Ideal S256x512 .bf16) (q : Vec Ideal S512x128 .bf16) (a : Vec Ideal S256x128 .f32)
    (D b : Fin 512 → ℝ) (m : Fin 256) (d : Fin 128)
    (hd : ∀ r, ds (ix2 m r) = ((D r : ℝ) : EReal)) (hq : ∀ r, q (ix2 r d) = ((b r : ℝ) : EReal)) :
    headDk ds q a (ix2 m d) = a (ix2 m d) + (((∑ r, D r * b r) * scale : ℝ) : EReal) := by
  unfold headDk
  pointwise []
  simp only [hd, hq, coe_sum, scale_bits, ← EReal.coe_mul]

theorem dv_read (p : FVec Ideal S256x512 .bf16) (g : FVec Ideal S512x128 .bf16) (a : Vec Ideal S256x128 .f32)
    (P b : Fin 512 → ℝ) (m : Fin 256) (d : Fin 128)
    (hp : ∀ r, p (ix2 m r) = ((P r : ℝ) : EReal)) (hg : ∀ r, g (ix2 r d) = ((b r : ℝ) : EReal)) :
    headDv p g a (ix2 m d) = a (ix2 m d) + ((∑ r, P r * b r : ℝ) : EReal) := by
  unfold headDv
  pointwise []
  simp only [hp, hg, sum_mul_coe]

/-! ### The head's values in terms of the gradient over ℝ -/

section Head

variable {A Z Y : Fin 512 → Fin 512 → ℝ} {K V : Fin 256 → Fin 512 → ℝ} {h : Fin 4}
  {q : Vec Ideal S512x128 .bf16} {k v : Vec Ideal S256x128 .bf16} {g : FVec Ideal S512x128 .bf16}

theorem head_p (hq : ∀ r d, q (ix2 r d) = ((A r (col h d) : ℝ) : EReal)) (hk : ∀ m d, k (ix2 m d) = ((K m (col h d) : ℝ) : EReal))
    (m : Fin 256) (r : Fin 512) : k0_pay28 q k (ix2 m r) = ((weights K (A r) h m : ℝ) : EReal) :=
  prob_read q k (fun d => A r (col h d)) (fun m d => K m (col h d)) m r (hq r) hk

variable (hq : ∀ r d, q (ix2 r d) = ((A r (col h d) : ℝ) : EReal)) (hk : ∀ m d, k (ix2 m d) = ((K m (col h d) : ℝ) : EReal))
  (hv : ∀ m d, v (ix2 m d) = ((V m (col h d) : ℝ) : EReal))
  (hg : ∀ r d, g (ix2 r d) = ((gradO (Z r) (Y r) (col h d) : ℝ) : EReal))

include hq hk hv hg in
theorem head_ds (m : Fin 256) (r : Fin 512) :
    headDs (k0_pay28 q k) v g (ix2 m r) = ((gradS K V (A r) (Z r) (Y r) h m : ℝ) : EReal) :=
  ds_read _ v g (weights K (A r) h) (fun m d => V m (col h d)) (fun d => gradO (Z r) (Y r) (col h d)) m r
    (fun m => head_p hq hk m r) hv (hg r)

include hq hk hv hg in
theorem head_dq (r : Fin 512) (d : Fin 128) :
    headDq (headDs (k0_pay28 q k) v g) k (ix2 r d) = ((gradQ K V (A r) (Z r) (Y r) h (col h d) : ℝ) : EReal) :=
  dq_read _ k (gradS K V (A r) (Z r) (Y r) h) (fun m => K m (col h d)) r d (fun m => head_ds hq hk hv hg m r) (fun m => hk m d)

include hq hk hv in
theorem head_dz {y s : FVec Ideal S512x128 .f32} (r : Fin 512) (d : Fin 128)
    (hy : y (ix2 r d) = ((Y r (col h d) : ℝ) : EReal)) (hs : s (ix2 r d) = ((dsilu (Z r (col h d)) : ℝ) : EReal)) :
    headDz (k0_pay29 q k) v y s (ix2 r d) = ((gradZ K V (A r) (Z r) (Y r) h (col h d) : ℝ) : EReal) :=
  dz_read _ v y s (weights K (A r) h) (fun m => V m (col h d)) _ _ r d (fun m => head_p hq hk m r) (fun m => hv m d) hy hs

include hq hk hv hg in
theorem head_dk (a : Vec Ideal S256x128 .f32) (m : Fin 256) (d : Fin 128) :
    headDk (headDs (k0_pay28 q k) v g) q a (ix2 m d)
      = a (ix2 m d) + (((∑ r, gradS K V (A r) (Z r) (Y r) h m * A r (col h d)) * scale : ℝ) : EReal) :=
  dk_read _ q a (fun r => gradS K V (A r) (Z r) (Y r) h m) (fun r => A r (col h d)) m d (fun r => head_ds hq hk hv hg m r) (fun r => hq r d)

include hq hk hg in
theorem head_dv (a : Vec Ideal S256x128 .f32) (m : Fin 256) (d : Fin 128) :
    headDv (k0_pay29 q k) g a (ix2 m d)
      = a (ix2 m d) + ((∑ r, weights K (A r) h m * gradO (Z r) (Y r) (col h d) : ℝ) : EReal) :=
  dv_read _ g a (fun r => weights K (A r) h m) (fun r => gradO (Z r) (Y r) (col h d)) m d (fun r => head_p hq hk m r) (fun r => hg r d)

end Head

/-! ### The gate's arrays -/

theorem gate_read (z y : Vec Ideal S512x512 .bf16) (i : S512x512.Idx) (z' y' : ℝ) (hz : z i = ((z' : ℝ) : EReal)) (hy : y i = ((y' : ℝ) : EReal)) :
    k0_pay7 z y i = ((y' * (z' * logis z') : ℝ) : EReal) := by
  unfold k0_pay7 k0_pay6 k0_pay5 k0_pay4
  pointwise []
  simp only [hz, hy, zero_sub, div_logis, ← EReal.coe_mul]

theorem slope_read (z : Vec Ideal S512x512 .bf16) (i : S512x512.Idx) (z' : ℝ) (hz : z i = ((z' : ℝ) : EReal)) :
    k0_pay8 z i = ((dsilu z' : ℝ) : EReal) := by
  unfold k0_pay8 k0_pay5 k0_pay4
  pointwise []
  simp only [hz, zero_sub, div_logis]
  rw [← EReal.coe_one]
  simp only [← EReal.coe_mul, ← EReal.coe_sub, ← EReal.coe_add]
  rfl

theorem slice_read {φ : FTy} (G : FVec Ideal S512x512 φ) (o : ℕ) (hs : S512x512.Slices ![0, o] S512x128) (h : Fin 4) (ho : o = 128 * h.val)
    (r : Fin 512) (d : Fin 128) : extractStridedSlice S512x128 ![0, o] G hs (ix2 r d) = G (ix2 r (col h d)) := by
  pointwise []
  exact congrArg (fun l => G (ix2 r l)) (Fin.ext (by show o + d.val = 128 * h.val + d.val; omega))

end Cert.KernelIdeal.Gen

end
-- ==== Proof.MemTile.lean ====
module

public import proofs.«01_k».proof.Proof.Gen.KernelIdeal.Frame
public import proofs.«01_k».proof.Proof.MemHead
public import Idealize.ShloMosaic.Lib.Pipeline.ValueKit.Tiles

/-!
# What one grid point of the kernel leaves in its three output blocks

On real arguments: the queries' and the gate's gradients of the tile's 512 rows, head by head, and the keys' and
values' gradients of the tile added to what the block held (to zero at the first point).
-/

@[expose] public section

noncomputable section

open scoped BigOperators
open Idealize.ShloMosaic Idealize.SL.Sem

namespace Cert.KernelIdeal.Gen
open Cert.Mem

/-- A block read at an index, when its last store fills the 128 columns from `o`: the store's value inside them, what
    the earlier stores left outside. -/
theorem canon_cols {Val : EltTy → Type} [∀ e, Nonempty (Val e)] {R N : ℕ} {e : EltTy} (o : ℕ)
    (inb : ∀ a, (![0, o] : Fin 2 → ℕ) a + (![R, 128] : Fin 2 → ℕ) a ≤ (⟨2, ![R, N]⟩ : Shape).size a)
    (w : (⟨2, ![R, 128]⟩ : Shape).Idx → Val e) (L : List (View.Piece Val ⟨2, ![R, N]⟩ e)) (y : (⟨2, ![R, N]⟩ : Shape).Idx) (v : Val e)
    (h1 : ∀ (r : Fin R) (d : Fin 128), (y 0).val = r.val → (y 1).val = o + d.val → w (ix2 r d) = v)
    (h2 : ¬(o ≤ (y 1).val ∧ (y 1).val < o + 128) → View.canon L y = v) :
    View.canon ((⟨Rect.unit ![0, o] ![R, 128] inb, w⟩ : View.Piece Val ⟨2, ![R, N]⟩ e) :: L) y = v := by
  by_cases hm : y ∈ (Rect.unit (s := ⟨2, ![R, N]⟩) ![0, o] ![R, 128] inb).set
  · obtain ⟨x, rfl⟩ := (Rect.unit (s := ⟨2, ![R, N]⟩) ![0, o] ![R, 128] inb).exists_idx_of_mem hm
    rw [show (Rect.unit (s := ⟨2, ![R, N]⟩) ![0, o] ![R, 128] inb).idx x = (Rect.unit (s := ⟨2, ![R, N]⟩) ![0, o] ![R, 128] inb).emb x from rfl,
      View.canon_cons_emb]
    have e0 : ((Rect.unit (s := ⟨2, ![R, N]⟩) ![0, o] ![R, 128] inb).idx x 0).val = (x 0).val :=
      (Rect.idx_unit_val _ _ _ x 0).trans (Nat.zero_add _)
    have e1 : ((Rect.unit (s := ⟨2, ![R, N]⟩) ![0, o] ![R, 128] inb).idx x 1).val = o + (x 1).val := Rect.idx_unit_val _ _ _ x 1
    rw [← h1 (x 0) (x 1) e0 e1]
    refine congrArg w (funext fun a => ?_)
    match a with
    | ⟨0, _⟩ => rfl
    | ⟨1, _⟩ => rfl
  · refine (View.canon_cons_of_not_mem (⟨Rect.unit ![0, o] ![R, 128] inb, w⟩ : View.Piece Val ⟨2, ![R, N]⟩ e) L hm).trans ?_
    have hy : (y 0).val < R := (y 0).isLt
    refine h2 fun hb => hm (Rect.mem_set_unit.mpr (Fin.forall_fin_two.mpr ⟨⟨Nat.zero_le _, ?_⟩, hb⟩))
    simpa using hy

/-- A load of the 128 columns from `o` reads the block there. -/
theorem ld_cols {Val : EltTy → Type} {R N : ℕ} {e : EltTy} (X : (⟨2, ![R, N]⟩ : Shape).Idx → Val e) (o : ℕ)
    (inb : ∀ a, (![0, o] : Fin 2 → ℕ) a + (![R, 128] : Fin 2 → ℕ) a ≤ (⟨2, ![R, N]⟩ : Shape).size a) (r : Fin R) (d : Fin 128)
    (l : Fin N) (hl : l.val = o + d.val) :
    View.ld X (Rect.unit (s := ⟨2, ![R, N]⟩) ![0, o] ![R, 128] inb) (ix2 r d) = X (ix2 r l) :=
  View.ld_unit_apply_of X _ _ inb (ix2 r d) (ix2 r l) fun a => by
    match a with
    | ⟨0, _⟩ => exact (Nat.zero_add _).symm
    | ⟨1, _⟩ => exact hl

/-! ### Each head's payloads are the one head's operations -/

section Bridge

variable (q : Vec Ideal S512x128 .bf16) (k v : Vec Ideal S256x128 .bf16) (G y s : FVec Ideal S512x512 .f32) (a : Vec Ideal S256x128 .f32)

theorem dq_head0 : k0_pay16 G k v (k0_pay9 q k) (k0_pay10 q k) k0_pay11
    = headDq (headDs (k0_pay28 q k) v (truncf .bf16 (extractStridedSlice S512x128 ![0, 0] G slices_S512x512_o0_0_S512x128) bitsLt_bf16_f32)) k := rfl

theorem dq_head1 : k0_pay24 G q k v
    = headDq (headDs (k0_pay28 q k) v (truncf .bf16 (extractStridedSlice S512x128 ![0, 128] G slices_S512x512_o0_128_S512x128) bitsLt_bf16_f32)) k := rfl

theorem dq_head2 : k0_pay33 G k v (k0_pay28 q k)
    = headDq (headDs (k0_pay28 q k) v (truncf .bf16 (extractStridedSlice S512x128 ![0, 256] G slices_S512x512_o0_256_S512x128) bitsLt_bf16_f32)) k := rfl

theorem dq_head3 : k0_pay41 G q k v
    = headDq (headDs (k0_pay28 q k) v (truncf .bf16 (extractStridedSlice S512x128 ![0, 384] G slices_S512x512_o0_384_S512x128) bitsLt_bf16_f32)) k := rfl

theorem dz_head0 : k0_pay17 y s v (k0_pay9 q k) (k0_pay10 q k) k0_pay11
    = headDz (k0_pay29 q k) v (extractStridedSlice S512x128 ![0, 0] y slices_S512x512_o0_0_S512x128) (extractStridedSlice S512x128 ![0, 0] s slices_S512x512_o0_0_S512x128) := rfl

theorem dz_head1 : k0_pay25 y s q k v
    = headDz (k0_pay29 q k) v (extractStridedSlice S512x128 ![0, 128] y slices_S512x512_o0_128_S512x128) (extractStridedSlice S512x128 ![0, 128] s slices_S512x512_o0_128_S512x128) := rfl

theorem dz_head2 : k0_pay34 y s (k0_pay30 q k v)
    = headDz (k0_pay29 q k) v (extractStridedSlice S512x128 ![0, 256] y slices_S512x512_o0_256_S512x128) (extractStridedSlice S512x128 ![0, 256] s slices_S512x512_o0_256_S512x128) := rfl

theorem dz_head3 : k0_pay42 y s q k v
    = headDz (k0_pay29 q k) v (extractStridedSlice S512x128 ![0, 384] y slices_S512x512_o0_384_S512x128) (extractStridedSlice S512x128 ![0, 384] s slices_S512x512_o0_384_S512x128) := rfl

theorem dk_head0 : k0_pay18 G q v (k0_pay9 q k) (k0_pay10 q k) k0_pay11 a
    = headDk (headDs (k0_pay28 q k) v (truncf .bf16 (extractStridedSlice S512x128 ![0, 0] G slices_S512x512_o0_0_S512x128) bitsLt_bf16_f32)) q a := rfl

theorem dk_head1 : k0_pay26 q (k0_pay23 G q k v) a
    = headDk (headDs (k0_pay28 q k) v (truncf .bf16 (extractStridedSlice S512x128 ![0, 128] G slices_S512x512_o0_128_S512x128) bitsLt_bf16_f32)) q a := rfl

theorem dk_head2 : k0_pay35 G q v (k0_pay28 q k) a
    = headDk (headDs (k0_pay28 q k) v (truncf .bf16 (extractStridedSlice S512x128 ![0, 256] G slices_S512x512_o0_256_S512x128) bitsLt_bf16_f32)) q a := rfl

theorem dk_head3 : k0_pay1 q (k0_pay40 G q k v) a
    = headDk (headDs (k0_pay28 q k) v (truncf .bf16 (extractStridedSlice S512x128 ![0, 384] G slices_S512x512_o0_384_S512x128) bitsLt_bf16_f32)) q a := rfl

theorem dv_head0 : k0_pay19 G (k0_pay9 q k) (k0_pay10 q k) k0_pay11 a
    = headDv (k0_pay29 q k) (truncf .bf16 (extractStridedSlice S512x128 ![0, 0] G slices_S512x512_o0_0_S512x128) bitsLt_bf16_f32) a := rfl

theorem dv_head1 : k0_pay27 (k0_pay21 q k) (k0_pay22 G) a
    = headDv (k0_pay29 q k) (truncf .bf16 (extractStridedSlice S512x128 ![0, 128] G slices_S512x512_o0_128_S512x128) bitsLt_bf16_f32) a := rfl

theorem dv_head2 : k0_pay36 G (k0_pay29 q k) a
    = headDv (k0_pay29 q k) (truncf .bf16 (extractStridedSlice S512x128 ![0, 256] G slices_S512x512_o0_256_S512x128) bitsLt_bf16_f32) a := rfl

theorem dv_head3 : k0_pay2 (k0_pay38 q k) (k0_pay39 G) a
    = headDv (k0_pay29 q k) (truncf .bf16 (extractStridedSlice S512x128 ![0, 384] G slices_S512x512_o0_384_S512x128) bitsLt_bf16_f32) a := rfl

end Bridge

/-- A load of the 128 columns from `o`, after stores, reads what they left there. -/
theorem readCov_cols {Val : EltTy → Type} [∀ e, Nonempty (Val e)] {sig : RefSig} {κ : Kind} {sp : Space} {R N : ℕ} {e : EltTy}
    (v : View sig κ sp ⟨2, ![R, N]⟩ e) (L : List (View.Piece Val ⟨2, ![R, N]⟩ e)) (o : ℕ)
    (inb : ∀ a, (![0, o] : Fin 2 → ℕ) a + (![R, 128] : Fin 2 → ℕ) a ≤ (⟨2, ![R, N]⟩ : Shape).size a) (r : Fin R) (d : Fin 128)
    (l : Fin N) (hl : l.val = o + d.val) :
    v.readCov L (Rect.unit (s := ⟨2, ![R, N]⟩) ![0, o] ![R, 128] inb).toLoadRect (ix2 r d) = View.canon L (ix2 r l) := by
  rw [View.readCov_eq_canon']
  exact ld_cols (View.canon L) o inb r d l hl

/-- The tile's arguments are the real arrays `A` (queries), `Z` (gate), `Y` (incoming gradient), `K` and `V` (memory). -/
structure IsTile (x0 x1 x2 : Vec Ideal S512x512 .bf16) (x3 x4 : Vec Ideal S256x512 .bf16) (A Z Y : Fin 512 → Fin 512 → ℝ)
    (K V : Fin 256 → Fin 512 → ℝ) : Prop where
  q : ∀ r l, x0 (ix2 r l) = ((A r l : ℝ) : EReal)
  z : ∀ r l, x1 (ix2 r l) = ((Z r l : ℝ) : EReal)
  y : ∀ r l, x2 (ix2 r l) = ((Y r l : ℝ) : EReal)
  k : ∀ m l, x3 (ix2 m l) = ((K m l : ℝ) : EReal)
  v : ∀ m l, x4 (ix2 m l) = ((V m l : ℝ) : EReal)

section Tile

variable {x0 x1 x2 : Vec Ideal S512x512 .bf16} {x3 x4 : Vec Ideal S256x512 .bf16} {A Z Y : Fin 512 → Fin 512 → ℝ}
  {K V : Fin 256 → Fin 512 → ℝ} (T : IsTile x0 x1 x2 x3 x4 A Z Y K V)

include T

theorem IsTile.ld_q (h : Fin 4) (o : ℕ) (ho : o = 128 * h.val) (inb) (r : Fin 512) (d : Fin 128) :
    View.ld x0 (Rect.unit (s := S512x512) ![0, o] ![512, 128] inb) (ix2 r d) = ((A r (col h d) : ℝ) : EReal) := by
  rw [ld_cols (R := 512) (N := 512) x0 o inb r d (col h d) (by rw [ho]; rfl)]; exact T.q r _

theorem IsTile.ld_k (h : Fin 4) (o : ℕ) (ho : o = 128 * h.val) (inb) (m : Fin 256) (d : Fin 128) :
    View.ld x3 (Rect.unit (s := S256x512) ![0, o] ![256, 128] inb) (ix2 m d) = ((K m (col h d) : ℝ) : EReal) := by
  rw [ld_cols (R := 256) (N := 512) x3 o inb m d (col h d) (by rw [ho]; rfl)]; exact T.k m _

theorem IsTile.ld_v (h : Fin 4) (o : ℕ) (ho : o = 128 * h.val) (inb) (m : Fin 256) (d : Fin 128) :
    View.ld x4 (Rect.unit (s := S256x512) ![0, o] ![256, 128] inb) (ix2 m d) = ((V m (col h d) : ℝ) : EReal) := by
  rw [ld_cols (R := 256) (N := 512) x4 o inb m d (col h d) (by rw [ho]; rfl)]; exact T.v m _

theorem IsTile.g (h : Fin 4) (o : ℕ) (ho : o = 128 * h.val) (hs : S512x512.Slices ![0, o] S512x128) (r : Fin 512) (d : Fin 128) :
    truncf .bf16 (extractStridedSlice S512x128 ![0, o] (k0_pay7 x1 x2) hs) bitsLt_bf16_f32 (ix2 r d)
      = ((gradO (Z r) (Y r) (col h d) : ℝ) : EReal) := by
  refine (slice_read (k0_pay7 x1 x2) o hs h ho r d).trans ?_
  exact gate_read x1 x2 _ _ _ (T.z r _) (T.y r _)

theorem IsTile.ySlice (h : Fin 4) (o : ℕ) (ho : o = 128 * h.val) (hs : S512x512.Slices ![0, o] S512x128) (r : Fin 512) (d : Fin 128) :
    extractStridedSlice S512x128 ![0, o] (k0_pay6 x2) hs (ix2 r d) = ((Y r (col h d) : ℝ) : EReal) :=
  (slice_read (k0_pay6 x2) o hs h ho r d).trans (T.y r _)

theorem IsTile.sSlice (h : Fin 4) (o : ℕ) (ho : o = 128 * h.val) (hs : S512x512.Slices ![0, o] S512x128) (r : Fin 512) (d : Fin 128) :
    extractStridedSlice S512x128 ![0, o] (k0_pay8 x1) hs (ix2 r d) = ((dsilu (Z r (col h d)) : ℝ) : EReal) :=
  (slice_read (k0_pay8 x1) o hs h ho r d).trans (slope_read x1 _ _ (T.z r _))

end Tile

theorem idx_of_cols {R N : ℕ} {y : (⟨2, ![R, N]⟩ : Shape).Idx} {r : Fin R} (l : Fin N) (h0 : (y 0).val = r.val) (h1 : (y 1).val = l.val) :
    y = ix2 r l := by
  rw [eq_ix2 y]; exact congrArg₂ ix2 (Fin.ext h0) (Fin.ext h1)

/-- The tile's queries' gradient. -/
def tileQ (A Z Y : Fin 512 → Fin 512 → ℝ) (K V : Fin 256 → Fin 512 → ℝ) (r l : Fin 512) : ℝ :=
  gradQ K V (A r) (Z r) (Y r) (headOf l) l

/-- The tile's gate's gradient. -/
def tileZ (A Z Y : Fin 512 → Fin 512 → ℝ) (K V : Fin 256 → Fin 512 → ℝ) (r l : Fin 512) : ℝ :=
  gradZ K V (A r) (Z r) (Y r) (headOf l) l

theorem hz2 : (![0, 0] : Fin 2 → ℕ) = fun _ => 0 := by funext a; fin_cases a <;> rfl

/-- The first point's fill is zero everywhere. -/
theorem zero_fill (i : S256x1024.Idx) : k0_pay3 (F := Ideal) i = 0 := by
  unfold k0_pay3
  pointwise []

/-- Case A: the block of output 5. -/
theorem out_A_5 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : cond0_0 i)
    (x0 x1 x2 : Vec Ideal S512x512 .bf16) (x3 x4 : Vec Ideal S256x512 .bf16)
    (A Z Y : Fin 512 → Fin 512 → ℝ) (K V : Fin 256 → Fin 512 → ℝ) (T : IsTile x0 x1 x2 x3 x4 A Z Y K V) (r l : Fin 512) :
    out0_A_5 c i arg1 harg1 arg2 harg2 arg3 harg3 arg4 harg4 arg5 harg5 arg6 harg6 arg7 harg7 arg8 harg8 hc0 x0 x1 x2 x3 x4 (ix2 r l)
      = ((tileQ A Z Y K V r l : ℝ) : EReal) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S512x512) hz2]
  refine canon_cols (R := 512) (N := 512) 384 _ _ _ _ _ (fun r' d hr hl => ?_) fun n3 => ?_
  · obtain rfl : r = r' := Fin.ext hr
    obtain rfl : l = col 3 d := Fin.ext hl
    unfold tileQ; rw [headOf_col, dq_head3]
    exact head_dq (h := 3) (T.ld_q 3 384 rfl _) (T.ld_k 3 384 rfl _) (T.ld_v 3 384 rfl _) (T.g 3 384 rfl _) r d
  refine canon_cols (R := 512) (N := 512) 256 _ _ _ _ _ (fun r' d hr hl => ?_) fun n2 => ?_
  · obtain rfl : r = r' := Fin.ext hr
    obtain rfl : l = col 2 d := Fin.ext hl
    unfold tileQ; rw [headOf_col, dq_head2]
    exact head_dq (h := 2) (T.ld_q 2 256 rfl _) (T.ld_k 2 256 rfl _) (T.ld_v 2 256 rfl _) (T.g 2 256 rfl _) r d
  refine canon_cols (R := 512) (N := 512) 128 _ _ _ _ _ (fun r' d hr hl => ?_) fun n1 => ?_
  · obtain rfl : r = r' := Fin.ext hr
    obtain rfl : l = col 1 d := Fin.ext hl
    unfold tileQ; rw [headOf_col, dq_head1]
    exact head_dq (h := 1) (T.ld_q 1 128 rfl _) (T.ld_k 1 128 rfl _) (T.ld_v 1 128 rfl _) (T.g 1 128 rfl _) r d
  refine canon_cols (R := 512) (N := 512) 0 _ _ _ _ _ (fun r' d hr hl => ?_) fun n0 => ?_
  · obtain rfl : r = r' := Fin.ext hr
    obtain rfl : l = col 0 d := Fin.ext hl
    unfold tileQ; rw [headOf_col, dq_head0]
    exact head_dq (h := 0) (T.ld_q 0 0 rfl _) (T.ld_k 0 0 rfl _) (T.ld_v 0 0 rfl _) (T.g 0 0 rfl _) r d
  · exfalso
    have := l.isLt
    have e : ((ix2 r l : S512x512.Idx) 1).val = l.val := rfl
    rw [e] at n0 n1 n2 n3
    omega

/-- Case A: the block of output 6. -/
theorem out_A_6 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : cond0_0 i)
    (x0 x1 x2 : Vec Ideal S512x512 .bf16) (x3 x4 : Vec Ideal S256x512 .bf16)
    (A Z Y : Fin 512 → Fin 512 → ℝ) (K V : Fin 256 → Fin 512 → ℝ) (T : IsTile x0 x1 x2 x3 x4 A Z Y K V) (r l : Fin 512) :
    out0_A_6 c i arg1 harg1 arg2 harg2 arg3 harg3 arg4 harg4 arg5 harg5 arg6 harg6 arg7 harg7 arg8 harg8 hc0 x0 x1 x2 x3 x4 (ix2 r l)
      = ((tileZ A Z Y K V r l : ℝ) : EReal) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S512x512) hz2]
  refine canon_cols (R := 512) (N := 512) 384 _ _ _ _ _ (fun r' d hr hl => ?_) fun n3 => ?_
  · obtain rfl : r = r' := Fin.ext hr
    obtain rfl : l = col 3 d := Fin.ext hl
    unfold tileZ; rw [headOf_col, dz_head3]
    exact head_dz (h := 3) (T.ld_q 3 384 rfl _) (T.ld_k 3 384 rfl _) (T.ld_v 3 384 rfl _) r d (T.ySlice 3 384 rfl _ r d) (T.sSlice 3 384 rfl _ r d)
  refine canon_cols (R := 512) (N := 512) 256 _ _ _ _ _ (fun r' d hr hl => ?_) fun n2 => ?_
  · obtain rfl : r = r' := Fin.ext hr
    obtain rfl : l = col 2 d := Fin.ext hl
    unfold tileZ; rw [headOf_col, dz_head2]
    exact head_dz (h := 2) (T.ld_q 2 256 rfl _) (T.ld_k 2 256 rfl _) (T.ld_v 2 256 rfl _) r d (T.ySlice 2 256 rfl _ r d) (T.sSlice 2 256 rfl _ r d)
  refine canon_cols (R := 512) (N := 512) 128 _ _ _ _ _ (fun r' d hr hl => ?_) fun n1 => ?_
  · obtain rfl : r = r' := Fin.ext hr
    obtain rfl : l = col 1 d := Fin.ext hl
    unfold tileZ; rw [headOf_col, dz_head1]
    exact head_dz (h := 1) (T.ld_q 1 128 rfl _) (T.ld_k 1 128 rfl _) (T.ld_v 1 128 rfl _) r d (T.ySlice 1 128 rfl _ r d) (T.sSlice 1 128 rfl _ r d)
  refine canon_cols (R := 512) (N := 512) 0 _ _ _ _ _ (fun r' d hr hl => ?_) fun n0 => ?_
  · obtain rfl : r = r' := Fin.ext hr
    obtain rfl : l = col 0 d := Fin.ext hl
    unfold tileZ; rw [headOf_col, dz_head0]
    exact head_dz (h := 0) (T.ld_q 0 0 rfl _) (T.ld_k 0 0 rfl _) (T.ld_v 0 0 rfl _) r d (T.ySlice 0 0 rfl _ r d) (T.sSlice 0 0 rfl _ r d)
  · exfalso
    have := l.isLt
    have e : ((ix2 r l : S512x512.Idx) 1).val = l.val := rfl
    rw [e] at n0 n1 n2 n3
    omega

/-- Case A: the block of output 7. -/
theorem out_A_7 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : cond0_0 i)
    (x0 x1 x2 : Vec Ideal S512x512 .bf16) (x3 x4 : Vec Ideal S256x512 .bf16)
    (A Z Y : Fin 512 → Fin 512 → ℝ) (K V : Fin 256 → Fin 512 → ℝ) (T : IsTile x0 x1 x2 x3 x4 A Z Y K V) (m : Fin 256) (j : Fin 1024) :
    out0_A_7 c i arg1 harg1 arg2 harg2 arg3 harg3 arg4 harg4 arg5 harg5 arg6 harg6 arg7 harg7 arg8 harg8 hc0 x0 x1 x2 x3 x4 (ix2 m j)
      = 0 + ((gradKV K V A Z Y m j : ℝ) : EReal) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S512x512) hz2]
  refine canon_cols (R := 256) (N := 1024) 896 _ _ _ _ _ (fun m' d hr hl => ?_) fun nv3 => ?_
  · obtain rfl : m = m' := Fin.ext hr
    rw [dv_head3, gradKV_val K V A Z Y m j 3 d hl]
    refine (head_dv (h := 3) (T.ld_q 3 384 rfl _) (T.ld_k 3 384 rfl _) (T.g 3 384 rfl _) _ m d).trans (congrArg (· + _) ?_)
    refine (readCov_cols (R := 256) (N := 1024) arg8.view _ 896 _ m d j hl).trans ?_
    refine canon_cols (R := 256) (N := 1024) 384 _ _ _ _ _ (fun _ d' _ hl' => absurd (hl.symm.trans hl') (by omega)) fun _ => ?_
    refine canon_cols (R := 256) (N := 1024) 768 _ _ _ _ _ (fun _ d' _ hl' => absurd (hl.symm.trans hl') (by omega)) fun _ => ?_
    refine canon_cols (R := 256) (N := 1024) 256 _ _ _ _ _ (fun _ d' _ hl' => absurd (hl.symm.trans hl') (by omega)) fun _ => ?_
    refine canon_cols (R := 256) (N := 1024) 640 _ _ _ _ _ (fun _ d' _ hl' => absurd (hl.symm.trans hl') (by omega)) fun _ => ?_
    refine canon_cols (R := 256) (N := 1024) 128 _ _ _ _ _ (fun _ d' _ hl' => absurd (hl.symm.trans hl') (by omega)) fun _ => ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 384 _ _ _ _ _ (fun m' d hr hl => ?_) fun nk3 => ?_
  · obtain rfl : m = m' := Fin.ext hr
    rw [dk_head3, gradKV_key K V A Z Y m j 3 d hl]
    refine (head_dk (h := 3) (T.ld_q 3 384 rfl _) (T.ld_k 3 384 rfl _) (T.ld_v 3 384 rfl _) (T.g 3 384 rfl _) _ m d).trans (congrArg (· + _) ?_)
    refine (readCov_cols (R := 256) (N := 1024) arg8.view _ 384 _ m d j hl).trans ?_
    refine canon_cols (R := 256) (N := 1024) 768 _ _ _ _ _ (fun _ d' _ hl' => absurd (hl.symm.trans hl') (by omega)) fun _ => ?_
    refine canon_cols (R := 256) (N := 1024) 256 _ _ _ _ _ (fun _ d' _ hl' => absurd (hl.symm.trans hl') (by omega)) fun _ => ?_
    refine canon_cols (R := 256) (N := 1024) 640 _ _ _ _ _ (fun _ d' _ hl' => absurd (hl.symm.trans hl') (by omega)) fun _ => ?_
    refine canon_cols (R := 256) (N := 1024) 128 _ _ _ _ _ (fun _ d' _ hl' => absurd (hl.symm.trans hl') (by omega)) fun _ => ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 768 _ _ _ _ _ (fun m' d hr hl => ?_) fun nv2 => ?_
  · obtain rfl : m = m' := Fin.ext hr
    rw [dv_head2, gradKV_val K V A Z Y m j 2 d hl]
    refine (head_dv (h := 2) (T.ld_q 2 256 rfl _) (T.ld_k 2 256 rfl _) (T.g 2 256 rfl _) _ m d).trans (congrArg (· + _) ?_)
    refine (readCov_cols (R := 256) (N := 1024) arg8.view _ 768 _ m d j hl).trans ?_
    refine canon_cols (R := 256) (N := 1024) 256 _ _ _ _ _ (fun _ d' _ hl' => absurd (hl.symm.trans hl') (by omega)) fun _ => ?_
    refine canon_cols (R := 256) (N := 1024) 640 _ _ _ _ _ (fun _ d' _ hl' => absurd (hl.symm.trans hl') (by omega)) fun _ => ?_
    refine canon_cols (R := 256) (N := 1024) 128 _ _ _ _ _ (fun _ d' _ hl' => absurd (hl.symm.trans hl') (by omega)) fun _ => ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 256 _ _ _ _ _ (fun m' d hr hl => ?_) fun nk2 => ?_
  · obtain rfl : m = m' := Fin.ext hr
    rw [dk_head2, gradKV_key K V A Z Y m j 2 d hl]
    refine (head_dk (h := 2) (T.ld_q 2 256 rfl _) (T.ld_k 2 256 rfl _) (T.ld_v 2 256 rfl _) (T.g 2 256 rfl _) _ m d).trans (congrArg (· + _) ?_)
    refine (readCov_cols (R := 256) (N := 1024) arg8.view _ 256 _ m d j hl).trans ?_
    refine canon_cols (R := 256) (N := 1024) 640 _ _ _ _ _ (fun _ d' _ hl' => absurd (hl.symm.trans hl') (by omega)) fun _ => ?_
    refine canon_cols (R := 256) (N := 1024) 128 _ _ _ _ _ (fun _ d' _ hl' => absurd (hl.symm.trans hl') (by omega)) fun _ => ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 640 _ _ _ _ _ (fun m' d hr hl => ?_) fun nv1 => ?_
  · obtain rfl : m = m' := Fin.ext hr
    rw [dv_head1, gradKV_val K V A Z Y m j 1 d hl]
    refine (head_dv (h := 1) (T.ld_q 1 128 rfl _) (T.ld_k 1 128 rfl _) (T.g 1 128 rfl _) _ m d).trans (congrArg (· + _) ?_)
    refine (readCov_cols (R := 256) (N := 1024) arg8.view _ 640 _ m d j hl).trans ?_
    refine canon_cols (R := 256) (N := 1024) 128 _ _ _ _ _ (fun _ d' _ hl' => absurd (hl.symm.trans hl') (by omega)) fun _ => ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 128 _ _ _ _ _ (fun m' d hr hl => ?_) fun nk1 => ?_
  · obtain rfl : m = m' := Fin.ext hr
    rw [dk_head1, gradKV_key K V A Z Y m j 1 d hl]
    refine (head_dk (h := 1) (T.ld_q 1 128 rfl _) (T.ld_k 1 128 rfl _) (T.ld_v 1 128 rfl _) (T.g 1 128 rfl _) _ m d).trans (congrArg (· + _) ?_)
    refine (readCov_cols (R := 256) (N := 1024) arg8.view _ 128 _ m d j hl).trans ?_
    refine canon_cols (R := 256) (N := 1024) 512 _ _ _ _ _ (fun _ d' _ hl' => absurd (hl.symm.trans hl') (by omega)) fun _ => ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 512 _ _ _ _ _ (fun m' d hr hl => ?_) fun nv0 => ?_
  · obtain rfl : m = m' := Fin.ext hr
    rw [dv_head0, gradKV_val K V A Z Y m j 0 d hl]
    refine (head_dv (h := 0) (T.ld_q 0 0 rfl _) (T.ld_k 0 0 rfl _) (T.g 0 0 rfl _) _ m d).trans (congrArg (· + _) ?_)
    refine (readCov_cols (R := 256) (N := 1024) arg8.view _ 512 _ m d j hl).trans ?_
    refine canon_cols (R := 256) (N := 1024) 0 _ _ _ _ _ (fun _ d' _ hl' => absurd (hl.symm.trans hl') (by omega)) fun _ => ?_
    rw [View.canon_unit_zero (S := S256x1024) hz2]; exact zero_fill _
  refine canon_cols (R := 256) (N := 1024) 0 _ _ _ _ _ (fun m' d hr hl => ?_) fun nk0 => ?_
  · obtain rfl : m = m' := Fin.ext hr
    rw [dk_head0, gradKV_key K V A Z Y m j 0 d hl]
    refine (head_dk (h := 0) (T.ld_q 0 0 rfl _) (T.ld_k 0 0 rfl _) (T.ld_v 0 0 rfl _) (T.g 0 0 rfl _) _ m d).trans (congrArg (· + _) ?_)
    refine (readCov_cols (R := 256) (N := 1024) arg8.view _ 0 _ m d j hl).trans ?_
    rw [View.canon_unit_zero (S := S256x1024) hz2]; exact zero_fill _
  · exfalso
    have := j.isLt
    have e : ((ix2 m j : S256x1024.Idx) 1).val = j.val := rfl
    rw [e] at nk0 nk1 nk2 nk3 nv0 nv1 nv2 nv3
    omega

/-- Case B: the block of output 5. -/
theorem out_B_5 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : ¬cond0_0 i)
    (x0 x1 x2 : Vec Ideal S512x512 .bf16) (x3 x4 : Vec Ideal S256x512 .bf16) (xo7 : Vec Ideal S256x1024 .f32)
    (A Z Y : Fin 512 → Fin 512 → ℝ) (K V : Fin 256 → Fin 512 → ℝ) (T : IsTile x0 x1 x2 x3 x4 A Z Y K V) (r l : Fin 512) :
    out0_B_5 c i arg1 harg1 arg2 harg2 arg3 harg3 arg4 harg4 arg5 harg5 arg6 harg6 arg7 harg7 arg8 harg8 hc0 x0 x1 x2 x3 x4 xo7 (ix2 r l)
      = ((tileQ A Z Y K V r l : ℝ) : EReal) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg8.read_unread, View.ld_unit_zero (S := S512x512) hz2]
  refine canon_cols (R := 512) (N := 512) 384 _ _ _ _ _ (fun r' d hr hl => ?_) fun n3 => ?_
  · obtain rfl : r = r' := Fin.ext hr
    obtain rfl : l = col 3 d := Fin.ext hl
    unfold tileQ; rw [headOf_col, dq_head3]
    exact head_dq (h := 3) (T.ld_q 3 384 rfl _) (T.ld_k 3 384 rfl _) (T.ld_v 3 384 rfl _) (T.g 3 384 rfl _) r d
  refine canon_cols (R := 512) (N := 512) 256 _ _ _ _ _ (fun r' d hr hl => ?_) fun n2 => ?_
  · obtain rfl : r = r' := Fin.ext hr
    obtain rfl : l = col 2 d := Fin.ext hl
    unfold tileQ; rw [headOf_col, dq_head2]
    exact head_dq (h := 2) (T.ld_q 2 256 rfl _) (T.ld_k 2 256 rfl _) (T.ld_v 2 256 rfl _) (T.g 2 256 rfl _) r d
  refine canon_cols (R := 512) (N := 512) 128 _ _ _ _ _ (fun r' d hr hl => ?_) fun n1 => ?_
  · obtain rfl : r = r' := Fin.ext hr
    obtain rfl : l = col 1 d := Fin.ext hl
    unfold tileQ; rw [headOf_col, dq_head1]
    exact head_dq (h := 1) (T.ld_q 1 128 rfl _) (T.ld_k 1 128 rfl _) (T.ld_v 1 128 rfl _) (T.g 1 128 rfl _) r d
  refine canon_cols (R := 512) (N := 512) 0 _ _ _ _ _ (fun r' d hr hl => ?_) fun n0 => ?_
  · obtain rfl : r = r' := Fin.ext hr
    obtain rfl : l = col 0 d := Fin.ext hl
    unfold tileQ; rw [headOf_col, dq_head0]
    exact head_dq (h := 0) (T.ld_q 0 0 rfl _) (T.ld_k 0 0 rfl _) (T.ld_v 0 0 rfl _) (T.g 0 0 rfl _) r d
  · exfalso
    have := l.isLt
    have e : ((ix2 r l : S512x512.Idx) 1).val = l.val := rfl
    rw [e] at n0 n1 n2 n3
    omega

/-- Case B: the block of output 6. -/
theorem out_B_6 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : ¬cond0_0 i)
    (x0 x1 x2 : Vec Ideal S512x512 .bf16) (x3 x4 : Vec Ideal S256x512 .bf16) (xo7 : Vec Ideal S256x1024 .f32)
    (A Z Y : Fin 512 → Fin 512 → ℝ) (K V : Fin 256 → Fin 512 → ℝ) (T : IsTile x0 x1 x2 x3 x4 A Z Y K V) (r l : Fin 512) :
    out0_B_6 c i arg1 harg1 arg2 harg2 arg3 harg3 arg4 harg4 arg5 harg5 arg6 harg6 arg7 harg7 arg8 harg8 hc0 x0 x1 x2 x3 x4 xo7 (ix2 r l)
      = ((tileZ A Z Y K V r l : ℝ) : EReal) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg8.read_unread, View.ld_unit_zero (S := S512x512) hz2]
  refine canon_cols (R := 512) (N := 512) 384 _ _ _ _ _ (fun r' d hr hl => ?_) fun n3 => ?_
  · obtain rfl : r = r' := Fin.ext hr
    obtain rfl : l = col 3 d := Fin.ext hl
    unfold tileZ; rw [headOf_col, dz_head3]
    exact head_dz (h := 3) (T.ld_q 3 384 rfl _) (T.ld_k 3 384 rfl _) (T.ld_v 3 384 rfl _) r d (T.ySlice 3 384 rfl _ r d) (T.sSlice 3 384 rfl _ r d)
  refine canon_cols (R := 512) (N := 512) 256 _ _ _ _ _ (fun r' d hr hl => ?_) fun n2 => ?_
  · obtain rfl : r = r' := Fin.ext hr
    obtain rfl : l = col 2 d := Fin.ext hl
    unfold tileZ; rw [headOf_col, dz_head2]
    exact head_dz (h := 2) (T.ld_q 2 256 rfl _) (T.ld_k 2 256 rfl _) (T.ld_v 2 256 rfl _) r d (T.ySlice 2 256 rfl _ r d) (T.sSlice 2 256 rfl _ r d)
  refine canon_cols (R := 512) (N := 512) 128 _ _ _ _ _ (fun r' d hr hl => ?_) fun n1 => ?_
  · obtain rfl : r = r' := Fin.ext hr
    obtain rfl : l = col 1 d := Fin.ext hl
    unfold tileZ; rw [headOf_col, dz_head1]
    exact head_dz (h := 1) (T.ld_q 1 128 rfl _) (T.ld_k 1 128 rfl _) (T.ld_v 1 128 rfl _) r d (T.ySlice 1 128 rfl _ r d) (T.sSlice 1 128 rfl _ r d)
  refine canon_cols (R := 512) (N := 512) 0 _ _ _ _ _ (fun r' d hr hl => ?_) fun n0 => ?_
  · obtain rfl : r = r' := Fin.ext hr
    obtain rfl : l = col 0 d := Fin.ext hl
    unfold tileZ; rw [headOf_col, dz_head0]
    exact head_dz (h := 0) (T.ld_q 0 0 rfl _) (T.ld_k 0 0 rfl _) (T.ld_v 0 0 rfl _) r d (T.ySlice 0 0 rfl _ r d) (T.sSlice 0 0 rfl _ r d)
  · exfalso
    have := l.isLt
    have e : ((ix2 r l : S512x512.Idx) 1).val = l.val := rfl
    rw [e] at n0 n1 n2 n3
    omega

/-- Case B: the block of output 7. -/
theorem out_B_7 (c : Dev nD) (i : grid0.Coords) (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S256x1024 .f32) (harg8 : arg8.IsWhole)
    (hc0 : ¬cond0_0 i)
    (x0 x1 x2 : Vec Ideal S512x512 .bf16) (x3 x4 : Vec Ideal S256x512 .bf16) (xo7 : Vec Ideal S256x1024 .f32)
    (A Z Y : Fin 512 → Fin 512 → ℝ) (K V : Fin 256 → Fin 512 → ℝ) (T : IsTile x0 x1 x2 x3 x4 A Z Y K V) (m : Fin 256) (j : Fin 1024) :
    out0_B_7 c i arg1 harg1 arg2 harg2 arg3 harg3 arg4 harg4 arg5 harg5 arg6 harg6 arg7 harg7 arg8 harg8 hc0 x0 x1 x2 x3 x4 xo7 (ix2 m j)
      = xo7 (ix2 m j) + ((gradKV K V A Z Y m j : ℝ) : EReal) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo7)]
  unfold kernelRun0_B
  dsimp only
  sl_unfold_words
  simp only [View.readAt_eq_ld, harg1.read_unread, harg2.read_unread, harg3.read_unread, harg4.read_unread, harg5.read_unread, harg8.read_unread, View.ld_unit_zero (S := S512x512) hz2]
  refine canon_cols (R := 256) (N := 1024) 896 _ _ _ _ _ (fun m' d hr hl => ?_) fun nv3 => ?_
  · obtain rfl : m = m' := Fin.ext hr
    rw [dv_head3, gradKV_val K V A Z Y m j 3 d hl]
    refine (head_dv (h := 3) (T.ld_q 3 384 rfl _) (T.ld_k 3 384 rfl _) (T.g 3 384 rfl _) _ m d).trans (congrArg (· + _) ?_)
    exact ld_cols (R := 256) (N := 1024) xo7 896 _ m d j hl
  refine canon_cols (R := 256) (N := 1024) 384 _ _ _ _ _ (fun m' d hr hl => ?_) fun nk3 => ?_
  · obtain rfl : m = m' := Fin.ext hr
    rw [dk_head3, gradKV_key K V A Z Y m j 3 d hl]
    refine (head_dk (h := 3) (T.ld_q 3 384 rfl _) (T.ld_k 3 384 rfl _) (T.ld_v 3 384 rfl _) (T.g 3 384 rfl _) _ m d).trans (congrArg (· + _) ?_)
    exact ld_cols (R := 256) (N := 1024) xo7 384 _ m d j hl
  refine canon_cols (R := 256) (N := 1024) 768 _ _ _ _ _ (fun m' d hr hl => ?_) fun nv2 => ?_
  · obtain rfl : m = m' := Fin.ext hr
    rw [dv_head2, gradKV_val K V A Z Y m j 2 d hl]
    refine (head_dv (h := 2) (T.ld_q 2 256 rfl _) (T.ld_k 2 256 rfl _) (T.g 2 256 rfl _) _ m d).trans (congrArg (· + _) ?_)
    exact ld_cols (R := 256) (N := 1024) xo7 768 _ m d j hl
  refine canon_cols (R := 256) (N := 1024) 256 _ _ _ _ _ (fun m' d hr hl => ?_) fun nk2 => ?_
  · obtain rfl : m = m' := Fin.ext hr
    rw [dk_head2, gradKV_key K V A Z Y m j 2 d hl]
    refine (head_dk (h := 2) (T.ld_q 2 256 rfl _) (T.ld_k 2 256 rfl _) (T.ld_v 2 256 rfl _) (T.g 2 256 rfl _) _ m d).trans (congrArg (· + _) ?_)
    exact ld_cols (R := 256) (N := 1024) xo7 256 _ m d j hl
  refine canon_cols (R := 256) (N := 1024) 640 _ _ _ _ _ (fun m' d hr hl => ?_) fun nv1 => ?_
  · obtain rfl : m = m' := Fin.ext hr
    rw [dv_head1, gradKV_val K V A Z Y m j 1 d hl]
    refine (head_dv (h := 1) (T.ld_q 1 128 rfl _) (T.ld_k 1 128 rfl _) (T.g 1 128 rfl _) _ m d).trans (congrArg (· + _) ?_)
    exact ld_cols (R := 256) (N := 1024) xo7 640 _ m d j hl
  refine canon_cols (R := 256) (N := 1024) 128 _ _ _ _ _ (fun m' d hr hl => ?_) fun nk1 => ?_
  · obtain rfl : m = m' := Fin.ext hr
    rw [dk_head1, gradKV_key K V A Z Y m j 1 d hl]
    refine (head_dk (h := 1) (T.ld_q 1 128 rfl _) (T.ld_k 1 128 rfl _) (T.ld_v 1 128 rfl _) (T.g 1 128 rfl _) _ m d).trans (congrArg (· + _) ?_)
    exact ld_cols (R := 256) (N := 1024) xo7 128 _ m d j hl
  refine canon_cols (R := 256) (N := 1024) 512 _ _ _ _ _ (fun m' d hr hl => ?_) fun nv0 => ?_
  · obtain rfl : m = m' := Fin.ext hr
    rw [dv_head0, gradKV_val K V A Z Y m j 0 d hl]
    refine (head_dv (h := 0) (T.ld_q 0 0 rfl _) (T.ld_k 0 0 rfl _) (T.g 0 0 rfl _) _ m d).trans (congrArg (· + _) ?_)
    exact ld_cols (R := 256) (N := 1024) xo7 512 _ m d j hl
  refine canon_cols (R := 256) (N := 1024) 0 _ _ _ _ _ (fun m' d hr hl => ?_) fun nk0 => ?_
  · obtain rfl : m = m' := Fin.ext hr
    rw [dk_head0, gradKV_key K V A Z Y m j 0 d hl]
    refine (head_dk (h := 0) (T.ld_q 0 0 rfl _) (T.ld_k 0 0 rfl _) (T.ld_v 0 0 rfl _) (T.g 0 0 rfl _) _ m d).trans (congrArg (· + _) ?_)
    exact ld_cols (R := 256) (N := 1024) xo7 0 _ m d j hl
  · exfalso
    have := j.isLt
    have e : ((ix2 m j : S256x1024.Idx) 1).val = j.val := rfl
    rw [e] at nk0 nk1 nk2 nk3 nv0 nv1 nv2 nv3
    omega

end Cert.KernelIdeal.Gen

end
-- ==== Proof.MemKernel.lean ====
module

public import proofs.«01_k».proof.Proof.Gen.KernelIdeal.Value
public import proofs.«01_k».proof.Proof.MemTile
public import Idealize.ShloMosaic.Lib.Pipeline.ValueKit

/-!
# What the kernel's three result arrays end holding

On real arguments: the queries' and the gate's gradients row by row, and the memory's gradient summed over the eight
tiles of 512 rows.
-/

@[expose] public section

noncomputable section

open scoped BigOperators
open Idealize.ShloMosaic Idealize.SL.Sem

namespace Cert.KernelIdeal.Gen
open Cert.Mem

variable (m : (ℓ : Loc nD τ sig) → Buf (Elt Ideal) ℓ)

/-- The argument arrays of a device are real: `Q` (queries), `Z` (gate), `Y` (incoming gradient), and the memory's keys
    and values side by side, `K` and `V`. -/
structure IsReal (c : Dev nD) (Q Z Y : Fin 4096 → Fin 512 → ℝ) (K V : Fin 256 → Fin 512 → ℝ) : Prop where
  q : ∀ s l, m ((c.tc : Thread nD τ).loc main_arg0) (ix2 s l) = ((Q s l : ℝ) : EReal)
  z : ∀ s l, m ((c.tc : Thread nD τ).loc main_arg1) (ix2 s l) = ((Z s l : ℝ) : EReal)
  k : ∀ i (l : Fin 512) (j : Fin 1024), j.val = l.val → m ((c.tc : Thread nD τ).loc main_arg2) (ix2 i j) = ((K i l : ℝ) : EReal)
  v : ∀ i (l : Fin 512) (j : Fin 1024), j.val = 512 + l.val → m ((c.tc : Thread nD τ).loc main_arg2) (ix2 i j) = ((V i l : ℝ) : EReal)
  y : ∀ s l, m ((c.tc : Thread nD τ).loc main_arg3) (ix2 s l) = ((Y s l : ℝ) : EReal)

/-- Row `r` of tile `t`. -/
def row (t : Fin cfg0.N) (r : Fin 512) : Fin 4096 := ⟨512 * t.val + r.val, by have : t.val < 8 := t.isLt; omega⟩

/-- Where each window's block lies at point `t`, in blocks. -/
theorem idx (t : Fin cfg0.N) :
    (win0_0.index t = ![t.val, 0] ∧ win0_1.index t = ![t.val, 0] ∧ win0_2.index t = ![t.val, 0]) ∧
    (win0_3.index t = ![0, 0] ∧ win0_4.index t = ![0, 1]) ∧ (win0_5.index t = ![t.val, 0] ∧ win0_6.index t = ![t.val, 0] ∧ win0_7.index t = ![0, 0]) := by
  revert t; decide +kernel

/-- The blocks of a point, on real arguments: 512 rows of queries, gate and incoming gradient, and the whole memory. -/
theorem isTile {c : Dev nD} {Q Z Y : Fin 4096 → Fin 512 → ℝ} {K V : Fin 256 → Fin 512 → ℝ} (R : IsReal m c Q Z Y K V) (t : Fin cfg0.N) :
    IsTile (iblk m c 0 t) (iblk m c 1 t) (iblk m c 2 t) (iblk m c 3 t) (iblk m c 4 t)
      (fun r => Q (row t r)) (fun r => Z (row t r)) (fun r => Y (row t r)) K V := by
  have I := idx t
  have e0 := I.1.1; have e1 := I.1.2.1; have e2 := I.1.2.2; have e3 := I.2.1.1; have e4 := I.2.1.2
  refine ⟨fun r l => ?_, fun r l => ?_, fun r l => ?_, fun r l => ?_, fun r l => ?_⟩
  · refine Eq.trans ?_ (R.q (row t r) l)
    unfold iblk
    rw [View.read_apply]
    show m _ _ = m _ _
    congr 1
    blk_ext [e0, row]
  · refine Eq.trans ?_ (R.z (row t r) l)
    unfold iblk
    rw [View.read_apply]
    show m _ _ = m _ _
    congr 1
    blk_ext [e1, row]
  · refine Eq.trans ?_ (R.y (row t r) l)
    unfold iblk
    rw [View.read_apply]
    show m _ _ = m _ _
    congr 1
    blk_ext [e2, row]
  · refine Eq.trans ?_ (R.k r l ⟨l.val, by omega⟩ rfl)
    unfold iblk
    rw [View.read_apply]
    show m _ _ = m _ _
    congr 1
    blk_ext [e3]
  · refine Eq.trans ?_ (R.v r l ⟨512 + l.val, by omega⟩ rfl)
    unfold iblk
    rw [View.read_apply]
    show m _ _ = m _ _
    congr 1
    blk_ext [e4]

/-- What every point leaves in the three output blocks, on real arguments. -/
theorem outs5 {c : Dev nD} {Q Z Y : Fin 4096 → Fin 512 → ℝ} {K V : Fin 256 → Fin 512 → ℝ} (R : IsReal m c Q Z Y K V) (t : Fin cfg0.N) (r l : Fin 512) :
    (outsAt0 m c t.val t.isLt).1 (ix2 r l) = ((gradQ K V (Q (row t r)) (Z (row t r)) (Y (row t r)) (headOf l) l : ℝ) : EReal) := by
  by_cases h : t.val % 8 = 0
  · rw [outsAt0_A m c t h]
    dsimp only
    exact out_A_5 c _ _ _ _ _ _ _ _ _ _ _ _ _ _ _ _ _ _ _ _ _ _ _ _ _ _ _ _ (isTile m R t) r l
  · rw [outsAt0_B m c t h]
    dsimp only
    exact out_B_5 c _ _ _ _ _ _ _ _ _ _ _ _ _ _ _ _ _ _ _ _ _ _ _ _ _ _ _ _ _ (isTile m R t) r l

theorem outs6 {c : Dev nD} {Q Z Y : Fin 4096 → Fin 512 → ℝ} {K V : Fin 256 → Fin 512 → ℝ} (R : IsReal m c Q Z Y K V) (t : Fin cfg0.N) (r l : Fin 512) :
    (outsAt0 m c t.val t.isLt).2.1 (ix2 r l) = ((gradZ K V (Q (row t r)) (Z (row t r)) (Y (row t r)) (headOf l) l : ℝ) : EReal) := by
  by_cases h : t.val % 8 = 0
  · rw [outsAt0_A m c t h]
    dsimp only
    exact out_A_6 c _ _ _ _ _ _ _ _ _ _ _ _ _ _ _ _ _ _ _ _ _ _ _ _ _ _ _ _ (isTile m R t) r l
  · rw [outsAt0_B m c t h]
    dsimp only
    exact out_B_6 c _ _ _ _ _ _ _ _ _ _ _ _ _ _ _ _ _ _ _ _ _ _ _ _ _ _ _ _ _ (isTile m R t) r l

/-- What tile `t` adds to the memory's gradient. -/
def tileKV (Q Z Y : Fin 4096 → Fin 512 → ℝ) (K V : Fin 256 → Fin 512 → ℝ) (t : Fin cfg0.N) (i : Fin 256) (j : Fin 1024) : ℝ :=
  gradKV K V (fun r => Q (row t r)) (fun r => Z (row t r)) (fun r => Y (row t r)) i j

/-- The tiles' contributions add up to that of all rows. -/
theorem sum_tileKV (Q Z Y : Fin 4096 → Fin 512 → ℝ) (K V : Fin 256 → Fin 512 → ℝ) (i : Fin 256) (j : Fin 1024) :
    ∑ t : Fin cfg0.N, tileKV Q Z Y K V t i j = gradKV K V Q Z Y i j := by
  have split : ∀ f : Fin 4096 → ℝ, ∑ t : Fin cfg0.N, ∑ r : Fin 512, f (row t r) = ∑ s, f s := by
    intro f
    show ∑ t : Fin 8, ∑ r : Fin 512, f (row t r) = ∑ s, f s
    rw [← Fintype.sum_prod_type', ← (finProdFinEquiv (m := 8) (n := 512)).sum_comp]
    refine Finset.sum_congr rfl fun p _ => congrArg f (Fin.ext ?_)
    show 512 * p.1.val + p.2.val = p.2.val + 512 * p.1.val
    omega
  unfold tileKV gradKV
  split_ifs with h
  · rw [← split, Finset.sum_mul]
  · rw [← split]

/-- The accumulated block after the last point. -/
theorem outs7 {c : Dev nD} {Q Z Y : Fin 4096 → Fin 512 → ℝ} {K V : Fin 256 → Fin 512 → ℝ} (R : IsReal m c Q Z Y K V) (i : Fin 256) (j : Fin 1024) :
    (outsAt0 m c t0_7.val t0_7.isLt).2.2 (ix2 i j) = ((gradKV K V Q Z Y i j : ℝ) : EReal) := by
  rw [← sum_tileKV, ← coe_sum]
  have H := Pipeline.eq_sum_fin_of_reset_step_apply_last (N := cfg0.N) (fun n h (x : Fin 256 × Fin 1024) => (outsAt0 m c n h).2.2 (ix2 x.1 x.2)) 8
    (fun _ => (0 : EReal)) (fun t x => ((tileKV Q Z Y K V t x.1 x.2 : ℝ) : EReal))
    (fun t h x => by
      rw [outsAt0_A m c t h]
      dsimp only
      exact out_A_7 c _ _ _ _ _ _ _ _ _ _ _ _ _ _ _ _ _ _ _ _ _ _ _ _ _ _ _ _ (isTile m R t) x.1 x.2)
    (fun t h x => by
      rw [outsAt0_B m c t h]
      dsimp only
      exact out_B_7 c _ _ _ _ _ _ _ _ _ _ _ _ _ _ _ _ _ _ _ _ _ _ _ _ _ _ _ _ _ (isTile m R t) x.1 x.2)
    (le_of_eq N_0) t0_7 rfl (i, j)
  dsimp only at H
  rw [H, zero_add]

/-- The three result arrays, on real arguments. -/
theorem final5 {c : Dev nD} {Q Z Y : Fin 4096 → Fin 512 → ℝ} {K V : Fin 256 → Fin 512 → ℝ} (R : IsReal m c Q Z Y K V) :
    (dats m 0 c).arrAt 5 cfg0.N
      = fun x : S4096x512.Idx => ((gradQ K V (Q (x 0)) (Z (x 0)) (Y (x 0)) (headOf (x 1)) (x 1) : ℝ) : EReal) := by
  refine (dats m 0 c).arrAt_eq_of_covers 5 _ (by decide +kernel) fun t _ y => ?_
  have e := (idx t).2.2.1
  blk_simp
  rw [after0_5]
  have hy : y = ix2 (y 0 : Fin 512) (y 1 : Fin 512) := eq_ix2 y
  have h0 : (win0_5.blk t).view.emb y 0 = row t (y 0) := Fin.ext (by blk_simp [e]; show t.val * 512 + (y 0).val = 512 * t.val + (y 0).val; omega)
  have h1 : (win0_5.blk t).view.emb y 1 = (y 1 : Fin 512) := Fin.ext (by blk_simp [e])
  rw [h0, h1, hy]
  exact outs5 m R t (y 0) (y 1)

theorem final6 {c : Dev nD} {Q Z Y : Fin 4096 → Fin 512 → ℝ} {K V : Fin 256 → Fin 512 → ℝ} (R : IsReal m c Q Z Y K V) :
    (dats m 0 c).arrAt 6 cfg0.N
      = fun x : S4096x512.Idx => ((gradZ K V (Q (x 0)) (Z (x 0)) (Y (x 0)) (headOf (x 1)) (x 1) : ℝ) : EReal) := by
  refine (dats m 0 c).arrAt_eq_of_covers 6 _ (by decide +kernel) fun t _ y => ?_
  have e := (idx t).2.2.2.1
  blk_simp
  rw [after0_6]
  have hy : y = ix2 (y 0 : Fin 512) (y 1 : Fin 512) := eq_ix2 y
  have h0 : (win0_6.blk t).view.emb y 0 = row t (y 0) := Fin.ext (by blk_simp [e]; show t.val * 512 + (y 0).val = 512 * t.val + (y 0).val; omega)
  have h1 : (win0_6.blk t).view.emb y 1 = (y 1 : Fin 512) := Fin.ext (by blk_simp [e])
  rw [h0, h1, hy]
  exact outs6 m R t (y 0) (y 1)

theorem final7 {c : Dev nD} {Q Z Y : Fin 4096 → Fin 512 → ℝ} {K V : Fin 256 → Fin 512 → ℝ} (R : IsReal m c Q Z Y K V) :
    (dats m 0 c).arrAt 7 cfg0.N = fun x : S256x1024.Idx => ((gradKV K V Q Z Y (x 0) (x 1) : ℝ) : EReal) := by
  refine (dats m 0 c).arrAt_eq_of_after_last 7 t0_7 (by decide +kernel) _ fun j => ?_
  rw [after0_7]
  have hy : (fun a => ⟨j a, (show (cfg0.win 7).WholeAt t0_7 by decide +kernel).lt_size j a⟩ : ((cfg0.win 7).block).Idx) = ix2 (j 0 : Fin 256) (j 1 : Fin 1024) :=
    eq_ix2 _
  refine Eq.trans (congrArg (outsAt0 m c t0_7.val t0_7.isLt).2.2 hy) ?_
  exact outs7 m R (j 0) (j 1)

end Cert.KernelIdeal.Gen

end
-- ==== Proof.MemReference.lean ====
module

public import proofs.«01_k».proof.Proof.Gen.ReferenceIdeal.Read
public import proofs.«01_k».proof.Proof.MemMath
public import Idealize.ShloMosaic.Lib.Pointwise
public import Idealize.ShloMosaic.Lib.Pipeline.ValueKit

/-!
# What the reference computes on real arguments

The reference is the derivative of the memory attention's forward pass, operation by operation.  Each operation that
reaches a result is read here at an index, as the real number it holds.
-/

@[expose] public section

noncomputable section

open scoped BigOperators
open Idealize.ShloMosaic Idealize.SL.Sem

namespace Cert.ReferenceIdeal.Read
open Cert.ReferenceIdeal Cert.ReferenceIdeal.Gen Cert.Mem

variable [Facts]

/-- The argument arrays are real: `Q` (queries), `Z` (gate), `Y` (incoming gradient), and the memory's keys and values
    side by side, `K` and `V`. -/
structure AreReal (x0 x1 : Vec Ideal S4096x512 .bf16) (x2 : Vec Ideal S256x1024 .bf16) (x3 : Vec Ideal S4096x512 .bf16)
    (Q Z Y : Fin 4096 → Fin 512 → ℝ) (K V : Fin 256 → Fin 512 → ℝ) : Prop where
  q : ∀ s l, x0 (ix2 s l) = ((Q s l : ℝ) : EReal)
  z : ∀ s l, x1 (ix2 s l) = ((Z s l : ℝ) : EReal)
  k : ∀ i (l : Fin 512) (j : Fin 1024), j.val = l.val → x2 (ix2 i j) = ((K i l : ℝ) : EReal)
  v : ∀ i (l : Fin 512) (j : Fin 1024), j.val = 512 + l.val → x2 (ix2 i j) = ((V i l : ℝ) : EReal)
  y : ∀ s l, x3 (ix2 s l) = ((Y s l : ℝ) : EReal)

/-- The column's place within its head. -/
def lane (l : Fin 512) : Fin 128 := ⟨l.val % 128, by omega⟩

theorem col_lane (l : Fin 512) : col (headOf l) (lane l) = l := by
  apply Fin.ext; show 128 * (l.val / 128) + l.val % 128 = l.val; omega

section Stages

variable {x0 x1 x3 : Vec Ideal S4096x512 .bf16} {x2 : Vec Ideal S256x1024 .bf16}
  {Q Z Y : Fin 4096 → Fin 512 → ℝ} {K V : Fin 256 → Fin 512 → ℝ} (R : AreReal x0 x1 x2 x3 Q Z Y K V)

include R

theorem queries (i : S1x4096x4x128.Idx) : val_main_v10 (F := Ideal) x0 i = ((Q (i 1) (col (i 2) (i 3)) : ℝ) : EReal) := by
  rw [val_main_v10_apply, val_main_v1_apply]
  refine Eq.trans ?_ (R.q _ _)
  show x0 _ = x0 _
  congr 1
  blk_ext [idx_main_v1, idx_main_v10, col]

theorem keys (i : S1x256x4x128.Idx) : val_main_v11 (F := Ideal) x2 i = ((K (i 1) (col (i 2) (i 3)) : ℝ) : EReal) := by
  rw [val_main_v11_apply, val_main_v8_apply, val_main_v5_apply]
  refine Eq.trans ?_ (R.k (i 1) (col (i 2) (i 3)) ⟨(col (i 2) (i 3)).val, by have := (col (i 2) (i 3)).isLt; omega⟩ rfl)
  show x2 _ = x2 _
  congr 1
  blk_ext [idx_main_v5, idx_main_v8, idx_main_v11, col]

theorem values (i : S1x256x4x128.Idx) : val_main_v12 (F := Ideal) x2 i = ((V (i 1) (col (i 2) (i 3)) : ℝ) : EReal) := by
  rw [val_main_v12_apply, val_main_v9_apply, val_main_v5_apply]
  refine Eq.trans ?_ (R.v (i 1) (col (i 2) (i 3)) ⟨512 + (col (i 2) (i 3)).val, by have := (col (i 2) (i 3)).isLt; omega⟩ rfl)
  show x2 _ = x2 _
  congr 1
  blk_ext [idx_main_v5, idx_main_v9, idx_main_v12, col]

theorem gate (i : S1x4096x512.Idx) : val_main_v3 (F := Ideal) x1 i = ((Z (i 1) (i 2) : ℝ) : EReal) := by
  rw [val_main_v3_apply]
  refine Eq.trans ?_ (R.z _ _)
  show x1 _ = x1 _
  congr 1
  blk_ext [idx_main_v3]

theorem incoming (i : S1x4096x512.Idx) : val_main_v7 (F := Ideal) x3 i = ((Y (i 1) (i 2) : ℝ) : EReal) := by
  rw [val_main_v7_apply]
  refine Eq.trans ?_ (R.y _ _)
  show x3 _ = x3 _
  congr 1
  blk_ext [idx_main_v7]

theorem score (i : S1x4x4096x256.Idx) : val_main_v15 (F := Ideal) x0 x2 i = ((scores K (Q (i 2)) (i 1) (i 3) : ℝ) : EReal) := by
  rw [val_main_v15_apply, val_main_v13_apply, val_main_v14_apply, val_main_cst_apply]
  simp only [queries R, keys R]
  show (∑ k : Fin 128, _) * Ideal.ofBits .f32 0x3DB504F3#32 = _
  rw [scale_bits, sum_mul_coe, ← EReal.coe_mul]
  refine congrArg (fun e : ℝ => ((e * scale : ℝ) : EReal)) (Finset.sum_congr rfl fun k _ => ?_)
  exact mul_comm _ _

/-- Every row's greatest score is a real number. -/
theorem greatest : ∃ μ : Fin 4 → Fin 4096 → ℝ, ∀ i : S1x4x4096.Idx, val_main_v23 (F := Ideal) x0 x2 i = ((μ (i 1) (i 2) : ℝ) : EReal) := by
  choose μ hμ using fun (h : Fin 4) (s : Fin 4096) => exists_fold_max (n := 255) (fun k : Fin 256 => scores K (Q s) h k)
  refine ⟨μ, fun i => ?_⟩
  rw [val_main_v23_apply, val_main_v22_apply]
  have e : val_main_v16 (F := Ideal) x0 x2 i = ((μ (i 1) (i 2) : ℝ) : EReal) := by
    refine Eq.trans ?_ (hμ (i 1) (i 2))
    unfold val_main_v16
    have hs : val_main_v15 (F := Ideal) x0 x2 = fun i => ((scores K (Q (i 2)) (i 1) (i 3) : ℝ) : EReal) := funext (score R)
    rw [hs]
    unfold val_main_cst_0
    pointwise
    rw [negInf_bits]
  rw [e]
  show max (Ideal.ofBits .f32 0xFF800000#32) _ = _
  rw [negInf_bits]
  exact max_eq_right bot_le

section Shifted

variable {μ : Fin 4 → Fin 4096 → ℝ} (hμ : ∀ i : S1x4x4096.Idx, val_main_v23 (F := Ideal) x0 x2 i = ((μ (i 1) (i 2) : ℝ) : EReal))

include hμ

theorem expo (i : S1x4x4096x256.Idx) :
    val_main_v36 (F := Ideal) x0 x2 i = Ideal.exp (((scores K (Q (i 2)) (i 1) (i 3) : ℝ) : EReal) - ((μ (i 1) (i 2) : ℝ) : EReal)) := by
  rw [val_main_v36_apply, val_main_v35_apply, score R, val_main_v34_apply, val_main_v33_apply, hμ]
  rfl

theorem total (i : S1x4x4096.Idx) :
    val_main_v37 (F := Ideal) x0 x2 i
      = ∑ k : Fin 256, Ideal.exp (((scores K (Q (i 2)) (i 1) k : ℝ) : EReal) - ((μ (i 1) (i 2) : ℝ) : EReal)) := by
  rw [val_main_v37_apply, val_main_cst_8_apply]
  simp only [expo R hμ]
  show Ideal.ofBits .f32 0x00000000#32 + _ = _
  rw [Ideal.ofBits_zero]
  exact zero_add _

theorem weight (i : S1x4x4096x256.Idx) : val_main_v40 (F := Ideal) x0 x2 i = ((weights K (Q (i 2)) (i 1) (i 3) : ℝ) : EReal) := by
  rw [val_main_v40_apply, expo R hμ, val_main_v39_apply, val_main_v38_apply, total R hμ]
  exact ref_prob (n := 255) (scores K (Q (i 2)) (i 1)) (μ (i 1) (i 2)) (i 3)

theorem output_head (i : S1x4x128x4096.Idx) :
    val_main_v44 (F := Ideal) x0 x2 i = ((∑ m, weights K (Q (i 3)) (i 1) m * V m (col (i 1) (i 2)) : ℝ) : EReal) := by
  rw [val_main_v44_apply]
  simp only [weight R hμ, values R]
  rw [sum_mul_coe]
  exact congrArg (fun e : ℝ => (e : EReal)) (Finset.sum_congr rfl fun m _ => mul_comm _ _)

theorem output (i : S1x4096x512.Idx) :
    val_main_v46 (F := Ideal) x0 x2 i = ((∑ m, weights K (Q (i 1)) (headOf (i 2)) m * V m (i 2) : ℝ) : EReal) := by
  have e : idx_main_v46 i = ix4 (0 : Fin 1) (i 1 : Fin 4096) (headOf (i 2)) (lane (i 2)) := by blk_ext [idx_main_v46, headOf, lane]
  rw [val_main_v46_apply, val_main_v45_apply, output_head R hμ, e]
  refine congrArg (fun e : ℝ => (e : EReal)) (Finset.sum_congr rfl fun m _ => ?_)
  exact congrArg (fun l => weights K (Q (i 1)) (headOf (i 2)) m * V m l) (col_lane (i 2))

/-- The gradient in the values, head by head: the sum over the rows. -/
theorem grad_value_head (i : S1x4x128x256.Idx) (hg : ∀ i : S1x4x128x4096.Idx, val_main_v53 (F := Ideal) x1 x3 i = ((gradO (Z (i 3)) (Y (i 3)) (col (i 1) (i 2)) : ℝ) : EReal)) :
    val_main_v55 (F := Ideal) x0 x1 x2 x3 i
      = ((∑ s, weights K (Q s) (i 1) (i 3) * gradO (Z s) (Y s) (col (i 1) (i 2)) : ℝ) : EReal) := by
  rw [val_main_v55_apply]
  simp only [weight R hμ, hg]
  rw [sum_mul_coe]
  exact congrArg (fun e : ℝ => (e : EReal)) (Finset.sum_congr rfl fun m _ => mul_comm _ _)

end Shifted

/-! ### The gate -/

theorem sigmoid (i : S1x4096x512.Idx) : val_main_v47_2 (F := Ideal) x1 i = ((logis (Z (i 1) (i 2)) : ℝ) : EReal) := by
  rw [val_main_v47_2_apply, val_main_call0_v4_apply, val_main_call0_cst_0_apply, val_main_call0_v3_apply, val_main_call0_v2_apply,
    val_main_call0_cst_apply, val_main_call0_v1_apply, val_main_call0_v0_apply, gate R]
  show Ideal.div (Ideal.ofBits .f32 0x3F800000#32) (Ideal.ofBits .f32 0x3F800000#32 + Ideal.exp (-((Z (i 1) (i 2) : ℝ) : EReal))) = _
  rw [Ideal.ofBits_one_f32]
  exact div_logis _

theorem silu (i : S1x4096x512.Idx) : val_main_v47_0 (F := Ideal) x1 i = ((Z (i 1) (i 2) * logis (Z (i 1) (i 2)) : ℝ) : EReal) := by
  rw [val_main_v47_0_apply, gate R, sigmoid R]
  exact (EReal.coe_mul _ _).symm

theorem sigmoid_slope (i : S1x4096x512.Idx) :
    val_main_v47_1 (F := Ideal) x1 i = ((logis (Z (i 1) (i 2)) * (1 - logis (Z (i 1) (i 2))) : ℝ) : EReal) := by
  rw [val_main_v47_1_apply, val_main_call0_v7_apply, val_main_call0_v6_apply, val_main_call0_cst_1_apply, sigmoid R]
  show _ * (Ideal.ofBits .f32 0x3F800000#32 - _) = _
  rw [Ideal.ofBits_one_f32, EReal.coe_mul, EReal.coe_sub]
  rfl

theorem grad_output (i : S1x4096x512.Idx) : val_main_v50 (F := Ideal) x1 x3 i = ((gradO (Z (i 1)) (Y (i 1)) (i 2) : ℝ) : EReal) := by
  rw [val_main_v50_apply, incoming R, silu R]
  exact (EReal.coe_mul _ _).symm

theorem grad_output_head (i : S1x4x128x4096.Idx) :
    val_main_v53 (F := Ideal) x1 x3 i = ((gradO (Z (i 3)) (Y (i 3)) (col (i 1) (i 2)) : ℝ) : EReal) := by
  have e : idx_main_v52 (idx_main_v53 i) = ix3 (0 : Fin 1) (i 3 : Fin 4096) (col (i 1) (i 2)) := by
    blk_ext [idx_main_v52, idx_main_v53, col]
  rw [val_main_v53_apply, val_main_v52_apply, grad_output R, e]
  rfl

theorem grad_prob (i : S1x4x4096x256.Idx) :
    val_main_v54 (F := Ideal) x1 x2 x3 i = ((gradP V (Z (i 2)) (Y (i 2)) (i 1) (i 3) : ℝ) : EReal) := by
  rw [val_main_v54_apply]
  simp only [grad_output_head R, values R]
  rw [sum_mul_coe]
  exact congrArg (fun e : ℝ => (e : EReal)) (Finset.sum_congr rfl fun m _ => mul_comm _ _)

/-! ### The gradient in the scores, and what follows from it -/

section Shifted

variable {μ : Fin 4 → Fin 4096 → ℝ} (hμ : ∀ i : S1x4x4096.Idx, val_main_v23 (F := Ideal) x0 x2 i = ((μ (i 1) (i 2) : ℝ) : EReal))

include hμ

theorem grad_gate (i : S1x4096x512.Idx) :
    val_main_v51 (F := Ideal) x0 x1 x2 x3 i = ((gradZ K V (Q (i 1)) (Z (i 1)) (Y (i 1)) (headOf (i 2)) (i 2) : ℝ) : EReal) := by
  rw [val_main_v51_apply, val_main_call1_v1_apply, val_main_call1_v2_apply, val_main_call1_v0_apply, val_main_v49_apply,
    output R hμ, incoming R, gate R, sigmoid R, sigmoid_slope R]
  generalize hO : (∑ m, weights K (Q (i 1)) (headOf (i 2)) m * V m (i 2)) = O
  show ((O : ℝ) : EReal) * _ * _ + _ * (((O : ℝ) : EReal) * _) * _ = _
  simp only [← EReal.coe_mul, ← EReal.coe_add]
  refine congrArg (fun e : ℝ => (e : EReal)) ?_
  unfold gradZ dsilu
  rw [hO]
  ring

/-- The part of a score's gradient that the row's sum carries, before it is spread over the row. -/
theorem spread (i : S1x4x4096x256.Idx) :
    val_main_v67 (F := Ideal) x0 x1 x2 x3 i
      = -(∑ k : Fin 256, ((gradP V (Z (i 2)) (Y (i 2)) (i 1) k : ℝ) : EReal)
            * Ideal.div 1 ((∑ j : Fin 256, Ideal.exp (((scores K (Q (i 2)) (i 1) j : ℝ) : EReal) - ((μ (i 1) (i 2) : ℝ) : EReal)))
                * (∑ j : Fin 256, Ideal.exp (((scores K (Q (i 2)) (i 1) j : ℝ) : EReal) - ((μ (i 1) (i 2) : ℝ) : EReal))))
            * Ideal.exp (((scores K (Q (i 2)) (i 1) k : ℝ) : EReal) - ((μ (i 1) (i 2) : ℝ) : EReal))) := by
  have h62 : ∀ i : S1x4x4096x1.Idx, val_main_v62 (F := Ideal) x0 x1 x2 x3 i
      = -(∑ k : Fin 256, ((gradP V (Z (i 2)) (Y (i 2)) (i 1) k : ℝ) : EReal)
            * Ideal.div 1 ((∑ j : Fin 256, Ideal.exp (((scores K (Q (i 2)) (i 1) j : ℝ) : EReal) - ((μ (i 1) (i 2) : ℝ) : EReal)))
                * (∑ j : Fin 256, Ideal.exp (((scores K (Q (i 2)) (i 1) j : ℝ) : EReal) - ((μ (i 1) (i 2) : ℝ) : EReal))))
            * Ideal.exp (((scores K (Q (i 2)) (i 1) k : ℝ) : EReal) - ((μ (i 1) (i 2) : ℝ) : EReal))) := by
    intro i
    have e : idx_main_v61 i = ix3 (0 : Fin 1) (i 1 : Fin 4) (i 2 : Fin 4096) := by blk_ext [idx_main_v61]
    rw [val_main_v62_apply, val_main_v61_apply, val_main_v60_apply, val_main_cst_10_apply, e]
    simp only [val_main_v59_apply, val_main_v58_apply, val_main_v57_apply, val_main_v43_apply, val_main_v42_apply, val_main_cst_9_apply,
      val_main_v41_apply, val_main_v38_apply, grad_prob R, expo R hμ, total R hμ]
    show -(Ideal.ofBits .f32 0x00000000#32 + ∑ k : Fin 256, _ * Ideal.div (Ideal.ofBits .f32 0x3F800000#32) _ * _) = _
    rw [Ideal.ofBits_zero, Ideal.ofBits_one_f32, zero_add]
    rfl
  rw [val_main_v67_apply, val_main_v66_apply]
  have j0 : (idx_main_v66 (idx_main_v67 i) 0).val = (i 1).val := rfl
  have j1 : (idx_main_v66 (idx_main_v67 i) 1).val = (i 2).val := rfl
  generalize idx_main_v66 (idx_main_v67 i) = j at j0 j1 ⊢
  refine Eq.trans ?_ (h62 (ix4 (0 : Fin 1) (i 1 : Fin 4) (i 2 : Fin 4096) (0 : Fin 1)))
  unfold val_main_v65
  generalize val_main_v62 (F := Ideal) x0 x1 x2 x3 = w
  show Ideal.hostReduceAdd reducesTo_S1x4x4096x1_S4x4096_d0_3 w (Ideal.ofBits .f32 0x00000000#32) _ = _
  unfold Ideal.hostReduceAdd
  rw [Ideal.ofBits_zero, zero_add]
  refine Finset.sum_eq_single _ (fun b hb hne => absurd ?_ hne) (fun h => absurd (Finset.mem_filter.mpr ⟨Finset.mem_univ _, ?_⟩) h)
  · have h := (Finset.mem_filter.mp hb).2
    have h0 : (b 1).val = (j 0).val := congrArg Fin.val (congrFun h 0)
    have h1 : (b 2).val = (j 1).val := congrArg Fin.val (congrFun h 1)
    blk_ext [h0, h1, j0, j1]
  · funext a
    apply Fin.ext
    fin_cases a
    · exact j0.symm
    · exact j1.symm

theorem grad_score (i : S1x4x4096x256.Idx) :
    val_main_v71 (F := Ideal) x0 x1 x2 x3 i = ((gradS K V (Q (i 2)) (Z (i 2)) (Y (i 2)) (i 1) (i 3) * scale : ℝ) : EReal) := by
  have e : val_main_v69 (F := Ideal) x0 x1 x2 x3 i = ((gradS K V (Q (i 2)) (Z (i 2)) (Y (i 2)) (i 1) (i 3) : ℝ) : EReal) := by
    rw [val_main_v69_apply, val_main_v68_apply, val_main_v64_apply, val_main_v63_apply, val_main_v38_apply, spread R hμ, expo R hμ, grad_prob R, total R hμ]
    exact ref_dscore (n := 255) (scores K (Q (i 2)) (i 1)) (gradP V (Z (i 2)) (Y (i 2)) (i 1)) (μ (i 1) (i 2)) (i 3)
  rw [val_main_v71_apply, e, val_main_v70_apply, val_main_cst_12_apply, EReal.coe_mul, ← scale_bits]
  rfl

theorem grad_query_head (i : S1x4x4096x128.Idx) : val_main_v74 (F := Ideal) x0 x1 x2 x3 i
    = ((∑ m, gradS K V (Q (i 2)) (Z (i 2)) (Y (i 2)) (i 1) m * scale * K m (col (i 1) (i 3)) : ℝ) : EReal) := by
  rw [val_main_v74_apply]
  simp only [grad_score R hμ, keys R]
  rw [sum_mul_coe]
  rfl

theorem grad_key_head (i : S1x4x256x128.Idx) : val_main_v72 (F := Ideal) x0 x1 x2 x3 i
    = ((∑ s, gradS K V (Q s) (Z s) (Y s) (i 1) (i 2) * scale * Q s (col (i 1) (i 3)) : ℝ) : EReal) := by
  rw [val_main_v72_apply]
  simp only [grad_score R hμ, queries R]
  rw [sum_mul_coe]
  rfl

/-! ### The three results -/

/-- The gradient in the queries. -/
theorem result_q (i : S4096x512.Idx) :
    val_main_v81 (F := Ideal) x0 x1 x2 x3 i = ((gradQ K V (Q (i 0)) (Z (i 0)) (Y (i 0)) (headOf (i 1)) (i 1) : ℝ) : EReal) := by
  have e : idx_main_v75 (idx_main_v78 (idx_main_v80 i)) = ix4 (0 : Fin 1) (headOf (i 1)) (i 0 : Fin 4096) (lane (i 1)) := by
    blk_ext [idx_main_v75, idx_main_v78, idx_main_v80, headOf, lane]
  rw [val_main_v81_apply, val_main_v80_apply, val_main_v78_apply, val_main_v75_apply, grad_query_head R hμ, e]
  refine congrArg (fun e : ℝ => (e : EReal)) ?_
  unfold gradQ
  rw [Finset.sum_mul]
  refine Finset.sum_congr rfl fun m _ => ?_
  refine Eq.trans ?_ (congrArg (fun l => gradS K V (Q (i 0)) (Z (i 0)) (Y (i 0)) (headOf (i 1)) m * K m l * scale) (col_lane (i 1)))
  exact mul_right_comm _ _ _

/-- The gradient in the gate. -/
theorem result_z (i : S4096x512.Idx) :
    val_main_v83 (F := Ideal) x0 x1 x2 x3 i = ((gradZ K V (Q (i 0)) (Z (i 0)) (Y (i 0)) (headOf (i 1)) (i 1) : ℝ) : EReal) := by
  have e : idx_main_v82 i = ix3 (0 : Fin 1) (i 0 : Fin 4096) (i 1 : Fin 512) := by blk_ext [idx_main_v82]
  rw [val_main_v83_apply, val_main_v82_apply, grad_gate R hμ, e]
  rfl

theorem grad_keys (i : S1x256x512.Idx) : val_main_v77 (F := Ideal) x0 x1 x2 x3 i
    = (((∑ s, gradS K V (Q s) (Z s) (Y s) (headOf (i 2)) (i 1) * Q s (i 2)) * scale : ℝ) : EReal) := by
  have e : idx_main_v73 (idx_main_v77 i) = ix4 (0 : Fin 1) (headOf (i 2)) (i 1 : Fin 256) (lane (i 2)) := by
    blk_ext [idx_main_v73, idx_main_v77, headOf, lane]
  rw [val_main_v77_apply, val_main_v73_apply, grad_key_head R hμ, e]
  refine congrArg (fun e : ℝ => (e : EReal)) ?_
  rw [Finset.sum_mul]
  refine Finset.sum_congr rfl fun s _ => ?_
  refine Eq.trans ?_ (congrArg (fun l => gradS K V (Q s) (Z s) (Y s) (headOf (i 2)) (i 1) * Q s l * scale) (col_lane (i 2)))
  exact mul_right_comm _ _ _

theorem grad_values (i : S1x256x512.Idx) : val_main_v76 (F := Ideal) x0 x1 x2 x3 i
    = ((∑ s, weights K (Q s) (headOf (i 2)) (i 1) * gradO (Z s) (Y s) (i 2) : ℝ) : EReal) := by
  have e : idx_main_v56 (idx_main_v76 i) = ix4 (0 : Fin 1) (headOf (i 2)) (lane (i 2)) (i 1 : Fin 256) := by
    blk_ext [idx_main_v56, idx_main_v76, headOf, lane]
  rw [val_main_v76_apply, val_main_v56_apply, grad_value_head R hμ _ (grad_output_head R), e]
  refine congrArg (fun e : ℝ => (e : EReal)) (Finset.sum_congr rfl fun s _ => ?_)
  exact congrArg (fun l => weights K (Q s) (headOf (i 2)) (i 1) * gradO (Z s) (Y s) l) (col_lane (i 2))

/-- The gradient in the memory. -/
theorem result_kv (i : S256x1024.Idx) :
    val_main_v84 (F := Ideal) x0 x1 x2 x3 i = ((gradKV K V Q Z Y (i 0) (i 1) : ℝ) : EReal) := by
  have e : idx_main_v84 i = ix3 (0 : Fin 1) (i 0 : Fin 256) (i 1 : Fin 1024) := by blk_ext [idx_main_v84]
  rw [val_main_v84_apply, e]
  unfold val_main_v79
  pointwise
  unfold gradKV
  split_ifs with h
  · exact grad_keys R hμ _
  all_goals exact grad_values R hμ _

end Shifted

end Stages

end Cert.ReferenceIdeal.Read

end
-- ==== Proof.Finite.lean ====
module

public import Idealize.ShloMosaic.Lib.Pointwise
public import Idealize.ShloMosaic.PureOps.Ideal.Laws

/-!
# What the precondition says of one element

Each condition compares `a − a` with zero, element by element.  Over the extended reals `⊤ − ⊤` and `⊥ − ⊥` are `⊥`, so
the comparison holds exactly where `a` is a real number.
-/

@[expose] public section

namespace Cert.Mem
open Idealize.ShloMosaic

/-- An extended real whose difference with itself is zero is a real number. -/
theorem real_of_sub_self (x : EReal) (h : x - x = 0) : ∃ r : ℝ, x = (r : EReal) := by
  induction x with
  | bot => exact absurd h (by simp)
  | top => exact absurd h (by simp)
  | coe r => exact ⟨r, rfl⟩

/-- The precondition's comparison, read back as the equation. -/
theorem real_of_cmp (x : EReal) (h : BitVec.ofBool (decide (x - x = 0)) = 1#1) : ∃ r : ℝ, x = (r : EReal) := by
  refine real_of_sub_self x ?_
  by_contra hne
  simp [hne] at h

end Cert.Mem
-- ==== Proof.MemClaim.lean ====
module

public import proofs.«01_k».proof.Defs
public import proofs.«01_k».proof.Proof.Gen.Pre_finite
public import proofs.«01_k».proof.Proof.MemKernel
public import proofs.«01_k».proof.Proof.MemReference
public import proofs.«01_k».proof.Proof.Finite

/-!
# The memory attention's gradient: kernel and reference agree

On real arguments both runs end with the same three arrays.
-/

@[expose] public section

noncomputable section

namespace Cert.Mem
open Idealize.ShloMosaic Idealize.SL.Sem

/-- The precondition makes every argument array real. -/
theorem isReal_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ (Q Z Y : Fin 4096 → Fin 512 → ℝ) (K V : Fin 256 → Fin 512 → ℝ), Cert.KernelIdeal.Gen.IsReal m c Q Z Y K V := by
  obtain ⟨hq, hz, hkv, hy⟩ := h c
  unfold Cert.Pre_finite.fn at hq hz hkv hy
  dsimp only at hq hz hkv hy
  have rq : ∀ i, ∃ r : ℝ, m ((c.tc : Thread Cert.KernelIdeal.nD Cert.KernelIdeal.τ).loc Cert.KernelIdeal.main_arg0) i = (r : EReal) := by
    intro i
    have := congrFun hq i
    pointwise at this
    exact real_of_cmp _ this
  have rz : ∀ i, ∃ r : ℝ, m ((c.tc : Thread Cert.KernelIdeal.nD Cert.KernelIdeal.τ).loc Cert.KernelIdeal.main_arg1) i = (r : EReal) := by
    intro i
    have := congrFun hz i
    pointwise at this
    exact real_of_cmp _ this
  have rkv : ∀ i, ∃ r : ℝ, m ((c.tc : Thread Cert.KernelIdeal.nD Cert.KernelIdeal.τ).loc Cert.KernelIdeal.main_arg2) i = (r : EReal) := by
    intro i
    have := congrFun hkv i
    pointwise at this
    exact real_of_cmp _ this
  have ry : ∀ i, ∃ r : ℝ, m ((c.tc : Thread Cert.KernelIdeal.nD Cert.KernelIdeal.τ).loc Cert.KernelIdeal.main_arg3) i = (r : EReal) := by
    intro i
    have := congrFun hy i
    pointwise at this
    exact real_of_cmp _ this
  choose Q hQ using rq
  choose Z hZ using rz
  choose KV hKV using rkv
  choose Y hY using ry
  refine ⟨fun s l => Q (ix2 s l), fun s l => Z (ix2 s l), fun s l => Y (ix2 s l), fun i l => KV (ix2 i (⟨l.val, by omega⟩ : Fin 1024)),
    fun i l => KV (ix2 i (⟨512 + l.val, by omega⟩ : Fin 1024)), fun s l => hQ _, fun s l => hZ _, fun i l j hj => ?_, fun i l j hj => ?_, fun s l => hY _⟩
  · rw [show j = (⟨l.val, by omega⟩ : Fin 1024) from Fin.ext hj]; exact hKV _
  · rw [show j = (⟨512 + l.val, by omega⟩ : Fin 1024) from Fin.ext hj]; exact hKV _

theorem algebraic : Cert.algebraic_KernelIdeal_ReferenceIdeal_pre_finite := by
  intro m g m' g' hpre hagree
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run _ _ _).mono (fun r h c => ?_) (Cert.ReferenceIdeal.Value.run m' g')
  obtain ⟨h0, h1, h2, hargs⟩ := h c
  obtain ⟨a0, a1, a2, a3⟩ := hagree c
  obtain ⟨Q, Z, Y, K, V, R⟩ := isReal_of_pre m hpre c
  have R' : Cert.ReferenceIdeal.Read.AreReal
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) Q Z Y K V :=
    ⟨fun s l => (congrFun a0 _).trans (R.q s l), fun s l => (congrFun a1 _).trans (R.z s l),
      fun i l j hj => (congrFun a2 _).trans (R.k i l j hj), fun i l j hj => (congrFun a2 _).trans (R.v i l j hj),
      fun s l => (congrFun a3 _).trans (R.y s l)⟩
  obtain ⟨μ, hμ⟩ := Cert.ReferenceIdeal.Read.greatest R'
  refine ⟨h0.trans ?_, h1.trans ?_, h2.trans ?_, hargs⟩
  · rw [Cert.ReferenceIdeal.Read.val_main_v81_eq]
    exact (funext fun i => Cert.ReferenceIdeal.Read.result_q R' hμ i).trans (Cert.KernelIdeal.Gen.final5 m R).symm
  · rw [Cert.ReferenceIdeal.Read.val_main_v83_eq]
    exact (funext fun i => Cert.ReferenceIdeal.Read.result_z R' hμ i).trans (Cert.KernelIdeal.Gen.final6 m R).symm
  · rw [Cert.ReferenceIdeal.Read.val_main_v84_eq]
    exact (funext fun i => Cert.ReferenceIdeal.Read.result_kv R' hμ i).trans (Cert.KernelIdeal.Gen.final7 m R).symm

end Cert.Mem

end
-- ==== Proof.DhFrames.lean ====
module

public import proofs.«01_k».proof.Defs
public import proofs.«01_k».proof.Proof.Gen.Pre_finite2
public import proofs.«01_k».proof.Proof.Gen.Kernel2.Frame
public import proofs.«01_k».proof.Proof.Gen.Kernel2Ideal.Frame
public import proofs.«01_k».proof.Proof.Gen.Reference2Ideal.Run

/-!
# The input projection's gradient: frames

Each program runs to its end, leaves its arguments as they were and every semaphore counter at zero.  The kernel's frames are
the generated ones; the reference declares no semaphore, so its run alone gives its frame.
-/

@[expose] public section

namespace Cert.Dh
open Idealize.ShloMosaic Idealize.SL.Sem

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_kernelIdeal_pre : Cert.quiescent_Kernel2Ideal_pre_finite2 := fun m ρ _ => Cert.Kernel2Ideal.Gen.frame m ρ

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem frame_reference_pre : Cert.quiescent_Reference2Ideal_pre_finite2 := fun m ρ _ => frame_reference m ρ trivial

end Cert.Dh
-- ==== Proof.DhMath.lean ====
module

public import proofs.«01_k».proof.Proof.MemMath

/-!
# The real arithmetic of the input projection's gradient

Everything here belongs to one row of the batch.  The row's incoming gradient `d` has 7424 columns; the product with the
weights `W` gives the gradient in the normalised row, and the derivative of the normalisation gives the gradient in the row
`x` itself.  The kernel adds the product up segment by segment (`upto`, `seg`); the reference takes it at once.
-/

@[expose] public section

noncomputable section

open scoped BigOperators
open Idealize.ShloMosaic

namespace Cert.Dh

/-- The single-precision number nearest to `10⁻⁶`, as a fraction. -/
def eps : ℝ := 8796093 / 8796093022208

theorem eps_bits : Ideal.ofBits .f32 0x358637BD#32 = (eps : EReal) := by
  simp [Ideal.ofBits, Ideal.ieee, -EReal.coe_mul, eps]; norm_num

theorem bits_1024 : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem div_1024 (a : ℝ) : Ideal.div (a : EReal) ((1024 : ℝ) : EReal) = ((a / 1024 : ℝ) : EReal) := by
  rw [Ideal.div_coe (by norm_num), ← EReal.coe_mul]; congr 1; ring

/-! ### A sum over 7424 columns, segment by segment -/

/-- The sum of the first `a` of 7424 terms. -/
def upto (f : Fin 7424 → ℝ) (a : ℕ) (h : a ≤ 7424) : ℝ := ∑ l : Fin a, f ⟨l.val, l.isLt.trans_le h⟩

/-- The sum of the `n` terms from `o`. -/
def seg (f : Fin 7424 → ℝ) (o n : ℕ) (h : o + n ≤ 7424) : ℝ := ∑ l : Fin n, f ⟨o + l.val, (Nat.add_lt_add_left l.isLt o).trans_le h⟩

theorem seg_zero (f : Fin 7424 → ℝ) (n : ℕ) (h : 0 + n ≤ 7424) : seg f 0 n h = upto f n ((Nat.zero_add n).symm.trans_le h) :=
  Finset.sum_congr rfl fun l _ => congrArg f (Fin.ext (Nat.zero_add _))

theorem upto_add (f : Fin 7424 → ℝ) (o n b : ℕ) (hb : o + n = b) (h : b ≤ 7424) :
    upto f o ((Nat.le_add_right o n).trans (hb.trans_le h)) + seg f o n (hb.trans_le h) = upto f b h := by
  subst hb
  exact (Fin.sum_univ_add fun l : Fin (o + n) => f ⟨l.val, l.isLt.trans_le h⟩).symm

theorem upto_all (f : Fin 7424 → ℝ) : upto f 7424 le_rfl = ∑ l, f l := rfl

/-! ### The normalisation and its gradient -/

section

variable (x : Fin 1024 → ℝ) (g : Fin 1024 → ℝ) (d : Fin 7424 → ℝ) (W : Fin 7424 → Fin 1024 → ℝ)

/-- The mean square of the row, with the small number the normalisation adds. -/
def ms : ℝ := (∑ j, x j * x j) / 1024 + eps

/-- The normalisation's factor. -/
def rs : ℝ := (Real.sqrt (ms x))⁻¹

/-- The normalised row. -/
def xn (j : Fin 1024) : ℝ := x j * rs x

/-- The gradient in the projection's input. -/
def dh (j : Fin 1024) : ℝ := ∑ c, d c * W c j

/-- The gradient in the normalised row. -/
def dn (j : Fin 1024) : ℝ := dh d W j * g j

/-- The gradient in the row. -/
def dx (j : Fin 1024) : ℝ := rs x * (dn g d W j - xn x j * ((∑ l, dn g d W l * xn x l) / 1024))

theorem ms_pos : 0 < ms x := by
  have h : 0 ≤ ∑ j, x j * x j := Finset.sum_nonneg fun j _ => mul_self_nonneg _
  unfold ms eps; positivity

theorem rsqrt_ms : Ideal.rsqrt ((ms x : ℝ) : EReal) = ((rs x : ℝ) : EReal) := by
  rw [Ideal.rsqrt_coe, if_neg (ms_pos x).not_gt, if_neg (ms_pos x).ne']; rfl

/-- The reference's derivative of the normalisation, through the root and the square, is the kernel's. -/
theorem dx_ref (y : ℝ) (j : Fin 1024) :
    y + dn g d W j * rs x
      + x j * ((∑ l, x l * dn g d W l) * (-(1 / 2) * (rs x / ms x)) / 1024)
      + (∑ l, x l * dn g d W l) * (-(1 / 2) * (rs x / ms x)) / 1024 * x j = dx x g d W j + y := by
  have hs : rs x * rs x = (ms x)⁻¹ := by
    unfold rs; rw [← mul_inv, Real.mul_self_sqrt (ms_pos x).le]
  have hm : (∑ l, dn g d W l * xn x l) / 1024 = (∑ l, x l * dn g d W l) * rs x / 1024 := by
    unfold xn; rw [Finset.sum_mul]
    exact congrArg (· / 1024) (Finset.sum_congr rfl fun l _ => by ring)
  unfold dx
  rw [hm, div_eq_mul_inv (rs x), ← hs]
  unfold xn
  generalize (∑ l, x l * dn g d W l) = S
  ring

end

end Cert.Dh

end
-- ==== Proof.DhPay.lean ====
module

public import proofs.«01_k».proof.Proof.Gen.Kernel2Ideal.Skeleton
public import proofs.«01_k».proof.Proof.DhMath
public import Idealize.ShloMosaic.Lib.Pointwise

/-!
# The body's values on one tile of 256 rows, read at an index

The tile's gradient is the real array `D` (256 rows of 7424 columns), the weights are `W`, the rows are `X`, the gain `g`.
A slab of the body's loads holds some columns of `D` (`IsCols`) or some rows of `W` (`IsRows`).
-/

@[expose] public section

noncomputable section

open scoped BigOperators
open Idealize.ShloMosaic Idealize.SL.Sem

namespace Cert.Kernel2Ideal.Gen
open Facts Cert.Dh
open Cert.Mem (coe_sum sum_mul_coe)

variable [Facts]

/-- The slab holds the `n` columns of `D` from `o`. -/
def IsCols {n : ℕ} (v : (⟨2, ![256, n]⟩ : Shape).Idx → EReal) (D : Fin 256 → Fin 7424 → ℝ) (o : ℕ) (h : o + n ≤ 7424) : Prop :=
  ∀ r (l : Fin n), v (ix2 r l) = ((D r ⟨o + l.val, (Nat.add_lt_add_left l.isLt o).trans_le h⟩ : ℝ) : EReal)

/-- The slab holds the `n` rows of `W` from `o`. -/
def IsRows {n : ℕ} (v : (⟨2, ![n, 1024]⟩ : Shape).Idx → EReal) (W : Fin 7424 → Fin 1024 → ℝ) (o : ℕ) (h : o + n ≤ 7424) : Prop :=
  ∀ (l : Fin n) j, v (ix2 l j) = ((W ⟨o + l.val, (Nat.add_lt_add_left l.isLt o).trans_le h⟩ j : ℝ) : EReal)

variable {D : Fin 256 → Fin 7424 → ℝ} {W : Fin 7424 → Fin 1024 → ℝ}

theorem seg_read {n : ℕ} {v : (⟨2, ![256, n]⟩ : Shape).Idx → EReal} {w : (⟨2, ![n, 1024]⟩ : Shape).Idx → EReal} (o : ℕ) (h : o + n ≤ 7424)
    (hv : IsCols v D o h) (hw : IsRows w W o h) (r : Fin 256) (j : Fin 1024) :
    ∑ l : Fin n, v (ix2 r l) * w (ix2 l j) = ((seg (fun c => D r c * W c j) o n h : ℝ) : EReal) := by
  simp only [hv r _, hw _ j]
  exact sum_mul_coe _ _ _

theorem pay4_read {a0 a1 a2 a3 a4 : Vec Ideal S256x512 .bf16} {b0 b1 b2 b3 b4 : Vec Ideal S512x1024 .bf16}
    (A0 : IsCols a0 D 0 (by decide)) (A1 : IsCols a1 D 512 (by decide)) (A2 : IsCols a2 D 1024 (by decide)) (A3 : IsCols a3 D 1536 (by decide))
    (A4 : IsCols a4 D 2048 (by decide)) (B0 : IsRows b0 W 0 (by decide)) (B1 : IsRows b1 W 512 (by decide)) (B2 : IsRows b2 W 1024 (by decide))
    (B3 : IsRows b3 W 1536 (by decide)) (B4 : IsRows b4 W 2048 (by decide)) (r : Fin 256) (j : Fin 1024) :
    k0_pay4 a0 b0 a1 b1 a2 b2 a3 b3 a4 b4 (ix2 r j) = ((upto (fun c => D r c * W c j) 2560 (by decide) : ℝ) : EReal) := by
  unfold k0_pay4; pointwise []
  rw [seg_read 0 _ A0 B0, seg_read 512 _ A1 B1, seg_read 1024 _ A2 B2, seg_read 1536 _ A3 B3, seg_read 2048 _ A4 B4]
  simp only [← EReal.coe_add]
  rw [seg_zero, upto_add _ 512 512 1024 rfl (by decide), upto_add _ 1024 512 1536 rfl (by decide),
    upto_add _ 1536 512 2048 rfl (by decide), upto_add _ 2048 512 2560 rfl (by decide)]

theorem pay5_read {acc : FVec Ideal S256x1024 .f32} {a0 : Vec Ideal S256x256 .bf16} {b0 : Vec Ideal S256x1024 .bf16}
    {a1 a2 a3 a4 a5 : Vec Ideal S256x512 .bf16} {b1 b2 b3 b4 b5 : Vec Ideal S512x1024 .bf16} (r : Fin 256) (j : Fin 1024)
    (C : acc (ix2 r j) = ((upto (fun c => D r c * W c j) 2560 (by decide) : ℝ) : EReal))
    (A0 : IsCols a0 D 2560 (by decide)) (A1 : IsCols a1 D 2816 (by decide)) (A2 : IsCols a2 D 3328 (by decide)) (A3 : IsCols a3 D 3840 (by decide))
    (A4 : IsCols a4 D 4352 (by decide)) (A5 : IsCols a5 D 4864 (by decide)) (B0 : IsRows b0 W 2560 (by decide)) (B1 : IsRows b1 W 2816 (by decide))
    (B2 : IsRows b2 W 3328 (by decide)) (B3 : IsRows b3 W 3840 (by decide)) (B4 : IsRows b4 W 4352 (by decide)) (B5 : IsRows b5 W 4864 (by decide)) :
    k0_pay5 acc a0 b0 a1 b1 a2 b2 a3 b3 a4 b4 a5 b5 (ix2 r j) = ((upto (fun c => D r c * W c j) 5376 (by decide) : ℝ) : EReal) := by
  unfold k0_pay5; pointwise []
  rw [C, seg_read 2560 _ A0 B0, seg_read 2816 _ A1 B1, seg_read 3328 _ A2 B2, seg_read 3840 _ A3 B3, seg_read 4352 _ A4 B4, seg_read 4864 _ A5 B5]
  simp only [← EReal.coe_add]
  rw [upto_add _ 2560 256 2816 rfl (by decide), upto_add _ 2816 512 3328 rfl (by decide), upto_add _ 3328 512 3840 rfl (by decide),
    upto_add _ 3840 512 4352 rfl (by decide), upto_add _ 4352 512 4864 rfl (by decide), upto_add _ 4864 512 5376 rfl (by decide)]

/-- The whole product: the gradient in the projection's input. -/
theorem pay6_read {acc : FVec Ideal S256x1024 .f32} {a0 a1 a2 a3 : Vec Ideal S256x512 .bf16} {b0 b1 b2 b3 : Vec Ideal S512x1024 .bf16}
    (r : Fin 256) (j : Fin 1024) (C : acc (ix2 r j) = ((upto (fun c => D r c * W c j) 5376 (by decide) : ℝ) : EReal))
    (A0 : IsCols a0 D 5376 (by decide)) (A1 : IsCols a1 D 5888 (by decide)) (A2 : IsCols a2 D 6400 (by decide)) (A3 : IsCols a3 D 6912 (by decide))
    (B0 : IsRows b0 W 5376 (by decide)) (B1 : IsRows b1 W 5888 (by decide)) (B2 : IsRows b2 W 6400 (by decide)) (B3 : IsRows b3 W 6912 (by decide)) :
    k0_pay6 acc a0 b0 a1 b1 a2 b2 a3 b3 (ix2 r j) = ((dh (D r) W j : ℝ) : EReal) := by
  unfold k0_pay6; pointwise []
  rw [C, seg_read 5376 _ A0 B0, seg_read 5888 _ A1 B1, seg_read 6400 _ A2 B2, seg_read 6912 _ A3 B3]
  simp only [← EReal.coe_add]
  rw [upto_add _ 5376 512 5888 rfl (by decide), upto_add _ 5888 512 6400 rfl (by decide), upto_add _ 6400 512 6912 rfl (by decide), upto_add _ 6912 512 7424 rfl (by decide), upto_all]
  rfl

variable {X Y : Fin 256 → Fin 1024 → ℝ} {g : Fin 1024 → ℝ} {x y : Vec Ideal S256x1024 .f32}

/-- The normalisation's factor. -/
theorem pay7_read (hx : ∀ r j, x (ix2 r j) = ((X r j : ℝ) : EReal)) (r : Fin 256) : k0_pay7 x (ix2 r 0) = ((rs (X r) : ℝ) : EReal) := by
  unfold k0_pay7; pointwise []
  simp only [hx, sum_mul_coe, eps_bits, bits_1024, div_1024, ← EReal.coe_add]
  exact rsqrt_ms (X r)

/-- The normalised rows. -/
theorem pay8_read (hx : ∀ r j, x (ix2 r j) = ((X r j : ℝ) : EReal)) (r : Fin 256) (j : Fin 1024) :
    k0_pay8 x (ix2 r j) = ((xn (X r) j : ℝ) : EReal) := by
  unfold k0_pay8; pointwise []
  exact (congrArg₂ (· * ·) (hx r j) (pay7_read hx r)).trans (EReal.coe_mul _ _).symm

section

variable {acc : FVec Ideal S256x1024 .f32} {a0 a1 a2 a3 : Vec Ideal S256x512 .bf16} {b0 b1 b2 b3 : Vec Ideal S512x1024 .bf16} {gain : Vec Ideal S1x1024 .f32}

/-- The gradient in the normalised rows. -/
theorem pay9_read (r : Fin 256) (j : Fin 1024) (H : k0_pay6 acc a0 b0 a1 b1 a2 b2 a3 b3 (ix2 r j) = ((dh (D r) W j : ℝ) : EReal))
    (hg : ∀ j, gain (ix2 0 j) = ((g j : ℝ) : EReal)) :
    k0_pay9 acc a0 b0 a1 b1 a2 b2 a3 b3 gain (ix2 r j) = ((dn g (D r) W j : ℝ) : EReal) := by
  unfold k0_pay9; pointwise []
  exact (congrArg₂ (· * ·) H (hg j)).trans (EReal.coe_mul _ _).symm

/-- The normalised rows times the mean of the gradient against them. -/
theorem pay10_read (hx : ∀ r j, x (ix2 r j) = ((X r j : ℝ) : EReal)) (r : Fin 256) (j : Fin 1024)
    (H : ∀ j, k0_pay9 acc a0 b0 a1 b1 a2 b2 a3 b3 gain (ix2 r j) = ((dn g (D r) W j : ℝ) : EReal)) :
    k0_pay10 acc a0 b0 a1 b1 a2 b2 a3 b3 x gain (ix2 r j)
      = ((xn (X r) j * ((∑ l, dn g (D r) W l * xn (X r) l) / 1024) : ℝ) : EReal) := by
  unfold k0_pay10; pointwise []
  simp only [H, pay8_read hx, sum_mul_coe, bits_1024, div_1024]
  exact (EReal.coe_mul _ _).symm

/-- The gradient in the rows. -/
theorem pay1_read (r : Fin 256) (j : Fin 1024) {f : FVec Ideal S256x1 .f32} {u v : FVec Ideal S256x1024 .f32}
    (hf : f (ix2 r 0) = ((rs (X r) : ℝ) : EReal)) (hu : u (ix2 r j) = ((dn g (D r) W j : ℝ) : EReal))
    (hv : v (ix2 r j) = ((xn (X r) j * ((∑ l, dn g (D r) W l * xn (X r) l) / 1024) : ℝ) : EReal))
    (hy : y (ix2 r j) = ((Y r j : ℝ) : EReal)) :
    k0_pay1 f u v y (ix2 r j) = ((dx (X r) g (D r) W j + Y r j : ℝ) : EReal) := by
  unfold k0_pay1; pointwise []
  rw [hu, hv, hy]
  refine (congrArg (fun z => z * _ + _) hf).trans ?_
  rw [← EReal.coe_sub, ← EReal.coe_mul, ← EReal.coe_add]; rfl

/-- The gain's gradient, the tile's rows added to what was there. -/
theorem pay2_read (j : Fin 1024) {u v : FVec Ideal S256x1024 .f32} {s : Vec Ideal S1x1024 .f32}
    (hu : ∀ r, u (ix2 r j) = ((dh (D r) W j : ℝ) : EReal)) (hv : ∀ r, v (ix2 r j) = ((xn (X r) j : ℝ) : EReal)) :
    k0_pay2 u v s (ix2 0 j) = s (ix2 0 j) + ((∑ r, dh (D r) W j * xn (X r) j : ℝ) : EReal) := by
  unfold k0_pay2; pointwise []
  simp only [hu, hv, sum_mul_coe]

end

end Cert.Kernel2Ideal.Gen

end
-- ==== Proof.Slabs.lean ====
module

public import Idealize.ShloMosaic.Lib.Pipeline.ValueKit.Tiles
public import Idealize.ShloMosaic.Lib.Pipeline.ValueKit

/-!
# Reading a slab of a two-dimensional block

A load at an offset reads the block there; a block filled by one copy of a whole array is that array.
-/

@[expose] public section

noncomputable section

open Idealize.ShloMosaic Idealize.SL.Sem

namespace Cert.Slabs

theorem hz2 : (![0, 0] : Fin 2 → ℕ) = fun _ => 0 := by funext a; fin_cases a <;> rfl

/-- A load of `n₀` rows from `o₀` and `n₁` columns from `o₁` reads the block there. -/
theorem ld_slab {Val : EltTy → Type} {R N n₀ n₁ : ℕ} {e : EltTy} (X : (⟨2, ![R, N]⟩ : Shape).Idx → Val e) (o₀ o₁ : ℕ)
    (inb : ∀ a, (![o₀, o₁] : Fin 2 → ℕ) a + (![n₀, n₁] : Fin 2 → ℕ) a ≤ (⟨2, ![R, N]⟩ : Shape).size a) (r : Fin n₀) (d : Fin n₁)
    (r' : Fin R) (d' : Fin N) (hr : r'.val = o₀ + r.val) (hd : d'.val = o₁ + d.val) :
    View.ld X (Rect.unit (s := ⟨2, ![R, N]⟩) ![o₀, o₁] ![n₀, n₁] inb) (ix2 r d) = X (ix2 r' d') :=
  View.ld_unit_apply_of X _ _ inb (ix2 r d) (ix2 r' d') fun a => by
    match a with
    | ⟨0, _⟩ => exact hr
    | ⟨1, _⟩ => exact hd

/-- A block filled by one copy of a whole array is that array. -/
theorem canon_whole {Val : EltTy → Type} [∀ e, Nonempty (Val e)] {S : Shape} {e : EltTy} (w : S.Idx → Val e) :
    View.canon [(⟨Rect.whole S, w⟩ : View.Piece Val S e)] = w := by
  funext y
  have h := View.canon_cons_emb (Val := Val) (Rect.whole S) w [] y
  rw [Rect.emb_whole_apply] at h
  exact h

/-- A load from such a block reads the array. -/
theorem readCov_whole {Val : EltTy → Type} [∀ e, Nonempty (Val e)] {sig : RefSig} {κ : Kind} {sp : Space} {S : Shape} {e : EltTy}
    (v : View sig κ sp S e) (w : S.Idx → Val e) (r : Rect S) :
    v.readCov [(⟨Rect.whole S, w⟩ : View.Piece Val S e)] r.toLoadRect = View.ld w r := by
  rw [View.readCov_eq_canon', canon_whole]

/-- A block read at an index, when its last store fills the `W` columns from `o`: the store's value inside them, what
    the earlier stores left outside. -/
theorem canon_wide {Val : EltTy → Type} [∀ e, Nonempty (Val e)] {R N W : ℕ} {e : EltTy} (o : ℕ)
    (inb : ∀ a, (![0, o] : Fin 2 → ℕ) a + (![R, W] : Fin 2 → ℕ) a ≤ (⟨2, ![R, N]⟩ : Shape).size a)
    (w : (⟨2, ![R, W]⟩ : Shape).Idx → Val e) (L : List (View.Piece Val ⟨2, ![R, N]⟩ e)) (y : (⟨2, ![R, N]⟩ : Shape).Idx) (v : Val e)
    (h1 : ∀ (r : Fin R) (d : Fin W), (y 0).val = r.val → (y 1).val = o + d.val → w (ix2 r d) = v)
    (h2 : ¬(o ≤ (y 1).val ∧ (y 1).val < o + W) → View.canon L y = v) :
    View.canon ((⟨Rect.unit ![0, o] ![R, W] inb, w⟩ : View.Piece Val ⟨2, ![R, N]⟩ e) :: L) y = v := by
  by_cases hm : y ∈ (Rect.unit (s := ⟨2, ![R, N]⟩) ![0, o] ![R, W] inb).set
  · obtain ⟨x, rfl⟩ := (Rect.unit (s := ⟨2, ![R, N]⟩) ![0, o] ![R, W] inb).exists_idx_of_mem hm
    rw [show (Rect.unit (s := ⟨2, ![R, N]⟩) ![0, o] ![R, W] inb).idx x = (Rect.unit (s := ⟨2, ![R, N]⟩) ![0, o] ![R, W] inb).emb x from rfl,
      View.canon_cons_emb]
    have e0 : ((Rect.unit (s := ⟨2, ![R, N]⟩) ![0, o] ![R, W] inb).idx x 0).val = (x 0).val :=
      (Rect.idx_unit_val _ _ _ x 0).trans (Nat.zero_add _)
    have e1 : ((Rect.unit (s := ⟨2, ![R, N]⟩) ![0, o] ![R, W] inb).idx x 1).val = o + (x 1).val := Rect.idx_unit_val _ _ _ x 1
    rw [← h1 (x 0) (x 1) e0 e1]
    refine congrArg w (funext fun a => ?_)
    match a with
    | ⟨0, _⟩ => rfl
    | ⟨1, _⟩ => rfl
  · refine (View.canon_cons_of_not_mem (⟨Rect.unit ![0, o] ![R, W] inb, w⟩ : View.Piece Val ⟨2, ![R, N]⟩ e) L hm).trans ?_
    have hy : (y 0).val < R := (y 0).isLt
    refine h2 fun hb => hm (Rect.mem_set_unit.mpr (Fin.forall_fin_two.mpr ⟨⟨Nat.zero_le _, ?_⟩, hb⟩))
    simpa using hy

/-- The same of a block of planes, when its last store fills plane `o`. -/
theorem canon_plane {Val : EltTy → Type} [∀ e, Nonempty (Val e)] {P R N : ℕ} {e : EltTy} (o : ℕ)
    (inb : ∀ a, (![o, 0, 0] : Fin 3 → ℕ) a + (![1, R, N] : Fin 3 → ℕ) a ≤ (⟨3, ![P, R, N]⟩ : Shape).size a)
    (w : (⟨3, ![1, R, N]⟩ : Shape).Idx → Val e) (L : List (View.Piece Val ⟨3, ![P, R, N]⟩ e)) (y : (⟨3, ![P, R, N]⟩ : Shape).Idx) (v : Val e)
    (h1 : ∀ (r : Fin R) (d : Fin N), (y 0).val = o → (y 1).val = r.val → (y 2).val = d.val → w (ix3 0 r d) = v)
    (h2 : (y 0).val ≠ o → View.canon L y = v) :
    View.canon ((⟨Rect.unit ![o, 0, 0] ![1, R, N] inb, w⟩ : View.Piece Val ⟨3, ![P, R, N]⟩ e) :: L) y = v := by
  by_cases hm : y ∈ (Rect.unit (s := ⟨3, ![P, R, N]⟩) ![o, 0, 0] ![1, R, N] inb).set
  · obtain ⟨x, rfl⟩ := (Rect.unit (s := ⟨3, ![P, R, N]⟩) ![o, 0, 0] ![1, R, N] inb).exists_idx_of_mem hm
    rw [show (Rect.unit (s := ⟨3, ![P, R, N]⟩) ![o, 0, 0] ![1, R, N] inb).idx x = (Rect.unit (s := ⟨3, ![P, R, N]⟩) ![o, 0, 0] ![1, R, N] inb).emb x from rfl,
      View.canon_cons_emb]
    have hx : (x 0).val < 1 := (x 0).isLt
    have hx0 : x 0 = (0 : Fin 1) := Fin.ext (show (x 0).val = 0 from Nat.lt_one_iff.mp hx)
    have e0 : ((Rect.unit (s := ⟨3, ![P, R, N]⟩) ![o, 0, 0] ![1, R, N] inb).idx x 0).val = o :=
      (Rect.idx_unit_val _ _ _ x 0).trans (by rw [hx0]; rfl)
    have e1 : ((Rect.unit (s := ⟨3, ![P, R, N]⟩) ![o, 0, 0] ![1, R, N] inb).idx x 1).val = (x 1).val :=
      (Rect.idx_unit_val _ _ _ x 1).trans (Nat.zero_add _)
    have e2 : ((Rect.unit (s := ⟨3, ![P, R, N]⟩) ![o, 0, 0] ![1, R, N] inb).idx x 2).val = (x 2).val :=
      (Rect.idx_unit_val _ _ _ x 2).trans (Nat.zero_add _)
    rw [← h1 (x 1) (x 2) e0 e1 e2]
    refine congrArg w (funext fun a => ?_)
    match a with
    | ⟨0, _⟩ => exact hx0
    | ⟨1, _⟩ => rfl
    | ⟨2, _⟩ => rfl
  · refine (View.canon_cons_of_not_mem (⟨Rect.unit ![o, 0, 0] ![1, R, N] inb, w⟩ : View.Piece Val ⟨3, ![P, R, N]⟩ e) L hm).trans ?_
    have hy1 : (y 1).val < R := (y 1).isLt
    have hy2 : (y 2).val < N := (y 2).isLt
    refine h2 fun hb => hm (Rect.mem_set_unit.mpr ?_)
    intro a
    match a with
    | ⟨0, _⟩ => exact ⟨le_of_eq hb.symm, by show (y 0).val < o + 1; omega⟩
    | ⟨1, _⟩ => exact ⟨Nat.zero_le _, by show (y 1).val < 0 + R; omega⟩
    | ⟨2, _⟩ => exact ⟨Nat.zero_le _, by show (y 2).val < 0 + N; omega⟩

end Cert.Slabs

end
-- ==== Proof.DhTile.lean ====
module

public import proofs.«01_k».proof.Proof.Gen.Kernel2Ideal.Frame
public import proofs.«01_k».proof.Proof.DhPay
public import proofs.«01_k».proof.Proof.Slabs

/-!
# What one grid point of the kernel leaves in its two output blocks

On real arguments: the gradient of the tile's 256 rows, and the gain's gradient of the tile added to what the block held (to
zero at the first point).  The first point copies the weights in; every later one finds them where the first left them.
-/

@[expose] public section

noncomputable section

open scoped BigOperators
open Idealize.ShloMosaic Idealize.SL.Sem

namespace Cert.Kernel2Ideal.Gen
open Cert.Dh Cert.Slabs

/-- Some of a slab's columns are columns of the same gradient. -/
theorem IsCols.sub {N n : ℕ} {x : (⟨2, ![256, N]⟩ : Shape).Idx → Elt Ideal .bf16} {D : Fin 256 → Fin 7424 → ℝ} {o : ℕ} {h : o + N ≤ 7424} (H : IsCols x D o h) (a b : ℕ)
    (inb : ∀ k, (![0, a] : Fin 2 → ℕ) k + (![256, n] : Fin 2 → ℕ) k ≤ (⟨2, ![256, N]⟩ : Shape).size k) (hb : o + a = b) (h' : b + n ≤ 7424) :
    IsCols (View.ld (Val := Elt Ideal) (e' := .bf16) x (Rect.unit (s := ⟨2, ![256, N]⟩) ![0, a] ![256, n] inb)) D b h' := fun r l => by
  have hl : a + l.val < N := (Nat.add_lt_add_left l.isLt a).trans_le (inb 1)
  refine (ld_slab x 0 a inb r l r ⟨a + l.val, hl⟩ (Nat.zero_add _).symm rfl).trans ((H r _).trans ?_)
  refine congrArg (fun k => ((D r k : ℝ) : EReal)) (Fin.ext ?_)
  show o + (a + l.val) = b + l.val
  omega

/-- The tile's arguments are real: the gradient `D`, the weights `W`, the rows `X`, the residual's gradient `Y`, the gain `g`. -/
structure IsTile (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (w : Vec Ideal S7424x1024 .bf16)
    (D : Fin 256 → Fin 7424 → ℝ) (W : Fin 7424 → Fin 1024 → ℝ) (X Y : Fin 256 → Fin 1024 → ℝ) (g : Fin 1024 → ℝ) : Prop where
  c0 : IsCols (n := 2048) x0 D 0 (by decide)
  c1 : IsCols (n := 512) x1 D 2048 (by decide)
  c2 : IsCols (n := 256) x2 D 2560 (by decide)
  c3 : IsCols (n := 512) x3 D 2816 (by decide)
  c4 : IsCols (n := 512) x4 D 3328 (by decide)
  c5 : IsCols (n := 512) x5 D 3840 (by decide)
  c6 : IsCols (n := 3072) x6 D 4352 (by decide)
  x : ∀ r j, x7 (ix2 r j) = ((X r j : ℝ) : EReal)
  y : ∀ r j, x8 (ix2 r j) = ((Y r j : ℝ) : EReal)
  g : ∀ j, x9 (ix2 0 j) = ((g j : ℝ) : EReal)
  w : ∀ k j, w (ix2 k j) = ((W k j : ℝ) : EReal)

section Tile

variable {x0 : Vec Ideal S256x2048 .bf16} {x1 : Vec Ideal S256x512 .bf16} {x2 : Vec Ideal S256x256 .bf16} {x3 x4 x5 : Vec Ideal S256x512 .bf16}
    {x6 : Vec Ideal S256x3072 .bf16} {x7 x8 : Vec Ideal S256x1024 .f32} {x9 : Vec Ideal S1x1024 .f32} {w : Vec Ideal S7424x1024 .bf16}
  {D : Fin 256 → Fin 7424 → ℝ} {W : Fin 7424 → Fin 1024 → ℝ} {X Y : Fin 256 → Fin 1024 → ℝ} {g : Fin 1024 → ℝ}

theorem IsTile.rows (T : IsTile x0 x1 x2 x3 x4 x5 x6 x7 x8 x9 w D W X Y g) {n : ℕ} (o : ℕ)
    (inb : ∀ k, (![o, 0] : Fin 2 → ℕ) k + (![n, 1024] : Fin 2 → ℕ) k ≤ (⟨2, ![7424, 1024]⟩ : Shape).size k) (h : o + n ≤ 7424) :
    IsRows (View.ld (Val := Elt Ideal) (e' := .bf16) w (Rect.unit (s := ⟨2, ![7424, 1024]⟩) ![o, 0] ![n, 1024] inb)) W o h := fun l j =>
  (ld_slab w o 0 inb l j ⟨o + l.val, (Nat.add_lt_add_left l.isLt o).trans_le h⟩ j rfl (Nat.zero_add _).symm).trans (T.w _ j)

/-- The product's first 5376 terms, as the body adds them up. -/
abbrev part (x0 : Vec Ideal S256x2048 .bf16) (x1 : Vec Ideal S256x512 .bf16) (x2 : Vec Ideal S256x256 .bf16) (x3 x4 x5 : Vec Ideal S256x512 .bf16)
    (x6 : Vec Ideal S256x3072 .bf16) (w : Vec Ideal S7424x1024 .bf16) : FVec Ideal S256x1024 .f32 :=
  k0_pay5 (k0_pay4 (View.ld x0 (Rect.unit (s := S256x2048) ![0, 0] ![256, 512] inb_S256x2048_S256x512_0_0))
      (View.ld w (Rect.unit (s := S7424x1024) ![0, 0] ![512, 1024] inb_S7424x1024_S512x1024_0_0)) (View.ld x0 (Rect.unit (s := S256x2048) ![0, 512] ![256, 512] inb_S256x2048_S256x512_0_512))
      (View.ld w (Rect.unit (s := S7424x1024) ![512, 0] ![512, 1024] inb_S7424x1024_S512x1024_512_0)) (View.ld x0 (Rect.unit (s := S256x2048) ![0, 1024] ![256, 512] inb_S256x2048_S256x512_0_1024))
      (View.ld w (Rect.unit (s := S7424x1024) ![1024, 0] ![512, 1024] inb_S7424x1024_S512x1024_1024_0)) (View.ld x0 (Rect.unit (s := S256x2048) ![0, 1536] ![256, 512] inb_S256x2048_S256x512_0_1536))
      (View.ld w (Rect.unit (s := S7424x1024) ![1536, 0] ![512, 1024] inb_S7424x1024_S512x1024_1536_0)) x1
      (View.ld w (Rect.unit (s := S7424x1024) ![2048, 0] ![512, 1024] inb_S7424x1024_S512x1024_2048_0))) x2
      (View.ld w (Rect.unit (s := S7424x1024) ![2560, 0] ![256, 1024] inb_S7424x1024_S256x1024_2560_0)) x3
      (View.ld w (Rect.unit (s := S7424x1024) ![2816, 0] ![512, 1024] inb_S7424x1024_S512x1024_2816_0)) x4
      (View.ld w (Rect.unit (s := S7424x1024) ![3328, 0] ![512, 1024] inb_S7424x1024_S512x1024_3328_0)) x5
      (View.ld w (Rect.unit (s := S7424x1024) ![3840, 0] ![512, 1024] inb_S7424x1024_S512x1024_3840_0)) (View.ld x6 (Rect.unit (s := S256x3072) ![0, 0] ![256, 512] inb_S256x3072_S256x512_0_0))
      (View.ld w (Rect.unit (s := S7424x1024) ![4352, 0] ![512, 1024] inb_S7424x1024_S512x1024_4352_0)) (View.ld x6 (Rect.unit (s := S256x3072) ![0, 512] ![256, 512] inb_S256x3072_S256x512_0_512))
      (View.ld w (Rect.unit (s := S7424x1024) ![4864, 0] ![512, 1024] inb_S7424x1024_S512x1024_4864_0))

/-- The whole product. -/
theorem IsTile.dh (T : IsTile x0 x1 x2 x3 x4 x5 x6 x7 x8 x9 w D W X Y g) (r : Fin 256) (j : Fin 1024) :
    k0_pay6 (part x0 x1 x2 x3 x4 x5 x6 w) (View.ld x6 (Rect.unit (s := S256x3072) ![0, 1024] ![256, 512] inb_S256x3072_S256x512_0_1024))
      (View.ld w (Rect.unit (s := S7424x1024) ![5376, 0] ![512, 1024] inb_S7424x1024_S512x1024_5376_0)) (View.ld x6 (Rect.unit (s := S256x3072) ![0, 1536] ![256, 512] inb_S256x3072_S256x512_0_1536))
      (View.ld w (Rect.unit (s := S7424x1024) ![5888, 0] ![512, 1024] inb_S7424x1024_S512x1024_5888_0)) (View.ld x6 (Rect.unit (s := S256x3072) ![0, 2048] ![256, 512] inb_S256x3072_S256x512_0_2048))
      (View.ld w (Rect.unit (s := S7424x1024) ![6400, 0] ![512, 1024] inb_S7424x1024_S512x1024_6400_0)) (View.ld x6 (Rect.unit (s := S256x3072) ![0, 2560] ![256, 512] inb_S256x3072_S256x512_0_2560))
      (View.ld w (Rect.unit (s := S7424x1024) ![6912, 0] ![512, 1024] inb_S7424x1024_S512x1024_6912_0)) (ix2 r j)
      = ((Cert.Dh.dh (D r) W j : ℝ) : EReal) :=
  pay6_read r j
    (pay5_read r j
      (pay4_read (T.c0.sub 0 0 _ rfl _) (T.c0.sub 512 512 _ rfl _) (T.c0.sub 1024 1024 _ rfl _) (T.c0.sub 1536 1536 _ rfl _) T.c1
        (T.rows 0 _ _) (T.rows 512 _ _) (T.rows 1024 _ _) (T.rows 1536 _ _) (T.rows 2048 _ _) r j)
      T.c2 T.c3 T.c4 T.c5 (T.c6.sub 0 4352 _ rfl _) (T.c6.sub 512 4864 _ rfl _)
      (T.rows 2560 _ _) (T.rows 2816 _ _) (T.rows 3328 _ _) (T.rows 3840 _ _) (T.rows 4352 _ _) (T.rows 4864 _ _))
    (T.c6.sub 1024 5376 _ rfl _) (T.c6.sub 1536 5888 _ rfl _) (T.c6.sub 2048 6400 _ rfl _) (T.c6.sub 2560 6912 _ rfl _)
    (T.rows 5376 _ _) (T.rows 5888 _ _) (T.rows 6400 _ _) (T.rows 6912 _ _)

/-- The gradient of the tile's rows. -/
theorem IsTile.dx (T : IsTile x0 x1 x2 x3 x4 x5 x6 x7 x8 x9 w D W X Y g) (r : Fin 256) (j : Fin 1024) :
    k0_pay1 (k0_pay7 x7)
      (k0_pay9 (part x0 x1 x2 x3 x4 x5 x6 w) (View.ld x6 (Rect.unit (s := S256x3072) ![0, 1024] ![256, 512] inb_S256x3072_S256x512_0_1024))
      (View.ld w (Rect.unit (s := S7424x1024) ![5376, 0] ![512, 1024] inb_S7424x1024_S512x1024_5376_0)) (View.ld x6 (Rect.unit (s := S256x3072) ![0, 1536] ![256, 512] inb_S256x3072_S256x512_0_1536))
      (View.ld w (Rect.unit (s := S7424x1024) ![5888, 0] ![512, 1024] inb_S7424x1024_S512x1024_5888_0)) (View.ld x6 (Rect.unit (s := S256x3072) ![0, 2048] ![256, 512] inb_S256x3072_S256x512_0_2048))
      (View.ld w (Rect.unit (s := S7424x1024) ![6400, 0] ![512, 1024] inb_S7424x1024_S512x1024_6400_0)) (View.ld x6 (Rect.unit (s := S256x3072) ![0, 2560] ![256, 512] inb_S256x3072_S256x512_0_2560))
      (View.ld w (Rect.unit (s := S7424x1024) ![6912, 0] ![512, 1024] inb_S7424x1024_S512x1024_6912_0)) x9)
      (k0_pay10 (part x0 x1 x2 x3 x4 x5 x6 w) (View.ld x6 (Rect.unit (s := S256x3072) ![0, 1024] ![256, 512] inb_S256x3072_S256x512_0_1024))
      (View.ld w (Rect.unit (s := S7424x1024) ![5376, 0] ![512, 1024] inb_S7424x1024_S512x1024_5376_0)) (View.ld x6 (Rect.unit (s := S256x3072) ![0, 1536] ![256, 512] inb_S256x3072_S256x512_0_1536))
      (View.ld w (Rect.unit (s := S7424x1024) ![5888, 0] ![512, 1024] inb_S7424x1024_S512x1024_5888_0)) (View.ld x6 (Rect.unit (s := S256x3072) ![0, 2048] ![256, 512] inb_S256x3072_S256x512_0_2048))
      (View.ld w (Rect.unit (s := S7424x1024) ![6400, 0] ![512, 1024] inb_S7424x1024_S512x1024_6400_0)) (View.ld x6 (Rect.unit (s := S256x3072) ![0, 2560] ![256, 512] inb_S256x3072_S256x512_0_2560))
      (View.ld w (Rect.unit (s := S7424x1024) ![6912, 0] ![512, 1024] inb_S7424x1024_S512x1024_6912_0)) x7 x9) x8 (ix2 r j)
      = ((Cert.Dh.dx (X r) g (D r) W j + Y r j : ℝ) : EReal) :=
  pay1_read r j (pay7_read T.x r) (pay9_read r j (T.dh r j) T.g) (pay10_read T.x r j fun l => pay9_read r l (T.dh r l) T.g) (T.y r j)

/-- The gain's gradient of the tile. -/
theorem IsTile.dg (T : IsTile x0 x1 x2 x3 x4 x5 x6 x7 x8 x9 w D W X Y g) (j : Fin 1024) (s : Vec Ideal S1x1024 .f32) :
    k0_pay2 (k0_pay6 (part x0 x1 x2 x3 x4 x5 x6 w) (View.ld x6 (Rect.unit (s := S256x3072) ![0, 1024] ![256, 512] inb_S256x3072_S256x512_0_1024))
      (View.ld w (Rect.unit (s := S7424x1024) ![5376, 0] ![512, 1024] inb_S7424x1024_S512x1024_5376_0)) (View.ld x6 (Rect.unit (s := S256x3072) ![0, 1536] ![256, 512] inb_S256x3072_S256x512_0_1536))
      (View.ld w (Rect.unit (s := S7424x1024) ![5888, 0] ![512, 1024] inb_S7424x1024_S512x1024_5888_0)) (View.ld x6 (Rect.unit (s := S256x3072) ![0, 2048] ![256, 512] inb_S256x3072_S256x512_0_2048))
      (View.ld w (Rect.unit (s := S7424x1024) ![6400, 0] ![512, 1024] inb_S7424x1024_S512x1024_6400_0)) (View.ld x6 (Rect.unit (s := S256x3072) ![0, 2560] ![256, 512] inb_S256x3072_S256x512_0_2560))
      (View.ld w (Rect.unit (s := S7424x1024) ![6912, 0] ![512, 1024] inb_S7424x1024_S512x1024_6912_0)))
      (k0_pay8 x7) s (ix2 0 j)
      = s (ix2 0 j) + ((∑ r, Cert.Dh.dh (D r) W j * xn (X r) j : ℝ) : EReal) :=
  pay2_read j (fun r => T.dh r j) (fun r => pay8_read T.x r j)

end Tile

theorem zero_fill (i : S1x1024.Idx) : k0_pay3 (F := Ideal) i = 0 := by
  unfold k0_pay3
  pointwise []

/-- Case A copies the weights into the scratch. -/
theorem sout_A (c : Dev nD) (i : grid0.Coords)
    (arg1 : Memref sig .tc .vmem S256x2048 .bf16) (harg1 : arg1.IsWhole) (arg2 : Memref sig .tc .vmem S256x512 .bf16) (harg2 : arg2.IsWhole)
    (arg3 : Memref sig .tc .vmem S256x256 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .bf16) (harg6 : arg6.IsWhole)
    (arg7 : Memref sig .tc .vmem S256x3072 .bf16) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S1x1024 .f32) (harg10 : arg10.IsWhole)
    (arg12 : Memref sig .tc .vmem S256x1024 .f32) (harg12 : arg12.IsWhole) (arg13 : Memref sig .tc .vmem S1x1024 .f32) (harg13 : arg13.IsWhole)
    (arg14 : Memref sig .tc .vmem S7424x1024 .bf16) (harg14 : arg14.IsWhole)
    (hc0 : cond0_0 i) (hc1 : cond0_1 i)
    (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (fh0 : HbBuf0 (F := Ideal) c hbM0_0) :
    sout0_A_0 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0 = fh0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0)]
  unfold kernelRun0_A
  dsimp only
  sl_unfold_words
  exact canon_whole _

/-- Case A: the gradient of the rows. -/
theorem out_A_10 (c : Dev nD) (i : grid0.Coords)
    (arg1 : Memref sig .tc .vmem S256x2048 .bf16) (harg1 : arg1.IsWhole) (arg2 : Memref sig .tc .vmem S256x512 .bf16) (harg2 : arg2.IsWhole)
    (arg3 : Memref sig .tc .vmem S256x256 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .bf16) (harg6 : arg6.IsWhole)
    (arg7 : Memref sig .tc .vmem S256x3072 .bf16) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S1x1024 .f32) (harg10 : arg10.IsWhole)
    (arg12 : Memref sig .tc .vmem S256x1024 .f32) (harg12 : arg12.IsWhole) (arg13 : Memref sig .tc .vmem S1x1024 .f32) (harg13 : arg13.IsWhole)
    (arg14 : Memref sig .tc .vmem S7424x1024 .bf16) (harg14 : arg14.IsWhole)
    (hc0 : cond0_0 i) (hc1 : cond0_1 i)
    (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (fh0 : HbBuf0 (F := Ideal) c hbM0_0)
    (D : Fin 256 → Fin 7424 → ℝ) (W : Fin 7424 → Fin 1024 → ℝ) (X Y : Fin 256 → Fin 1024 → ℝ) (g : Fin 1024 → ℝ)
    (T : IsTile x0 x1 x2 x3 x4 x5 x6 x7 x8 x9 fh0 D W X Y g) (r : Fin 256) (j : Fin 1024) :
    out0_A_10 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0 (ix2 r j)
      = ((Cert.Dh.dx (X r) g (D r) W j + Y r j : ℝ) : EReal) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x512) hz2, View.ld_unit_zero (S := S256x256) hz2, View.ld_unit_zero (S := S256x1024) hz2, View.ld_unit_zero (S := S1x1024) hz2, readCov_whole]
  rw [View.canon_unit_zero (S := S256x1024) hz2]
  exact T.dx r j

/-- Case A: the gain's gradient. -/
theorem out_A_11 (c : Dev nD) (i : grid0.Coords)
    (arg1 : Memref sig .tc .vmem S256x2048 .bf16) (harg1 : arg1.IsWhole) (arg2 : Memref sig .tc .vmem S256x512 .bf16) (harg2 : arg2.IsWhole)
    (arg3 : Memref sig .tc .vmem S256x256 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .bf16) (harg6 : arg6.IsWhole)
    (arg7 : Memref sig .tc .vmem S256x3072 .bf16) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S1x1024 .f32) (harg10 : arg10.IsWhole)
    (arg12 : Memref sig .tc .vmem S256x1024 .f32) (harg12 : arg12.IsWhole) (arg13 : Memref sig .tc .vmem S1x1024 .f32) (harg13 : arg13.IsWhole)
    (arg14 : Memref sig .tc .vmem S7424x1024 .bf16) (harg14 : arg14.IsWhole)
    (hc0 : cond0_0 i) (hc1 : cond0_1 i)
    (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (fh0 : HbBuf0 (F := Ideal) c hbM0_0)
    (D : Fin 256 → Fin 7424 → ℝ) (W : Fin 7424 → Fin 1024 → ℝ) (X Y : Fin 256 → Fin 1024 → ℝ) (g : Fin 1024 → ℝ)
    (T : IsTile x0 x1 x2 x3 x4 x5 x6 x7 x8 x9 fh0 D W X Y g) (j : Fin 1024) :
    out0_A_11 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0 (ix2 0 j)
      = 0 + ((∑ r, Cert.Dh.dh (D r) W j * xn (X r) j : ℝ) : EReal) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 fh0)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x512) hz2, View.ld_unit_zero (S := S256x256) hz2, View.ld_unit_zero (S := S256x1024) hz2, View.ld_unit_zero (S := S1x1024) hz2, readCov_whole]
  rw [View.canon_cons_unit_zero (S := S1x1024) hz2]
  refine (T.dg j _).trans (congrArg (· + _) ?_)
  rw [View.readCov_unit_zero (S := S1x1024) _ hz2]
  exact zero_fill _

/-- Case B: the gradient of the rows. -/
theorem out_B_10 (c : Dev nD) (i : grid0.Coords)
    (arg1 : Memref sig .tc .vmem S256x2048 .bf16) (harg1 : arg1.IsWhole) (arg2 : Memref sig .tc .vmem S256x512 .bf16) (harg2 : arg2.IsWhole)
    (arg3 : Memref sig .tc .vmem S256x256 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .bf16) (harg6 : arg6.IsWhole)
    (arg7 : Memref sig .tc .vmem S256x3072 .bf16) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S1x1024 .f32) (harg10 : arg10.IsWhole)
    (arg12 : Memref sig .tc .vmem S256x1024 .f32) (harg12 : arg12.IsWhole) (arg13 : Memref sig .tc .vmem S1x1024 .f32) (harg13 : arg13.IsWhole)
    (arg14 : Memref sig .tc .vmem S7424x1024 .bf16) (harg14 : arg14.IsWhole)
    (hc0 : ¬cond0_0 i) (hc1 : ¬cond0_1 i)
    (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (xo11 : Vec Ideal S1x1024 .f32) (xs0 : Vec Ideal S7424x1024 .bf16) (fh0 : HbBuf0 (F := Ideal) c hbM0_0)
    (D : Fin 256 → Fin 7424 → ℝ) (W : Fin 7424 → Fin 1024 → ℝ) (X Y : Fin 256 → Fin 1024 → ℝ) (g : Fin 1024 → ℝ)
    (T : IsTile x0 x1 x2 x3 x4 x5 x6 x7 x8 x9 xs0 D W X Y g) (r : Fin 256) (j : Fin 1024) :
    out0_B_10 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 xo11 xs0 fh0 (ix2 r j)
      = ((Cert.Dh.dx (X r) g (D r) W j + Y r j : ℝ) : EReal) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 xo11 xs0 fh0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, View.ld_unit_zero (S := S256x512) hz2, View.ld_unit_zero (S := S256x256) hz2, View.ld_unit_zero (S := S256x1024) hz2, View.ld_unit_zero (S := S1x1024) hz2]
  rw [View.canon_unit_zero (S := S256x1024) hz2]
  exact T.dx r j

/-- Case B: the gain's gradient. -/
theorem out_B_11 (c : Dev nD) (i : grid0.Coords)
    (arg1 : Memref sig .tc .vmem S256x2048 .bf16) (harg1 : arg1.IsWhole) (arg2 : Memref sig .tc .vmem S256x512 .bf16) (harg2 : arg2.IsWhole)
    (arg3 : Memref sig .tc .vmem S256x256 .bf16) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .bf16) (harg6 : arg6.IsWhole)
    (arg7 : Memref sig .tc .vmem S256x3072 .bf16) (harg7 : arg7.IsWhole) (arg8 : Memref sig .tc .vmem S256x1024 .f32) (harg8 : arg8.IsWhole)
    (arg9 : Memref sig .tc .vmem S256x1024 .f32) (harg9 : arg9.IsWhole) (arg10 : Memref sig .tc .vmem S1x1024 .f32) (harg10 : arg10.IsWhole)
    (arg12 : Memref sig .tc .vmem S256x1024 .f32) (harg12 : arg12.IsWhole) (arg13 : Memref sig .tc .vmem S1x1024 .f32) (harg13 : arg13.IsWhole)
    (arg14 : Memref sig .tc .vmem S7424x1024 .bf16) (harg14 : arg14.IsWhole)
    (hc0 : ¬cond0_0 i) (hc1 : ¬cond0_1 i)
    (x0 : Vec Ideal S256x2048 .bf16) (x1 : Vec Ideal S256x512 .bf16) (x2 : Vec Ideal S256x256 .bf16) (x3 x4 x5 : Vec Ideal S256x512 .bf16)
    (x6 : Vec Ideal S256x3072 .bf16) (x7 x8 : Vec Ideal S256x1024 .f32) (x9 : Vec Ideal S1x1024 .f32) (xo11 : Vec Ideal S1x1024 .f32) (xs0 : Vec Ideal S7424x1024 .bf16) (fh0 : HbBuf0 (F := Ideal) c hbM0_0)
    (D : Fin 256 → Fin 7424 → ℝ) (W : Fin 7424 → Fin 1024 → ℝ) (X Y : Fin 256 → Fin 1024 → ℝ) (g : Fin 1024 → ℝ)
    (T : IsTile x0 x1 x2 x3 x4 x5 x6 x7 x8 x9 xs0 D W X Y g) (j : Fin 1024) :
    out0_B_11 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 xo11 xs0 fh0 (ix2 0 j)
      = xo11 (ix2 0 j) + ((∑ r, Cert.Dh.dh (D r) W j * xn (X r) j : ℝ) : EReal) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg12 harg12 arg13 harg13 arg14 harg14 hc0 hc1 x0 x1 x2 x3 x4 x5 x6 x7 x8 x9 xo11 xs0 fh0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, harg14.read_unread, View.ld_unit_zero (S := S256x512) hz2, View.ld_unit_zero (S := S256x256) hz2, View.ld_unit_zero (S := S256x1024) hz2, View.ld_unit_zero (S := S1x1024) hz2]
  rw [View.canon_unit_zero (S := S1x1024) hz2]
  exact T.dg j _

end Cert.Kernel2Ideal.Gen

end
-- ==== Proof.DhKernel.lean ====
module

public import proofs.«01_k».proof.Proof.Gen.Kernel2Ideal.Value
public import proofs.«01_k».proof.Proof.DhTile
public import Idealize.ShloMosaic.Lib.Pipeline.ValueKit

/-!
# What the kernel's two result arrays end holding

On real arguments: the gradient row by row, and the gain's gradient summed over the sixteen tiles of 256 rows.
-/

@[expose] public section

noncomputable section

open scoped BigOperators
open Idealize.ShloMosaic Idealize.SL.Sem

namespace Cert.Kernel2Ideal.Gen
open Cert.Dh

variable (m : (ℓ : Loc nD τ sig) → Buf (Elt Ideal) ℓ)

/-- The argument arrays of a device are real: the gradient `D` in its seven parts, the rows `X`, the residual's gradient `Y`, the
    gain `g`, and the weights, of which `W` is the transpose. -/
structure IsReal (c : Dev nD) (D : Fin 4096 → Fin 7424 → ℝ) (W : Fin 7424 → Fin 1024 → ℝ) (X Y : Fin 4096 → Fin 1024 → ℝ) (g : Fin 1024 → ℝ) : Prop where
  c0 : ∀ s (l : Fin 2048) (j : Fin 7424), j.val = 0 + l.val → m ((c.tc : Thread nD τ).loc main_arg0) (ix2 s l) = ((D s j : ℝ) : EReal)
  c1 : ∀ s (l : Fin 512) (j : Fin 7424), j.val = 2048 + l.val → m ((c.tc : Thread nD τ).loc main_arg1) (ix2 s l) = ((D s j : ℝ) : EReal)
  c2 : ∀ s (l : Fin 256) (j : Fin 7424), j.val = 2560 + l.val → m ((c.tc : Thread nD τ).loc main_arg2) (ix2 s l) = ((D s j : ℝ) : EReal)
  c3 : ∀ s (l : Fin 512) (j : Fin 7424), j.val = 2816 + l.val → m ((c.tc : Thread nD τ).loc main_arg3) (ix2 s l) = ((D s j : ℝ) : EReal)
  c4 : ∀ s (l : Fin 512) (j : Fin 7424), j.val = 3328 + l.val → m ((c.tc : Thread nD τ).loc main_arg4) (ix2 s l) = ((D s j : ℝ) : EReal)
  c5 : ∀ s (l : Fin 512) (j : Fin 7424), j.val = 3840 + l.val → m ((c.tc : Thread nD τ).loc main_arg5) (ix2 s l) = ((D s j : ℝ) : EReal)
  c6 : ∀ s (l : Fin 3072) (j : Fin 7424), j.val = 4352 + l.val → m ((c.tc : Thread nD τ).loc main_arg6) (ix2 s l) = ((D s j : ℝ) : EReal)
  x : ∀ s j, m ((c.tc : Thread nD τ).loc main_arg7) (ix2 s j) = ((X s j : ℝ) : EReal)
  y : ∀ s j, m ((c.tc : Thread nD τ).loc main_arg8) (ix2 s j) = ((Y s j : ℝ) : EReal)
  g : ∀ j, m ((c.tc : Thread nD τ).loc main_arg9) (ix2 0 j) = ((g j : ℝ) : EReal)
  w : ∀ j k, m ((c.tc : Thread nD τ).loc main_arg10) (ix2 j k) = ((W k j : ℝ) : EReal)

/-- Row `r` of tile `t`. -/
def row (t : Fin cfg0.N) (r : Fin 256) : Fin 4096 := ⟨256 * t.val + r.val, by have : t.val < 16 := t.isLt; omega⟩

/-- Where each window's block lies at point `t`, in blocks. -/
theorem idx (t : Fin cfg0.N) :
    (win0_0.index t = ![t.val, 0] ∧ win0_1.index t = ![t.val, 0] ∧ win0_2.index t = ![t.val, 0] ∧ win0_3.index t = ![t.val, 0]) ∧
    (win0_4.index t = ![t.val, 0] ∧ win0_5.index t = ![t.val, 0] ∧ win0_6.index t = ![t.val, 0] ∧ win0_7.index t = ![t.val, 0]) ∧
    (win0_8.index t = ![t.val, 0] ∧ win0_9.index t = ![0, 0] ∧ win0_10.index t = ![t.val, 0] ∧ win0_11.index t = ![0, 0]) := by
  revert t; decide +kernel

/-- The weights as the region finds them: the argument transposed. -/
theorem V_weights (c : Dev nD) (k : Fin 7424) (j : Fin 1024) : V m c main_v1 (ix2 k j) = m ((c.tc : Thread nD τ).loc main_arg10) (ix2 j k) := by
  show StableHlo.after hostOps0 _ _ _ = _
  unfold hostOps0
  simp only [List.flatten_cons, List.flatten_nil, List.append_nil, List.cons_append, List.nil_append]
  rw [StableHlo.after_cons, StableHlo.after_cons, StableHlo.after_nil, StableHlo.unary_result, StableHlo.unary_result]
  pointwise []

/-- The blocks of a point, on real arguments: 256 rows of every array, the gain and the weights whole. -/
theorem isTile {c : Dev nD} {D : Fin 4096 → Fin 7424 → ℝ} {W : Fin 7424 → Fin 1024 → ℝ} {X Y : Fin 4096 → Fin 1024 → ℝ} {g : Fin 1024 → ℝ} (R : IsReal m c D W X Y g) (t : Fin cfg0.N) :
    IsTile (iblk m c 0 t) (iblk m c 1 t) (iblk m c 2 t) (iblk m c 3 t) (iblk m c 4 t) (iblk m c 5 t) (iblk m c 6 t) (iblk m c 7 t) (iblk m c 8 t)
      (iblk m c 9 t) (V m c main_v1) (fun r => D (row t r)) W (fun r => X (row t r)) (fun r => Y (row t r)) g := by
  obtain ⟨⟨e0, e1, e2, e3⟩, ⟨e4, e5, e6, e7⟩, e8, e9, -, -⟩ := idx t
  refine ⟨fun r l => ?_, fun r l => ?_, fun r l => ?_, fun r l => ?_, fun r l => ?_, fun r l => ?_, fun r l => ?_, fun r l => ?_, fun r l => ?_, fun l => ?_,
    fun k j => (V_weights m c k j).trans (R.w j k)⟩
  · refine Eq.trans ?_ (R.c0 (row t r) l _ rfl)
    unfold iblk
    rw [View.read_apply]
    show V m c main_arg0 _ = _
    rw [V_main_arg0]
    congr 1
    blk_ext [e0, row]
  · refine Eq.trans ?_ (R.c1 (row t r) l _ rfl)
    unfold iblk
    rw [View.read_apply]
    show V m c main_arg1 _ = _
    rw [V_main_arg1]
    congr 1
    blk_ext [e1, row]
  · refine Eq.trans ?_ (R.c2 (row t r) l _ rfl)
    unfold iblk
    rw [View.read_apply]
    show V m c main_arg2 _ = _
    rw [V_main_arg2]
    congr 1
    blk_ext [e2, row]
  · refine Eq.trans ?_ (R.c3 (row t r) l _ rfl)
    unfold iblk
    rw [View.read_apply]
    show V m c main_arg3 _ = _
    rw [V_main_arg3]
    congr 1
    blk_ext [e3, row]
  · refine Eq.trans ?_ (R.c4 (row t r) l _ rfl)
    unfold iblk
    rw [View.read_apply]
    show V m c main_arg4 _ = _
    rw [V_main_arg4]
    congr 1
    blk_ext [e4, row]
  · refine Eq.trans ?_ (R.c5 (row t r) l _ rfl)
    unfold iblk
    rw [View.read_apply]
    show V m c main_arg5 _ = _
    rw [V_main_arg5]
    congr 1
    blk_ext [e5, row]
  · refine Eq.trans ?_ (R.c6 (row t r) l _ rfl)
    unfold iblk
    rw [View.read_apply]
    show V m c main_arg6 _ = _
    rw [V_main_arg6]
    congr 1
    blk_ext [e6, row]
  · refine Eq.trans ?_ (R.x (row t r) l)
    unfold iblk
    rw [View.read_apply]
    show V m c main_arg7 _ = _
    rw [V_main_arg7]
    congr 1
    blk_ext [e7, row]
  · refine Eq.trans ?_ (R.y (row t r) l)
    unfold iblk
    rw [View.read_apply]
    show V m c main_arg8 _ = _
    rw [V_main_arg8]
    congr 1
    blk_ext [e8, row]
  · refine Eq.trans ?_ (R.g l)
    unfold iblk
    rw [View.read_apply]
    show V m c main_arg9 _ = _
    rw [V_main_arg9]
    congr 1
    blk_ext [e9]

/-- The scratch holds the weights from the first point on. -/
theorem scratch (c : Dev nD) : ∀ (n : ℕ) (h : n < cfg0.N), (outsAt0 m c n h).2.2 = V m c main_v1 := by
  intro n
  induction n with
  | zero =>
    intro h
    rw [show outsAt0 m c 0 h = _ from outsAt0_A m c ⟨0, h⟩ rfl rfl]
    dsimp only
    exact sout_A c _ _ _ _ _ _ _ _ _ _ _ _ _ _ _ _ _ _ _ _ _ _ _ _ _ _ _ _ _ _ _ _ _ _ _ _ _ _ _ _
  | succ n ih =>
    intro h
    have hN : n + 1 < 16 := h
    rw [show outsAt0 m c (n + 1) h = _ from outsAt0_B m c ⟨n + 1, h⟩ (by show ¬(n + 1) % 16 = 0; omega) (by show ¬(n + 1) % 16 = 0; omega)]
    dsimp only
    unfold sout0_B_0
    exact ih _

/-- What every point leaves in the gradient's block, on real arguments. -/
theorem outs10 {c : Dev nD} {D : Fin 4096 → Fin 7424 → ℝ} {W : Fin 7424 → Fin 1024 → ℝ} {X Y : Fin 4096 → Fin 1024 → ℝ} {g : Fin 1024 → ℝ} (R : IsReal m c D W X Y g) (t : Fin cfg0.N) (r : Fin 256) (j : Fin 1024) :
    (outsAt0 m c t.val t.isLt).1 (ix2 r j) = ((dx (X (row t r)) g (D (row t r)) W j + Y (row t r) j : ℝ) : EReal) := by
  by_cases h : t.val % 16 = 0
  · rw [outsAt0_A m c t h h]
    dsimp only
    exact out_A_10 c _ _ _ _ _ _ _ _ _ _ _ _ _ _ _ _ _ _ _ _ _ _ _ _ _ _ _ _ _ _ _ _ _ _ _ _ _ _ _ _ (fun r => D (row t r)) W (fun r => X (row t r)) (fun r => Y (row t r)) g (isTile m R t) r j
  · rw [outsAt0_B m c t h h]
    dsimp only
    refine out_B_10 c _ _ _ _ _ _ _ _ _ _ _ _ _ _ _ _ _ _ _ _ _ _ _ _ _ _ _ _ _ _ _ _ _ _ _ _ _ _ _ _ _ _ (fun r => D (row t r)) W (fun r => X (row t r)) (fun r => Y (row t r)) g ?_ r j
    rw [scratch]
    exact isTile m R t

/-- What tile `t` adds to the gain's gradient. -/
def tileG (D : Fin 4096 → Fin 7424 → ℝ) (W : Fin 7424 → Fin 1024 → ℝ) (X : Fin 4096 → Fin 1024 → ℝ) (t : Fin cfg0.N) (j : Fin 1024) : ℝ :=
  ∑ r, dh (D (row t r)) W j * xn (X (row t r)) j

/-- The tiles' contributions add up to that of all rows. -/
theorem sum_tileG (D : Fin 4096 → Fin 7424 → ℝ) (W : Fin 7424 → Fin 1024 → ℝ) (X : Fin 4096 → Fin 1024 → ℝ) (j : Fin 1024) :
    ∑ t : Fin cfg0.N, tileG D W X t j = ∑ s, dh (D s) W j * xn (X s) j := by
  have split : ∀ f : Fin 4096 → ℝ, ∑ t : Fin cfg0.N, ∑ r : Fin 256, f (row t r) = ∑ s, f s := by
    intro f
    show ∑ t : Fin 16, ∑ r : Fin 256, f (row t r) = ∑ s, f s
    rw [← Fintype.sum_prod_type', ← (finProdFinEquiv (m := 16) (n := 256)).sum_comp]
    refine Finset.sum_congr rfl fun p _ => congrArg f (Fin.ext ?_)
    show 256 * p.1.val + p.2.val = p.2.val + 256 * p.1.val
    omega
  exact split fun s => dh (D s) W j * xn (X s) j

/-- The accumulated block after the last point. -/
theorem outs11 {c : Dev nD} {D : Fin 4096 → Fin 7424 → ℝ} {W : Fin 7424 → Fin 1024 → ℝ} {X Y : Fin 4096 → Fin 1024 → ℝ} {g : Fin 1024 → ℝ} (R : IsReal m c D W X Y g) (i : Fin 1) (j : Fin 1024) :
    (outsAt0 m c t0_15.val t0_15.isLt).2.1 (ix2 i j) = ((∑ s, dh (D s) W j * xn (X s) j : ℝ) : EReal) := by
  obtain rfl : i = 0 := Subsingleton.elim _ _
  rw [← sum_tileG, ← Cert.Mem.coe_sum]
  have H := Pipeline.eq_sum_fin_of_reset_step_apply_last (N := cfg0.N) (fun n h (x : Fin 1024) => (outsAt0 m c n h).2.1 (ix2 0 x)) 16
    (fun _ => (0 : EReal)) (fun t x => ((tileG D W X t x : ℝ) : EReal))
    (fun t h x => by
      rw [outsAt0_A m c t h h]
      dsimp only
      exact out_A_11 c _ _ _ _ _ _ _ _ _ _ _ _ _ _ _ _ _ _ _ _ _ _ _ _ _ _ _ _ _ _ _ _ _ _ _ _ _ _ _ _ (fun r => D (row t r)) W (fun r => X (row t r)) (fun r => Y (row t r)) g (isTile m R t) x)
    (fun t h x => by
      rw [outsAt0_B m c t h h]
      dsimp only
      refine out_B_11 c _ _ _ _ _ _ _ _ _ _ _ _ _ _ _ _ _ _ _ _ _ _ _ _ _ _ _ _ _ _ _ _ _ _ _ _ _ _ _ _ _ _ (fun r => D (row t r)) W (fun r => X (row t r)) (fun r => Y (row t r)) g ?_ x
      rw [scratch]
      exact isTile m R t)
    (le_of_eq N_0) t0_15 rfl j
  exact H.trans (zero_add _)

/-- The two result arrays, on real arguments. -/
theorem final10 {c : Dev nD} {D : Fin 4096 → Fin 7424 → ℝ} {W : Fin 7424 → Fin 1024 → ℝ} {X Y : Fin 4096 → Fin 1024 → ℝ} {g : Fin 1024 → ℝ} (R : IsReal m c D W X Y g) :
    (dats m 0 c).arrAt 10 cfg0.N = fun x : S4096x1024.Idx => ((dx (X (x 0)) g (D (x 0)) W (x 1) + Y (x 0) (x 1) : ℝ) : EReal) := by
  refine (dats m 0 c).arrAt_eq_of_covers 10 _ (by decide +kernel) fun t _ y => ?_
  have e := (idx t).2.2.2.2.1
  blk_simp
  rw [after0_10]
  have hy : y = ix2 (y 0 : Fin 256) (y 1 : Fin 1024) := eq_ix2 y
  have h0 : (win0_10.blk t).view.emb y 0 = row t (y 0) := Fin.ext (by blk_simp [e]; show t.val * 256 + (y 0).val = 256 * t.val + (y 0).val; omega)
  have h1 : (win0_10.blk t).view.emb y 1 = (y 1 : Fin 1024) := Fin.ext (by blk_simp [e])
  rw [h0, h1, hy]
  exact outs10 m R t (y 0) (y 1)

theorem final11 {c : Dev nD} {D : Fin 4096 → Fin 7424 → ℝ} {W : Fin 7424 → Fin 1024 → ℝ} {X Y : Fin 4096 → Fin 1024 → ℝ} {g : Fin 1024 → ℝ} (R : IsReal m c D W X Y g) :
    (dats m 0 c).arrAt 11 cfg0.N = fun x : S1x1024.Idx => ((∑ s, dh (D s) W (x 1) * xn (X s) (x 1) : ℝ) : EReal) := by
  refine (dats m 0 c).arrAt_eq_of_after_last 11 t0_15 (by decide +kernel) _ fun j => ?_
  rw [after0_11]
  have hy : (fun a => ⟨j a, (show (cfg0.win 11).WholeAt t0_15 by decide +kernel).lt_size j a⟩ : ((cfg0.win 11).block).Idx) = ix2 (j 0 : Fin 1) (j 1 : Fin 1024) :=
    eq_ix2 _
  refine Eq.trans (congrArg (outsAt0 m c t0_15.val t0_15.isLt).2.1 hy) ?_
  exact outs11 m R (j 0) (j 1)

end Cert.Kernel2Ideal.Gen

end
-- ==== Proof.DhReference.lean ====
module

public import proofs.«01_k».proof.Proof.Gen.Reference2Ideal.Read
public import proofs.«01_k».proof.Proof.MemMath
public import proofs.«01_k».proof.Proof.DhMath
public import Idealize.ShloMosaic.Lib.Pointwise
public import Idealize.ShloMosaic.Lib.Pipeline.ValueKit

/-!
# What the reference computes on real arguments

The reference is the derivative of the normalisation and the input projection, operation by operation.  Each operation that
reaches a result is read here at an index, as the real number it holds.
-/

@[expose] public section

noncomputable section

open scoped BigOperators
open Idealize.ShloMosaic Idealize.SL.Sem

namespace Cert.Reference2Ideal.Read
open Cert.Reference2Ideal Cert.Reference2Ideal.Gen Cert.Dh Cert.Mem

variable [Facts]

/-- The argument arrays are real: the gradient `D` in its seven parts, the rows `X`, the residual's gradient `Y`, the gain `g`, and
    the weights, of which `W` is the transpose. -/
structure AreReal (x0 : Vec Ideal S4096x2048 .bf16) (x1 : Vec Ideal S4096x512 .bf16) (x2 : Vec Ideal S4096x256 .bf16) (x3 x4 x5 : Vec Ideal S4096x512 .bf16)
    (x6 : Vec Ideal S4096x3072 .bf16) (x7 x8 : Vec Ideal S4096x1024 .f32) (x9 : Vec Ideal S1x1024 .f32) (x10 : Vec Ideal S1024x7424 .f32)
    (D : Fin 4096 → Fin 7424 → ℝ) (W : Fin 7424 → Fin 1024 → ℝ) (X Y : Fin 4096 → Fin 1024 → ℝ) (g : Fin 1024 → ℝ) : Prop where
  c0 : ∀ s (l : Fin 2048) (j : Fin 7424), j.val = 0 + l.val → x0 (ix2 s l) = ((D s j : ℝ) : EReal)
  c1 : ∀ s (l : Fin 512) (j : Fin 7424), j.val = 2048 + l.val → x1 (ix2 s l) = ((D s j : ℝ) : EReal)
  c2 : ∀ s (l : Fin 256) (j : Fin 7424), j.val = 2560 + l.val → x2 (ix2 s l) = ((D s j : ℝ) : EReal)
  c3 : ∀ s (l : Fin 512) (j : Fin 7424), j.val = 2816 + l.val → x3 (ix2 s l) = ((D s j : ℝ) : EReal)
  c4 : ∀ s (l : Fin 512) (j : Fin 7424), j.val = 3328 + l.val → x4 (ix2 s l) = ((D s j : ℝ) : EReal)
  c5 : ∀ s (l : Fin 512) (j : Fin 7424), j.val = 3840 + l.val → x5 (ix2 s l) = ((D s j : ℝ) : EReal)
  c6 : ∀ s (l : Fin 3072) (j : Fin 7424), j.val = 4352 + l.val → x6 (ix2 s l) = ((D s j : ℝ) : EReal)
  x : ∀ s j, x7 (ix2 s j) = ((X s j : ℝ) : EReal)
  y : ∀ s j, x8 (ix2 s j) = ((Y s j : ℝ) : EReal)
  g : ∀ j, x9 (ix2 0 j) = ((g j : ℝ) : EReal)
  w : ∀ j k, x10 (ix2 j k) = ((W k j : ℝ) : EReal)

section Stages

variable {x0 : Vec Ideal S4096x2048 .bf16} {x1 : Vec Ideal S4096x512 .bf16} {x2 : Vec Ideal S4096x256 .bf16} {x3 x4 x5 : Vec Ideal S4096x512 .bf16}
  {x6 : Vec Ideal S4096x3072 .bf16} {x7 x8 : Vec Ideal S4096x1024 .f32} {x9 : Vec Ideal S1x1024 .f32} {x10 : Vec Ideal S1024x7424 .f32}
  {D : Fin 4096 → Fin 7424 → ℝ} {W : Fin 7424 → Fin 1024 → ℝ} {X Y : Fin 4096 → Fin 1024 → ℝ} {g : Fin 1024 → ℝ}
  (R : AreReal x0 x1 x2 x3 x4 x5 x6 x7 x8 x9 x10 D W X Y g)

include R

/-! ### The normalisation -/

theorem rows (i : S4096x1024.Idx) : x7 i = ((X (i 0) (i 1) : ℝ) : EReal) := by rw [eq_ix2 i]; exact R.x _ _

theorem squares (i : S4096.Idx) : val_main_v8 (F := Ideal) x7 i = ((∑ j, X (i 0) j * X (i 0) j : ℝ) : EReal) := by
  rw [val_main_v8_apply, val_main_cst_apply]
  simp only [val_main_v7_apply, rows R]
  show Ideal.ofBits .f32 0x00000000#32 + (∑ k : Fin 1024, ((X (i 0) k : ℝ) : EReal) * ((X (i 0) k : ℝ) : EReal)) = _
  rw [Ideal.ofBits_zero, sum_mul_coe]
  exact zero_add _

theorem meanSquare (i : S4096x1.Idx) : val_main_v13 (F := Ideal) x7 i = ((ms (X (i 0)) : ℝ) : EReal) := by
  rw [val_main_v13_apply, val_main_v11_apply, val_main_v9_apply, squares R, val_main_v10_apply, val_main_cst_0_apply, val_main_v12_apply, val_main_cst_1_apply]
  show Ideal.div _ (Ideal.ofBits .f32 0x44800000#32) + Ideal.ofBits .f32 0x358637BD#32 = _
  rw [bits_1024, eps_bits, div_1024]
  exact (EReal.coe_add _ _).symm

theorem factor (i : S4096x1.Idx) : val_main_v14 (F := Ideal) x7 i = ((rs (X (i 0)) : ℝ) : EReal) := by
  rw [val_main_v14_apply, meanSquare R]
  exact rsqrt_ms _

theorem slope (i : S4096x1.Idx) : val_main_v17 (F := Ideal) x7 i = ((-(1 / 2) * (rs (X (i 0)) / ms (X (i 0))) : ℝ) : EReal) := by
  rw [val_main_v17_apply, val_main_v16_apply, val_main_cst_2_apply, val_main_v15_apply, factor R, meanSquare R]
  show Ideal.ofBits .f32 0xBF000000#32 * Ideal.div _ _ = _
  rw [bits_neg_half, Ideal.div_coe (ms_pos _).ne', ← EReal.coe_mul, ← EReal.coe_mul, mul_one_div]

theorem normed (i : S4096x1024.Idx) : val_main_v19 (F := Ideal) x7 i = ((xn (X (i 0)) (i 1) : ℝ) : EReal) := by
  rw [val_main_v19_apply, val_main_v18_apply, factor R, rows R]
  exact (EReal.coe_mul _ _).symm

/-! ### The projection's gradient -/

/-- The seven parts side by side are the gradient. -/
theorem grad (s : Fin 4096) (k : Fin 7424) : val_main_v30 (F := Ideal) x0 x1 x2 x3 x4 x5 x6 (ix2 s k) = ((D s k : ℝ) : EReal) := by
  have hk := k.isLt
  unfold val_main_v30
  pointwise []
  split_ifs
  all_goals first
    | exact R.c0 s _ k (by dsimp only; omega)
    | exact R.c1 s _ k (by dsimp only; omega)
    | exact R.c2 s _ k (by dsimp only; omega)
    | exact R.c3 s _ k (by dsimp only; omega)
    | exact R.c4 s _ k (by dsimp only; omega)
    | exact R.c5 s _ k (by dsimp only; omega)
    | exact R.c6 s _ k (by dsimp only; omega)

theorem grad' (i : S4096x7424.Idx) : val_main_v30 (F := Ideal) x0 x1 x2 x3 x4 x5 x6 i = ((D (i 0) (i 1) : ℝ) : EReal) := by
  rw [eq_ix2 i]; exact grad R _ _

theorem weights (i : S1024x7424.Idx) : x10 i = ((W (i 1) (i 0) : ℝ) : EReal) := by rw [eq_ix2 i]; exact R.w _ _

theorem projected (i : S4096x1024.Idx) : val_main_v31 (F := Ideal) x0 x1 x2 x3 x4 x5 x6 x10 i = ((dh (D (i 0)) W (i 1) : ℝ) : EReal) := by
  rw [val_main_v31_apply]
  simp only [grad' R, weights R]
  rw [sum_mul_coe]
  rfl

theorem gain (i : S1x1024.Idx) : val_main_v34 (F := Ideal) x0 x1 x2 x3 x4 x5 x6 x7 x10 i = ((∑ s, dh (D s) W (i 1) * xn (X s) (i 1) : ℝ) : EReal) := by
  have e : (idx_main_v34 i) 0 = (i 1 : Fin 1024) := by ext; blk_simp [idx_main_v34]
  rw [val_main_v34_apply, val_main_v33_apply, val_main_cst_3_apply]
  simp only [val_main_v32_apply, normed R, projected R]
  show Ideal.ofBits .f32 0x00000000#32 + (∑ k : Fin 4096, ((xn (X k) ((idx_main_v34 i) 0) : ℝ) : EReal) * ((dh (D k) W ((idx_main_v34 i) 0) : ℝ) : EReal)) = _
  rw [Ideal.ofBits_zero, sum_mul_coe, zero_add, e]
  exact congrArg (fun e : ℝ => (e : EReal)) (Finset.sum_congr rfl fun s _ => mul_comm _ _)

theorem inner (i : S4096x1024.Idx) : val_main_v36 (F := Ideal) x0 x1 x2 x3 x4 x5 x6 x9 x10 i = ((dn g (D (i 0)) W (i 1) : ℝ) : EReal) := by
  have e : idx_main_v35 i = ix2 (0 : Fin 1) (i 1 : Fin 1024) := by blk_ext [idx_main_v35]
  rw [val_main_v36_apply, projected R, val_main_v35_apply, e]
  exact (congrArg (((dh (D (i 0)) W (i 1) : ℝ) : EReal) * ·) (R.g (i 1))).trans (EReal.coe_mul _ _).symm

theorem inner_sum (i : S4096.Idx) : val_main_v38 (F := Ideal) x0 x1 x2 x3 x4 x5 x6 x7 x9 x10 i = ((∑ l, X (i 0) l * dn g (D (i 0)) W l : ℝ) : EReal) := by
  rw [val_main_v38_apply, val_main_cst_4_apply]
  simp only [val_main_v37_apply, inner R, rows R]
  show Ideal.ofBits .f32 0x00000000#32 + (∑ k : Fin 1024, ((X (i 0) k : ℝ) : EReal) * ((dn g (D (i 0)) W k : ℝ) : EReal)) = _
  rw [Ideal.ofBits_zero, sum_mul_coe]
  exact zero_add _

theorem correction (i : S4096.Idx) : val_main_v46 (F := Ideal) x0 x1 x2 x3 x4 x5 x6 x7 x9 x10 i
    = (((∑ l, X (i 0) l * dn g (D (i 0)) W l) * (-(1 / 2) * (rs (X (i 0)) / ms (X (i 0)))) / 1024 : ℝ) : EReal) := by
  rw [val_main_v46_apply, val_main_cst_6_apply, Fin.sum_univ_one]
  have e : (idx_main_v39 (idx_main_v46 i 0)) 0 = (i 0 : Fin 4096) := by ext; blk_simp [idx_main_v39, idx_main_v46]
  rw [val_main_v45_apply, val_main_v44_apply, val_main_cst_5_apply, val_main_v43_apply, val_main_v39_apply, inner_sum R, slope R, e]
  show Ideal.ofBits .f32 0x00000000#32 + Ideal.div (_ * _) (Ideal.ofBits .f32 0x44800000#32) = _
  rw [Ideal.ofBits_zero, bits_1024, ← EReal.coe_mul, div_1024]
  exact zero_add _

/-- The first result. -/
theorem result_x (i : S4096x1024.Idx) : val_main_v51 (F := Ideal) x0 x1 x2 x3 x4 x5 x6 x7 x8 x9 x10 i
    = ((dx (X (i 0)) g (D (i 0)) W (i 1) + Y (i 0) (i 1) : ℝ) : EReal) := by
  have hy : x8 i = ((Y (i 0) (i 1) : ℝ) : EReal) := by rw [eq_ix2 i]; exact R.y _ _
  rw [val_main_v51_apply, val_main_v49_apply, val_main_v42_apply, val_main_v41_apply, val_main_v40_apply, val_main_v48_apply, val_main_v50_apply,
    val_main_v47_apply, correction R, factor R, inner R, rows R, hy]
  show (((Y (i 0) (i 1) : ℝ) : EReal) + (_ : EReal) * _ + _ * _) + _ * _ = _
  simp only [← EReal.coe_mul, ← EReal.coe_add]
  exact congrArg (fun e : ℝ => (e : EReal)) (dx_ref (X (i 0)) g (D (i 0)) W (Y (i 0) (i 1)) (i 1))

end Stages

end Cert.Reference2Ideal.Read

end
-- ==== Proof.Glue.lean ====
module

public import Idealize.ShloMosaic.Lib.Pointwise

/-!
# Seven blocks of columns side by side

The widths are those of the projection's seven parts: 2048, 512, 256, 512, 512, 512 and 3072.
-/

@[expose] public section

namespace Cert.Glue

/-- Seven parts side by side. -/
def glue {α : Type} (C0 : Fin 4096 → Fin 2048 → α) (C1 : Fin 4096 → Fin 512 → α) (C2 : Fin 4096 → Fin 256 → α) (C3 C4 C5 : Fin 4096 → Fin 512 → α)
    (C6 : Fin 4096 → Fin 3072 → α) (s : Fin 4096) (j : Fin 7424) : α :=
  if h0 : j.val < 2048 then C0 s ⟨j.val, h0⟩
  else if h1 : j.val < 2560 then C1 s ⟨j.val - 2048, by omega⟩
  else if h2 : j.val < 2816 then C2 s ⟨j.val - 2560, by omega⟩
  else if h3 : j.val < 3328 then C3 s ⟨j.val - 2816, by omega⟩
  else if h4 : j.val < 3840 then C4 s ⟨j.val - 3328, by omega⟩
  else if h5 : j.val < 4352 then C5 s ⟨j.val - 3840, by omega⟩
  else C6 s ⟨j.val - 4352, by have := j.isLt; omega⟩

section

variable {α : Type} {C0 : Fin 4096 → Fin 2048 → α} {C1 : Fin 4096 → Fin 512 → α} {C2 : Fin 4096 → Fin 256 → α} {C3 C4 C5 : Fin 4096 → Fin 512 → α}
  {C6 : Fin 4096 → Fin 3072 → α}

theorem glue_0 (s : Fin 4096) (l : Fin 2048) (j : Fin 7424) (h : j.val = 0 + l.val) : glue C0 C1 C2 C3 C4 C5 C6 s j = C0 s l := by
  have := l.isLt
  unfold glue
  rw [dif_pos (by omega)]
  exact congrArg (C0 s) (Fin.ext (by dsimp only; omega))

theorem glue_1 (s : Fin 4096) (l : Fin 512) (j : Fin 7424) (h : j.val = 2048 + l.val) : glue C0 C1 C2 C3 C4 C5 C6 s j = C1 s l := by
  have := l.isLt
  unfold glue
  rw [dif_neg (by omega)]
  rw [dif_pos (by omega)]
  exact congrArg (C1 s) (Fin.ext (by dsimp only; omega))

theorem glue_2 (s : Fin 4096) (l : Fin 256) (j : Fin 7424) (h : j.val = 2560 + l.val) : glue C0 C1 C2 C3 C4 C5 C6 s j = C2 s l := by
  have := l.isLt
  unfold glue
  rw [dif_neg (by omega)]
  rw [dif_neg (by omega)]
  rw [dif_pos (by omega)]
  exact congrArg (C2 s) (Fin.ext (by dsimp only; omega))

theorem glue_3 (s : Fin 4096) (l : Fin 512) (j : Fin 7424) (h : j.val = 2816 + l.val) : glue C0 C1 C2 C3 C4 C5 C6 s j = C3 s l := by
  have := l.isLt
  unfold glue
  rw [dif_neg (by omega)]
  rw [dif_neg (by omega)]
  rw [dif_neg (by omega)]
  rw [dif_pos (by omega)]
  exact congrArg (C3 s) (Fin.ext (by dsimp only; omega))

theorem glue_4 (s : Fin 4096) (l : Fin 512) (j : Fin 7424) (h : j.val = 3328 + l.val) : glue C0 C1 C2 C3 C4 C5 C6 s j = C4 s l := by
  have := l.isLt
  unfold glue
  rw [dif_neg (by omega)]
  rw [dif_neg (by omega)]
  rw [dif_neg (by omega)]
  rw [dif_neg (by omega)]
  rw [dif_pos (by omega)]
  exact congrArg (C4 s) (Fin.ext (by dsimp only; omega))

theorem glue_5 (s : Fin 4096) (l : Fin 512) (j : Fin 7424) (h : j.val = 3840 + l.val) : glue C0 C1 C2 C3 C4 C5 C6 s j = C5 s l := by
  have := l.isLt
  unfold glue
  rw [dif_neg (by omega)]
  rw [dif_neg (by omega)]
  rw [dif_neg (by omega)]
  rw [dif_neg (by omega)]
  rw [dif_neg (by omega)]
  rw [dif_pos (by omega)]
  exact congrArg (C5 s) (Fin.ext (by dsimp only; omega))

theorem glue_6 (s : Fin 4096) (l : Fin 3072) (j : Fin 7424) (h : j.val = 4352 + l.val) : glue C0 C1 C2 C3 C4 C5 C6 s j = C6 s l := by
  have := l.isLt
  unfold glue
  rw [dif_neg (by omega)]
  rw [dif_neg (by omega)]
  rw [dif_neg (by omega)]
  rw [dif_neg (by omega)]
  rw [dif_neg (by omega)]
  rw [dif_neg (by omega)]
  exact congrArg (C6 s) (Fin.ext (by dsimp only; omega))

end

end Cert.Glue
-- ==== Proof.DhClaim.lean ====
module

public import proofs.«01_k».proof.Defs
public import proofs.«01_k».proof.Proof.Gen.Pre_finite2
public import proofs.«01_k».proof.Proof.DhKernel
public import proofs.«01_k».proof.Proof.DhReference
public import proofs.«01_k».proof.Proof.Finite
public import proofs.«01_k».proof.Proof.Glue

/-!
# The input projection's gradient: kernel and reference agree

On real arguments both runs end with the same two arrays.
-/

@[expose] public section

noncomputable section

namespace Cert.Dh
open Idealize.ShloMosaic Idealize.SL.Sem Cert.Glue

/-- The precondition makes every argument array real. -/
theorem isReal_of_pre (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    ∃ (D : Fin 4096 → Fin 7424 → ℝ) (W : Fin 7424 → Fin 1024 → ℝ) (X Y : Fin 4096 → Fin 1024 → ℝ) (g : Fin 1024 → ℝ),
      Cert.Kernel2Ideal.Gen.IsReal m c D W X Y g := by
  obtain ⟨h0, h1, h2, h3, h4, h5, h6, h7, h8, h9, h10⟩ := h c
  unfold Cert.Pre_finite2.fn Cert.Pre_finite2.fn_part1 Cert.Pre_finite2.fn_part2 at h0 h1 h2 h3 h4 h5 h6 h7 h8 h9 h10
  dsimp only at h0 h1 h2 h3 h4 h5 h6 h7 h8 h9 h10
  have r0 : ∀ i, ∃ r : ℝ, m ((c.tc : Thread Cert.Kernel2Ideal.nD Cert.Kernel2Ideal.τ).loc Cert.Kernel2Ideal.main_arg0) i = (r : EReal) := by
    intro i
    have := congrFun h0 i
    pointwise at this
    exact Cert.Mem.real_of_cmp _ this
  have r1 : ∀ i, ∃ r : ℝ, m ((c.tc : Thread Cert.Kernel2Ideal.nD Cert.Kernel2Ideal.τ).loc Cert.Kernel2Ideal.main_arg1) i = (r : EReal) := by
    intro i
    have := congrFun h1 i
    pointwise at this
    exact Cert.Mem.real_of_cmp _ this
  have r2 : ∀ i, ∃ r : ℝ, m ((c.tc : Thread Cert.Kernel2Ideal.nD Cert.Kernel2Ideal.τ).loc Cert.Kernel2Ideal.main_arg2) i = (r : EReal) := by
    intro i
    have := congrFun h2 i
    pointwise at this
    exact Cert.Mem.real_of_cmp _ this
  have r3 : ∀ i, ∃ r : ℝ, m ((c.tc : Thread Cert.Kernel2Ideal.nD Cert.Kernel2Ideal.τ).loc Cert.Kernel2Ideal.main_arg3) i = (r : EReal) := by
    intro i
    have := congrFun h3 i
    pointwise at this
    exact Cert.Mem.real_of_cmp _ this
  have r4 : ∀ i, ∃ r : ℝ, m ((c.tc : Thread Cert.Kernel2Ideal.nD Cert.Kernel2Ideal.τ).loc Cert.Kernel2Ideal.main_arg4) i = (r : EReal) := by
    intro i
    have := congrFun h4 i
    pointwise at this
    exact Cert.Mem.real_of_cmp _ this
  have r5 : ∀ i, ∃ r : ℝ, m ((c.tc : Thread Cert.Kernel2Ideal.nD Cert.Kernel2Ideal.τ).loc Cert.Kernel2Ideal.main_arg5) i = (r : EReal) := by
    intro i
    have := congrFun h5 i
    pointwise at this
    exact Cert.Mem.real_of_cmp _ this
  have r6 : ∀ i, ∃ r : ℝ, m ((c.tc : Thread Cert.Kernel2Ideal.nD Cert.Kernel2Ideal.τ).loc Cert.Kernel2Ideal.main_arg6) i = (r : EReal) := by
    intro i
    have := congrFun h6 i
    pointwise at this
    exact Cert.Mem.real_of_cmp _ this
  have r7 : ∀ i, ∃ r : ℝ, m ((c.tc : Thread Cert.Kernel2Ideal.nD Cert.Kernel2Ideal.τ).loc Cert.Kernel2Ideal.main_arg7) i = (r : EReal) := by
    intro i
    have := congrFun h7 i
    pointwise at this
    exact Cert.Mem.real_of_cmp _ this
  have r8 : ∀ i, ∃ r : ℝ, m ((c.tc : Thread Cert.Kernel2Ideal.nD Cert.Kernel2Ideal.τ).loc Cert.Kernel2Ideal.main_arg8) i = (r : EReal) := by
    intro i
    have := congrFun h8 i
    pointwise at this
    exact Cert.Mem.real_of_cmp _ this
  have r9 : ∀ i, ∃ r : ℝ, m ((c.tc : Thread Cert.Kernel2Ideal.nD Cert.Kernel2Ideal.τ).loc Cert.Kernel2Ideal.main_arg9) i = (r : EReal) := by
    intro i
    have := congrFun h9 i
    pointwise at this
    exact Cert.Mem.real_of_cmp _ this
  have r10 : ∀ i, ∃ r : ℝ, m ((c.tc : Thread Cert.Kernel2Ideal.nD Cert.Kernel2Ideal.τ).loc Cert.Kernel2Ideal.main_arg10) i = (r : EReal) := by
    intro i
    have := congrFun h10 i
    pointwise at this
    exact Cert.Mem.real_of_cmp _ this
  choose C0 e0 using r0
  choose C1 e1 using r1
  choose C2 e2 using r2
  choose C3 e3 using r3
  choose C4 e4 using r4
  choose C5 e5 using r5
  choose C6 e6 using r6
  choose C7 e7 using r7
  choose C8 e8 using r8
  choose C9 e9 using r9
  choose C10 e10 using r10
  refine ⟨glue (fun s l => C0 (ix2 s l)) (fun s l => C1 (ix2 s l)) (fun s l => C2 (ix2 s l)) (fun s l => C3 (ix2 s l)) (fun s l => C4 (ix2 s l)) (fun s l => C5 (ix2 s l)) (fun s l => C6 (ix2 s l)),
    fun k j => C10 (ix2 j k), fun s j => C7 (ix2 s j), fun s j => C8 (ix2 s j), fun j => C9 (ix2 0 j), ?_⟩
  refine ⟨?_, ?_, ?_, ?_, ?_, ?_, ?_, fun s j => e7 _, fun s j => e8 _, fun j => e9 _, fun j k => e10 _⟩
  · exact fun s l j hj => by rw [glue_0 s l j hj]; exact e0 _
  · exact fun s l j hj => by rw [glue_1 s l j hj]; exact e1 _
  · exact fun s l j hj => by rw [glue_2 s l j hj]; exact e2 _
  · exact fun s l j hj => by rw [glue_3 s l j hj]; exact e3 _
  · exact fun s l j hj => by rw [glue_4 s l j hj]; exact e4 _
  · exact fun s l j hj => by rw [glue_5 s l j hj]; exact e5 _
  · exact fun s l j hj => by rw [glue_6 s l j hj]; exact e6 _

theorem algebraic : Cert.algebraic_Kernel2Ideal_Reference2Ideal_pre_finite2 := by
  intro m g m' g' hpre hagree
  refine ⟨fun c => (Cert.Kernel2Ideal.Gen.dats m 0 c).arrAt 10 Cert.Kernel2Ideal.cfg0.N, fun c => (Cert.Kernel2Ideal.Gen.dats m 0 c).arrAt 11 Cert.Kernel2Ideal.cfg0.N,
    Cert.Kernel2Ideal.Value.run_blocks m g, ?_⟩
  refine (θ_run _ _ _).mono (fun r h c => ?_) (Cert.Reference2Ideal.Value.run m' g')
  obtain ⟨q0, q1, hargs⟩ := h c
  obtain ⟨a0, a1, a2, a3, a4, a5, a6, a7, a8, a9, a10⟩ := hagree c
  obtain ⟨D, W, X, Y, gn, R⟩ := isReal_of_pre m hpre c
  have R' : Cert.Reference2Ideal.Read.AreReal
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      D W X Y gn :=
    ⟨fun s l j hj => (congrFun a0 _).trans (R.c0 s l j hj),
      fun s l j hj => (congrFun a1 _).trans (R.c1 s l j hj),
      fun s l j hj => (congrFun a2 _).trans (R.c2 s l j hj),
      fun s l j hj => (congrFun a3 _).trans (R.c3 s l j hj),
      fun s l j hj => (congrFun a4 _).trans (R.c4 s l j hj),
      fun s l j hj => (congrFun a5 _).trans (R.c5 s l j hj),
      fun s l j hj => (congrFun a6 _).trans (R.c6 s l j hj),
      fun s j => (congrFun a7 _).trans (R.x s j),
      fun s j => (congrFun a8 _).trans (R.y s j),
      fun j => (congrFun a9 _).trans (R.g j),
      fun j k => (congrFun a10 _).trans (R.w j k)⟩
  refine ⟨q0.trans ?_, q1.trans ?_, hargs⟩
  · rw [Cert.Reference2Ideal.Read.val_main_v51_eq]
    exact (funext fun i => Cert.Reference2Ideal.Read.result_x R' i).trans (Cert.Kernel2Ideal.Gen.final10 m R).symm
  · rw [Cert.Reference2Ideal.Read.val_main_v34_eq]
    exact (funext fun i => Cert.Reference2Ideal.Read.gain R' i).trans (Cert.Kernel2Ideal.Gen.final11 m R).symm

end Cert.Dh

end
-- ==== Proof.GwFrames.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run

/-!
# The input projection's gradient in its weights: frames

Each program runs to its end, leaves its arguments as they were and every semaphore counter at zero.
-/

@[expose] public section

namespace Cert.Gw
open Idealize.ShloMosaic Idealize.SL.Sem

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Cert.Gw
-- ==== Proof.GwTile.lean ====
module

public import proofs.«01_k».proof.Proof.Gen.Kernel3Ideal.Frame
public import proofs.«01_k».proof.Proof.Slabs
public import Idealize.ShloMosaic.Lib.Pointwise

/-!
# What one grid point of the kernel leaves in its output block

The 256 columns of the part the point works on, transposed, times the whole of the activations; the activations are copied in at the
first point, and every later one finds them where the first left them.
-/

@[expose] public section

noncomputable section

open scoped BigOperators
open Idealize.ShloMosaic Idealize.SL.Sem

namespace Cert.Kernel3Ideal.Gen
open Cert.Slabs

/-- The point's product at an index. -/
theorem product (a : Vec Ideal S4096x256 .bf16) (b : Vec Ideal S4096x1024 .bf16) (r : Fin 256) (j : Fin 1024) :
    k0_pay1 (F := Ideal) a b (ix2 r j) = ∑ s : Fin 4096, a (ix2 s r) * b (ix2 s j) := by
  unfold k0_pay1
  pointwise []

theorem sout_A (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 x1 x2 x3 x4 x5 x6 : Vec Ideal S4096x256 .bf16) (fh0 : HbBuf0 (F := Ideal) c hbM0_0) :
    sout0_A_0 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 fh0 = fh0 := by
  unfold sout0_A_0
  rw [View.read_writes_eq_canon _ _ _ (scover0_A_0 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 fh0)]
  unfold kernelRun0_A
  dsimp only
  sl_unfold_words
  exact canon_whole _

theorem out_A (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 x1 x2 x3 x4 x5 x6 : Vec Ideal S4096x256 .bf16) (fh0 : HbBuf0 (F := Ideal) c hbM0_0) :
    out0_A_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 fh0 = k0_pay1 x0 fh0 := by
  unfold out0_A_7
  rw [View.read_writes_eq_canon _ _ _ (cover0_A_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 fh0)]
  unfold kernelRun0_A
  dsimp only
  sl_unfold_words
  simp only [View.readAt_eq_ld, harg1.read_unread, harg2.read_unread, harg3.read_unread, harg4.read_unread, harg5.read_unread, harg6.read_unread, harg7.read_unread, readCov_whole, View.ld_unit_zero (S := S4096x256) hz2, View.ld_unit_zero (S := S4096x1024) hz2]
  rw [View.canon_unit_zero (S := S256x1024) hz2]
  rfl

theorem out_B (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_B_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x0 xs0 := by
  unfold out0_B_7
  rw [View.read_writes_eq_canon _ _ _ (cover0_B_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_B
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

theorem out_C (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_C_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x1 xs0 := by
  unfold out0_C_7
  rw [View.read_writes_eq_canon _ _ _ (cover0_C_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_C
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

theorem out_D (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_D_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x2 xs0 := by
  unfold out0_D_7
  rw [View.read_writes_eq_canon _ _ _ (cover0_D_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_D
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

theorem out_E (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_E_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x3 xs0 := by
  unfold out0_E_7
  rw [View.read_writes_eq_canon _ _ _ (cover0_E_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_E
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

theorem out_F (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_F_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x4 xs0 := by
  unfold out0_F_7
  rw [View.read_writes_eq_canon _ _ _ (cover0_F_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_F
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

theorem out_G (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 x1 x2 x3 x4 x5 x6 : Vec Ideal S4096x256 .bf16) (xs0 : Vec Ideal S4096x1024 .bf16) (fh0 : HbBuf0 (F := Ideal) c hbM0_0) :
    out0_G_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x5 xs0 := by
  unfold out0_G_7
  rw [View.read_writes_eq_canon _ _ _ (cover0_G_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_G
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]

theorem out_H (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole)
    (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole)
    (arg7 : Memref sig .tc .vmem S4096x256 .bf16) (harg7 : arg7.IsWhole) (arg9 : Memref sig .tc .vmem S256x1024 .bf16) (harg9 : arg9.IsWhole) (arg10 : Memref sig .tc .vmem S4096x1024 .bf16) (harg10 : arg10.IsWhole)
    (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (x0 x1 x2 x3 x4 x5 x6 : Vec Ideal S4096x256 .bf16) (xs0 : Vec Ideal S4096x1024 .bf16) (fh0 : HbBuf0 (F := Ideal) c hbM0_0) :
    out0_H_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0 = k0_pay1 x6 xs0 := by
  unfold out0_H_7
  rw [View.read_writes_eq_canon _ _ _ (cover0_H_7 c i arg1 harg1 arg2 harg2 arg3 harg3 arg4 harg4 arg5 harg5 arg6 harg6 arg7 harg7 arg9 harg9 arg10 harg10 hc0 hc1 hc2 hc3 hc4 hc5 hc6 hc7 x0 x1 x2 x3 x4 x5 x6 xs0 fh0)]
  unfold kernelRun0_H
  dsimp only
  sl_unfold_words
  simp only [View.readAt_eq_ld, harg1.read_unread, harg2.read_unread, harg3.read_unread, harg4.read_unread, harg5.read_unread, harg6.read_unread, harg7.read_unread, harg10.read_unread, View.ld_unit_zero (S := S4096x256) hz2, View.ld_unit_zero (S := S4096x1024) hz2]
  rw [View.canon_unit_zero (S := S256x1024) hz2]
  rfl

end Cert.Kernel3Ideal.Gen

end
-- ==== Proof.GwKernel.lean ====
module

public import proofs.«01_k».proof.Proof.Gen.Kernel3Ideal.Value
public import proofs.«01_k».proof.Proof.GwTile
public import Idealize.ShloMosaic.Lib.Pipeline.ValueKit

/-!
# What the kernel's result array ends holding

The product of the gradient's seven parts side by side, transposed, with the activations, whatever they hold.
-/

@[expose] public section

noncomputable section

open scoped BigOperators
open Idealize.ShloMosaic Idealize.SL.Sem

namespace Cert.Kernel3Ideal.Gen

variable (m : (ℓ : Loc nD τ sig) → Buf (Elt Ideal) ℓ)

/-- The argument arrays of a device: the gradient `D` in its seven parts, and the activations `H`. -/
structure IsParts (c : Dev nD) (D : Fin 4096 → Fin 7424 → EReal) (H : Fin 4096 → Fin 1024 → EReal) : Prop where
  c0 : ∀ s (l : Fin 2048) (j : Fin 7424), j.val = 0 + l.val → m ((c.tc : Thread nD τ).loc main_arg0) (ix2 s l) = D s j
  c1 : ∀ s (l : Fin 512) (j : Fin 7424), j.val = 2048 + l.val → m ((c.tc : Thread nD τ).loc main_arg1) (ix2 s l) = D s j
  c2 : ∀ s (l : Fin 256) (j : Fin 7424), j.val = 2560 + l.val → m ((c.tc : Thread nD τ).loc main_arg2) (ix2 s l) = D s j
  c3 : ∀ s (l : Fin 512) (j : Fin 7424), j.val = 2816 + l.val → m ((c.tc : Thread nD τ).loc main_arg3) (ix2 s l) = D s j
  c4 : ∀ s (l : Fin 512) (j : Fin 7424), j.val = 3328 + l.val → m ((c.tc : Thread nD τ).loc main_arg4) (ix2 s l) = D s j
  c5 : ∀ s (l : Fin 512) (j : Fin 7424), j.val = 3840 + l.val → m ((c.tc : Thread nD τ).loc main_arg5) (ix2 s l) = D s j
  c6 : ∀ s (l : Fin 3072) (j : Fin 7424), j.val = 4352 + l.val → m ((c.tc : Thread nD τ).loc main_arg6) (ix2 s l) = D s j
  h : ∀ s j, m ((c.tc : Thread nD τ).loc main_arg7) (ix2 s j) = H s j

/-- Column `r` of the block of point `t`, among all columns. -/
def col (t : Fin cfg0.N) (r : Fin 256) : Fin 7424 := ⟨256 * t.val + r.val, by have : t.val < 29 := t.isLt; omega⟩

/-- Where each window's block lies at point `t`, in blocks, as long as the point works on that part. -/
theorem idx (t : Fin cfg0.N) :
    (t.val < 8 → win0_0.index t = ![0, t.val - 0]) ∧ ((8 ≤ t.val ∧ t.val < 10) → win0_1.index t = ![0, t.val - 8]) ∧ ((10 ≤ t.val ∧ t.val < 11) → win0_2.index t = ![0, t.val - 10]) ∧ ((11 ≤ t.val ∧ t.val < 13) → win0_3.index t = ![0, t.val - 11]) ∧
    ((13 ≤ t.val ∧ t.val < 15) → win0_4.index t = ![0, t.val - 13]) ∧ ((15 ≤ t.val ∧ t.val < 17) → win0_5.index t = ![0, t.val - 15]) ∧ (17 ≤ t.val → win0_6.index t = ![0, t.val - 17]) ∧ win0_7.index t = ![t.val, 0] := by
  revert t; decide +kernel

section

variable {c : Dev nD} {D : Fin 4096 → Fin 7424 → EReal} {H : Fin 4096 → Fin 1024 → EReal} (R : IsParts m c D H)

include R

theorem blk_0 (t : Fin cfg0.N) (h : t.val < 8) (s : Fin 4096) (r : Fin 256) : iblk m c 0 t (ix2 s r) = D s (col t r) := by
  have e := (idx t).1 h
  have ht : t.val < 29 := t.isLt
  refine Eq.trans ?_ (R.c0 s ⟨(t.val - 0) * 256 + r.val, by omega⟩ (col t r) (by dsimp only [col]; omega))
  unfold iblk
  rw [View.read_apply]
  show V m c main_arg0 _ = _
  rw [V_main_arg0]
  congr 1
  blk_ext [e]

theorem blk_1 (t : Fin cfg0.N) (h : (8 ≤ t.val ∧ t.val < 10)) (s : Fin 4096) (r : Fin 256) : iblk m c 1 t (ix2 s r) = D s (col t r) := by
  have e := (idx t).2.1 h
  have ht : t.val < 29 := t.isLt
  refine Eq.trans ?_ (R.c1 s ⟨(t.val - 8) * 256 + r.val, by omega⟩ (col t r) (by dsimp only [col]; omega))
  unfold iblk
  rw [View.read_apply]
  show V m c main_arg1 _ = _
  rw [V_main_arg1]
  congr 1
  blk_ext [e]

theorem blk_2 (t : Fin cfg0.N) (h : (10 ≤ t.val ∧ t.val < 11)) (s : Fin 4096) (r : Fin 256) : iblk m c 2 t (ix2 s r) = D s (col t r) := by
  have e := (idx t).2.2.1 h
  have ht : t.val < 29 := t.isLt
  refine Eq.trans ?_ (R.c2 s ⟨(t.val - 10) * 256 + r.val, by omega⟩ (col t r) (by dsimp only [col]; omega))
  unfold iblk
  rw [View.read_apply]
  show V m c main_arg2 _ = _
  rw [V_main_arg2]
  congr 1
  blk_ext [e]

theorem blk_3 (t : Fin cfg0.N) (h : (11 ≤ t.val ∧ t.val < 13)) (s : Fin 4096) (r : Fin 256) : iblk m c 3 t (ix2 s r) = D s (col t r) := by
  have e := (idx t).2.2.2.1 h
  have ht : t.val < 29 := t.isLt
  refine Eq.trans ?_ (R.c3 s ⟨(t.val - 11) * 256 + r.val, by omega⟩ (col t r) (by dsimp only [col]; omega))
  unfold iblk
  rw [View.read_apply]
  show V m c main_arg3 _ = _
  rw [V_main_arg3]
  congr 1
  blk_ext [e]

theorem blk_4 (t : Fin cfg0.N) (h : (13 ≤ t.val ∧ t.val < 15)) (s : Fin 4096) (r : Fin 256) : iblk m c 4 t (ix2 s r) = D s (col t r) := by
  have e := (idx t).2.2.2.2.1 h
  have ht : t.val < 29 := t.isLt
  refine Eq.trans ?_ (R.c4 s ⟨(t.val - 13) * 256 + r.val, by omega⟩ (col t r) (by dsimp only [col]; omega))
  unfold iblk
  rw [View.read_apply]
  show V m c main_arg4 _ = _
  rw [V_main_arg4]
  congr 1
  blk_ext [e]

theorem blk_5 (t : Fin cfg0.N) (h : (15 ≤ t.val ∧ t.val < 17)) (s : Fin 4096) (r : Fin 256) : iblk m c 5 t (ix2 s r) = D s (col t r) := by
  have e := (idx t).2.2.2.2.2.1 h
  have ht : t.val < 29 := t.isLt
  refine Eq.trans ?_ (R.c5 s ⟨(t.val - 15) * 256 + r.val, by omega⟩ (col t r) (by dsimp only [col]; omega))
  unfold iblk
  rw [View.read_apply]
  show V m c main_arg5 _ = _
  rw [V_main_arg5]
  congr 1
  blk_ext [e]

theorem blk_6 (t : Fin cfg0.N) (h : 17 ≤ t.val) (s : Fin 4096) (r : Fin 256) : iblk m c 6 t (ix2 s r) = D s (col t r) := by
  have e := (idx t).2.2.2.2.2.2.1 h
  have ht : t.val < 29 := t.isLt
  refine Eq.trans ?_ (R.c6 s ⟨(t.val - 17) * 256 + r.val, by omega⟩ (col t r) (by dsimp only [col]; omega))
  unfold iblk
  rw [View.read_apply]
  show V m c main_arg6 _ = _
  rw [V_main_arg6]
  congr 1
  blk_ext [e]

end

/-- The scratch holds the activations from the first point on. -/
theorem scratch (c : Dev nD) : ∀ (n : ℕ) (h : n < cfg0.N), (outsAt0 m c n h).2 = V m c main_arg7 := by
  intro n
  induction n with
  | zero =>
    intro h
    rw [show outsAt0 m c 0 h = _ from outsAt0_A m c ⟨0, h⟩ rfl (by dsimp only; omega) (by dsimp only; omega) (by dsimp only; omega) (by dsimp only; omega) (by dsimp only; omega) (by dsimp only; omega) (by dsimp only; omega)]
    dsimp only
    exact sout_A c _ _ _ _ _ _ _ _ _ _ _ _ _ _ _ _ _ _ _ _ _ _ _ _ _ _ _ _ _ _ _ _ _ _ _
  | succ n ih =>
    intro h
    have hN : n + 1 < 29 := h
    have w : ∀ (q : (outsAt0 m c n (Nat.lt_of_succ_lt h)).2 = V m c main_arg7), (outsAt0 m c (n + 1) h).2 = V m c main_arg7 := by
      intro q
      by_cases hB : n + 1 < 8
      · rw [show outsAt0 m c (n + 1) h = _ from outsAt0_B m c ⟨n + 1, h⟩ (by dsimp only; omega) (by dsimp only; omega) (by dsimp only; omega) (by dsimp only; omega) (by dsimp only; omega) (by dsimp only; omega) (by dsimp only; omega) (by dsimp only; omega)]
        dsimp only
        unfold sout0_B_0
        exact q
      by_cases hC : n + 1 < 10
      · rw [show outsAt0 m c (n + 1) h = _ from outsAt0_C m c ⟨n + 1, h⟩ (by dsimp only; omega) (by dsimp only; omega) (by dsimp only; omega) (by dsimp only; omega) (by dsimp only; omega) (by dsimp only; omega) (by dsimp only; omega) (by dsimp only; omega)]
        dsimp only
        unfold sout0_C_0
        exact q
      by_cases hD : n + 1 < 11
      · rw [show outsAt0 m c (n + 1) h = _ from outsAt0_D m c ⟨n + 1, h⟩ (by dsimp only; omega) (by dsimp only; omega) (by dsimp only; omega) (by dsimp only; omega) (by dsimp only; omega) (by dsimp only; omega) (by dsimp only; omega) (by dsimp only; omega)]
        dsimp only
        unfold sout0_D_0
        exact q
      by_cases hE : n + 1 < 13
      · rw [show outsAt0 m c (n + 1) h = _ from outsAt0_E m c ⟨n + 1, h⟩ (by dsimp only; omega) (by dsimp only; omega) (by dsimp only; omega) (by dsimp only; omega) (by dsimp only; omega) (by dsimp only; omega) (by dsimp only; omega) (by dsimp only; omega)]
        dsimp only
        unfold sout0_E_0
        exact q
      by_cases hF : n + 1 < 15
      · rw [show outsAt0 m c (n + 1) h = _ from outsAt0_F m c ⟨n + 1, h⟩ (by dsimp only; omega) (by dsimp only; omega) (by dsimp only; omega) (by dsimp only; omega) (by dsimp only; omega) (by dsimp only; omega) (by dsimp only; omega) (by dsimp only; omega)]
        dsimp only
        unfold sout0_F_0
        exact q
      by_cases hG : n + 1 < 17
      · rw [show outsAt0 m c (n + 1) h = _ from outsAt0_G m c ⟨n + 1, h⟩ (by dsimp only; omega) (by dsimp only; omega) (by dsimp only; omega) (by dsimp only; omega) (by dsimp only; omega) (by dsimp only; omega) (by dsimp only; omega) (by dsimp only; omega)]
        dsimp only
        unfold sout0_G_0
        exact q
      rw [show outsAt0 m c (n + 1) h = _ from outsAt0_H m c ⟨n + 1, h⟩ (by dsimp only; omega) (by dsimp only; omega) (by dsimp only; omega) (by dsimp only; omega) (by dsimp only; omega) (by dsimp only; omega) (by dsimp only; omega) (by dsimp only; omega)]
      dsimp only
      unfold sout0_H_0
      exact q
    exact w (ih _)

/-- What every point leaves in the output's block. -/
theorem outs {c : Dev nD} {D : Fin 4096 → Fin 7424 → EReal} {H : Fin 4096 → Fin 1024 → EReal} (R : IsParts m c D H) (t : Fin cfg0.N) (r : Fin 256) (j : Fin 1024) :
    (outsAt0 m c t.val t.isLt).1 (ix2 r j) = ∑ s, D s (col t r) * H s j := by
  have ht : t.val < 29 := t.isLt
  have hh : ∀ s, V m c main_arg7 (ix2 s j) = H s j := fun s => by rw [V_main_arg7]; exact R.h s j
  by_cases hA : t.val = 0
  · rw [outsAt0_A m c t (by omega) (by omega) (by omega) (by omega) (by omega) (by omega) (by omega) (by omega)]
    dsimp only
    rw [out_A, product]
    exact Finset.sum_congr rfl fun s _ => congrArg₂ (· * ·) (blk_0 m R t (by omega) s r) (hh s)
  by_cases hB : t.val < 8
  · rw [outsAt0_B m c t (by omega) (by omega) (by omega) (by omega) (by omega) (by omega) (by omega) (by omega)]
    dsimp only
    rw [out_B, scratch, product]
    exact Finset.sum_congr rfl fun s _ => congrArg₂ (· * ·) (blk_0 m R t (by omega) s r) (hh s)
  by_cases hC : t.val < 10
  · rw [outsAt0_C m c t (by omega) (by omega) (by omega) (by omega) (by omega) (by omega) (by omega) (by omega)]
    dsimp only
    rw [out_C, scratch, product]
    exact Finset.sum_congr rfl fun s _ => congrArg₂ (· * ·) (blk_1 m R t (by omega) s r) (hh s)
  by_cases hD : t.val < 11
  · rw [outsAt0_D m c t (by omega) (by omega) (by omega) (by omega) (by omega) (by omega) (by omega) (by omega)]
    dsimp only
    rw [out_D, scratch, product]
    exact Finset.sum_congr rfl fun s _ => congrArg₂ (· * ·) (blk_2 m R t (by omega) s r) (hh s)
  by_cases hE : t.val < 13
  · rw [outsAt0_E m c t (by omega) (by omega) (by omega) (by omega) (by omega) (by omega) (by omega) (by omega)]
    dsimp only
    rw [out_E, scratch, product]
    exact Finset.sum_congr rfl fun s _ => congrArg₂ (· * ·) (blk_3 m R t (by omega) s r) (hh s)
  by_cases hF : t.val < 15
  · rw [outsAt0_F m c t (by omega) (by omega) (by omega) (by omega) (by omega) (by omega) (by omega) (by omega)]
    dsimp only
    rw [out_F, scratch, product]
    exact Finset.sum_congr rfl fun s _ => congrArg₂ (· * ·) (blk_4 m R t (by omega) s r) (hh s)
  by_cases hG : t.val < 17
  · rw [outsAt0_G m c t (by omega) (by omega) (by omega) (by omega) (by omega) (by omega) (by omega) (by omega)]
    dsimp only
    rw [out_G, scratch, product]
    exact Finset.sum_congr rfl fun s _ => congrArg₂ (· * ·) (blk_5 m R t (by omega) s r) (hh s)
  rw [outsAt0_H m c t (by omega) (by omega) (by omega) (by omega) (by omega) (by omega) (by omega) (by omega)]
  dsimp only
  rw [out_H, scratch, product]
  exact Finset.sum_congr rfl fun s _ => congrArg₂ (· * ·) (blk_6 m R t (by omega) s r) (hh s)

/-- The result array. -/
theorem final {c : Dev nD} {D : Fin 4096 → Fin 7424 → EReal} {H : Fin 4096 → Fin 1024 → EReal} (R : IsParts m c D H) :
    (dats m 0 c).arrAt 7 cfg0.N = fun x : S7424x1024.Idx => ∑ s, D s (x 0) * H s (x 1) := by
  refine (dats m 0 c).arrAt_eq_of_covers 7 _ (by decide +kernel) fun t _ y => ?_
  have e := (idx t).2.2.2.2.2.2.2
  blk_simp
  rw [after0_7]
  have hy : y = ix2 (y 0 : Fin 256) (y 1 : Fin 1024) := eq_ix2 y
  have h0 : (win0_7.blk t).view.emb y 0 = col t (y 0) := Fin.ext (by blk_simp [e]; show t.val * 256 + (y 0).val = 256 * t.val + (y 0).val; omega)
  have h1 : (win0_7.blk t).view.emb y 1 = (y 1 : Fin 1024) := Fin.ext (by blk_simp [e])
  rw [h0, h1, hy]
  exact outs m R t (y 0) (y 1)

end Cert.Kernel3Ideal.Gen

end
-- ==== Proof.GwReference.lean ====
module

public import proofs.«01_k».proof.Proof.Gen.Reference3Ideal.Read
public import Idealize.ShloMosaic.Lib.Pointwise
public import Idealize.ShloMosaic.Lib.Pipeline.ValueKit

/-!
# What the reference computes

The derivative of the product in its weights: the seven parts side by side, transposed, times the activations.
-/

@[expose] public section

noncomputable section

open scoped BigOperators
open Idealize.ShloMosaic Idealize.SL.Sem

namespace Cert.Reference3Ideal.Read
open Cert.Reference3Ideal Cert.Reference3Ideal.Gen

variable [Facts]

/-- The argument arrays: the gradient `D` in its seven parts, and the activations `H`. -/
structure AreParts (x0 : Vec Ideal S4096x2048 .bf16) (x1 : Vec Ideal S4096x512 .bf16) (x2 : Vec Ideal S4096x256 .bf16) (x3 x4 x5 : Vec Ideal S4096x512 .bf16)
    (x6 : Vec Ideal S4096x3072 .bf16) (x7 : Vec Ideal S4096x1024 .bf16) (D : Fin 4096 → Fin 7424 → EReal) (H : Fin 4096 → Fin 1024 → EReal) : Prop where
  c0 : ∀ s (l : Fin 2048) (j : Fin 7424), j.val = 0 + l.val → x0 (ix2 s l) = D s j
  c1 : ∀ s (l : Fin 512) (j : Fin 7424), j.val = 2048 + l.val → x1 (ix2 s l) = D s j
  c2 : ∀ s (l : Fin 256) (j : Fin 7424), j.val = 2560 + l.val → x2 (ix2 s l) = D s j
  c3 : ∀ s (l : Fin 512) (j : Fin 7424), j.val = 2816 + l.val → x3 (ix2 s l) = D s j
  c4 : ∀ s (l : Fin 512) (j : Fin 7424), j.val = 3328 + l.val → x4 (ix2 s l) = D s j
  c5 : ∀ s (l : Fin 512) (j : Fin 7424), j.val = 3840 + l.val → x5 (ix2 s l) = D s j
  c6 : ∀ s (l : Fin 3072) (j : Fin 7424), j.val = 4352 + l.val → x6 (ix2 s l) = D s j
  h : ∀ s j, x7 (ix2 s j) = H s j

section

variable {x0 : Vec Ideal S4096x2048 .bf16} {x1 : Vec Ideal S4096x512 .bf16} {x2 : Vec Ideal S4096x256 .bf16} {x3 x4 x5 : Vec Ideal S4096x512 .bf16}
  {x6 : Vec Ideal S4096x3072 .bf16} {x7 : Vec Ideal S4096x1024 .bf16} {D : Fin 4096 → Fin 7424 → EReal} {H : Fin 4096 → Fin 1024 → EReal}
  (R : AreParts x0 x1 x2 x3 x4 x5 x6 x7 D H)

include R

/-- The seven parts side by side are the gradient. -/
theorem grad (s : Fin 4096) (k : Fin 7424) : val_main_v17 (F := Ideal) x0 x1 x2 x3 x4 x5 x6 (ix2 s k) = D s k := by
  have hk := k.isLt
  unfold val_main_v17
  pointwise []
  split_ifs
  all_goals first
    | exact R.c0 s _ k (by dsimp only; omega)
    | exact R.c1 s _ k (by dsimp only; omega)
    | exact R.c2 s _ k (by dsimp only; omega)
    | exact R.c3 s _ k (by dsimp only; omega)
    | exact R.c4 s _ k (by dsimp only; omega)
    | exact R.c5 s _ k (by dsimp only; omega)
    | exact R.c6 s _ k (by dsimp only; omega)

theorem grad' (i : S4096x7424.Idx) : val_main_v17 (F := Ideal) x0 x1 x2 x3 x4 x5 x6 i = D (i 0) (i 1) := by
  rw [eq_ix2 i]; exact grad R _ _

theorem activation (i : S4096x1024.Idx) : val_main_v8 (F := Ideal) x7 i = H (i 0) (i 1) := by
  rw [eq_ix2 i]; exact R.h _ _

/-- The result. -/
theorem result (i : S7424x1024.Idx) : val_main_v21 (F := Ideal) x0 x1 x2 x3 x4 x5 x6 x7 i = ∑ s, D s (i 0) * H s (i 1) := by
  have e : idx_main_v19 (idx_main_v20 i) = i := by blk_ext [idx_main_v19, idx_main_v20]
  rw [val_main_v21_apply, val_main_v20_apply, val_main_v19_apply, e]
  refine (val_main_v18_apply _ _ _ _ _ _ _ _ i).trans ?_
  simp only [grad' R, activation R]
  rfl

end

end Cert.Reference3Ideal.Read

end
-- ==== Proof.GwClaim.lean ====
module

public import proofs.«01_k».proof.Defs
public import proofs.«01_k».proof.Proof.GwKernel
public import proofs.«01_k».proof.Proof.GwReference
public import proofs.«01_k».proof.Proof.Glue

/-!
# The input projection's gradient in its weights: kernel and reference agree

Whatever the arguments hold, both runs end with the same array.
-/

@[expose] public section

noncomputable section

namespace Cert.Gw
open Idealize.ShloMosaic Idealize.SL.Sem Cert.Glue

/-- Any argument arrays are parts of one gradient. -/
theorem isParts (m : (ℓ : Loc Cert.Kernel3Ideal.nD Cert.Kernel3Ideal.τ Cert.Kernel3Ideal.sig) → Buf (Elt Ideal) ℓ) (c : Dev Cert.Kernel3Ideal.nD) :
    ∃ (D : Fin 4096 → Fin 7424 → EReal) (H : Fin 4096 → Fin 1024 → EReal), Cert.Kernel3Ideal.Gen.IsParts m c D H :=
  ⟨glue
      (fun s l => (m ((c.tc : Thread Cert.Kernel3Ideal.nD Cert.Kernel3Ideal.τ).loc Cert.Kernel3Ideal.main_arg0)) (ix2 s l))
      (fun s l => (m ((c.tc : Thread Cert.Kernel3Ideal.nD Cert.Kernel3Ideal.τ).loc Cert.Kernel3Ideal.main_arg1)) (ix2 s l))
      (fun s l => (m ((c.tc : Thread Cert.Kernel3Ideal.nD Cert.Kernel3Ideal.τ).loc Cert.Kernel3Ideal.main_arg2)) (ix2 s l))
      (fun s l => (m ((c.tc : Thread Cert.Kernel3Ideal.nD Cert.Kernel3Ideal.τ).loc Cert.Kernel3Ideal.main_arg3)) (ix2 s l))
      (fun s l => (m ((c.tc : Thread Cert.Kernel3Ideal.nD Cert.Kernel3Ideal.τ).loc Cert.Kernel3Ideal.main_arg4)) (ix2 s l))
      (fun s l => (m ((c.tc : Thread Cert.Kernel3Ideal.nD Cert.Kernel3Ideal.τ).loc Cert.Kernel3Ideal.main_arg5)) (ix2 s l))
      (fun s l => (m ((c.tc : Thread Cert.Kernel3Ideal.nD Cert.Kernel3Ideal.τ).loc Cert.Kernel3Ideal.main_arg6)) (ix2 s l)),
    fun s j => (m ((c.tc : Thread Cert.Kernel3Ideal.nD Cert.Kernel3Ideal.τ).loc Cert.Kernel3Ideal.main_arg7)) (ix2 s j),
    fun s l j hj => by rw [glue_0 s l j hj],
    fun s l j hj => by rw [glue_1 s l j hj],
    fun s l j hj => by rw [glue_2 s l j hj],
    fun s l j hj => by rw [glue_3 s l j hj],
    fun s l j hj => by rw [glue_4 s l j hj],
    fun s l j hj => by rw [glue_5 s l j hj],
    fun s l j hj => by rw [glue_6 s l j hj],
    fun _ _ => rfl⟩

theorem algebraic : Cert.algebraic_Kernel3Ideal_Reference3Ideal := by
  intro m g m' g' _ hagree
  refine ⟨fun c => (Cert.Kernel3Ideal.Gen.dats m 0 c).arrAt 7 Cert.Kernel3Ideal.cfg0.N, Cert.Kernel3Ideal.Value.run_blocks m g, ?_⟩
  refine (θ_run _ _ _).mono (fun r h c => ?_) (Cert.Reference3Ideal.Value.run m' g')
  obtain ⟨q0, hargs⟩ := h c
  obtain ⟨a0, a1, a2, a3, a4, a5, a6, a7⟩ := hagree c
  obtain ⟨D, H, R⟩ := isParts m c
  have R' : Cert.Reference3Ideal.Read.AreParts
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      D H :=
    ⟨fun s l j hj => (congrFun a0 _).trans (R.c0 s l j hj),
      fun s l j hj => (congrFun a1 _).trans (R.c1 s l j hj),
      fun s l j hj => (congrFun a2 _).trans (R.c2 s l j hj),
      fun s l j hj => (congrFun a3 _).trans (R.c3 s l j hj),
      fun s l j hj => (congrFun a4 _).trans (R.c4 s l j hj),
      fun s l j hj => (congrFun a5 _).trans (R.c5 s l j hj),
      fun s l j hj => (congrFun a6 _).trans (R.c6 s l j hj),
      fun s j => (congrFun a7 _).trans (R.h s j)⟩
  refine ⟨q0.trans ?_, hargs⟩
  rw [Cert.Reference3Ideal.Read.val_main_v21_eq]
  exact (funext fun i => Cert.Reference3Ideal.Read.result R' i).trans (Cert.Kernel3Ideal.Gen.final m R).symm

end Cert.Gw

end
-- ==== Proof.ProjFrames.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run

/-!
# The forward projection: frames

Each program runs to its end, leaves its arguments as they were and every semaphore counter at zero.
-/

@[expose] public section

namespace Cert.Proj
open Idealize.ShloMosaic Idealize.SL.Sem

theorem frame_kernel : Cert.quiescent_Kernel4 := fun m ρ _ => Cert.Kernel4.Gen.frame m ρ

theorem frame_kernelIdeal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run m ρ)

end Cert.Proj
-- ==== Proof.ProjMath.lean ====
module

public import Idealize.ShloMosaic.Lib.Pointwise
public import Idealize.ShloMosaic.Lib.Pipeline.ValueKit

/-!
# The forward projection's mathematics

One row: normalised by its root mean square and scaled by the gain; its products with the weights' columns; the rotation of the
first sixteen columns of every head of 64 by the row's angles.  Columns are counted by natural numbers.
-/

@[expose] public section

noncomputable section

open scoped BigOperators
open Idealize.ShloMosaic Idealize.SL.Sem

namespace Cert.Proj

/-- The normalised row, scaled by the gain. -/
def hn (x g : Fin 1024 → EReal) (k : Fin 1024) : EReal :=
  x k * Ideal.rsqrt (Ideal.div (∑ j, x j * x j) (Ideal.ofBits FTy.f32 1149239296#32) + Ideal.ofBits FTy.f32 897988541#32) * g k

/-- The row's product with column `j` of the weights. -/
def proj (h : Fin 1024 → EReal) (W : Fin 1024 → ℕ → EReal) (j : ℕ) : EReal := ∑ k, h k * W k j

/-- Entry `l` of the part of the row `p` that begins at `b`, rotated: of every 64 entries the first eight are paired with the next eight, by the angles whose
    cosines and sines are `ca` and `sa`; the others stay. -/
def rope (p ca sa : ℕ → EReal) (b l : ℕ) : EReal :=
  if l % 64 < 8 then p (b + l) * ca (l % 64) - p (b + l + 8) * sa (l % 64)
  else if l % 64 < 16 then p (b + l) * ca (l % 64 - 8) + p (b + l - 8) * sa (l % 64 - 8)
  else p (b + l)

/-- The rotation from tables: the entry times a first factor, the entry eight to the right times a second, the entry eight to the left
    times a third; the factors outside the rotated entries are one and zero. -/
theorem rope_of_tables (p ca sa : ℕ → EReal) (b l d : ℕ) (hd : d % 64 = l % 64) (hd' : d < 128) (a0 a1 a2 t0 t1 t2 : EReal) (h0 : a0 = p (b + l))
    (h1 : d + 8 < 128 → a1 = p (b + l + 8)) (h2 : 8 ≤ d → a2 = p (b + l - 8))
    (e0 : t0 = if d % 64 < 8 then ca (d % 64) else if d % 64 < 16 then ca (d % 64 - 8) else 1)
    (e1 : t1 = if d % 64 < 8 then -sa (d % 64) else 0)
    (e2 : t2 = if d % 64 < 8 then 0 else if d % 64 < 16 then sa (d % 64 - 8) else 0) :
    a0 * t0 + a1 * t1 + a2 * t2 = rope p ca sa b l := by
  rw [hd] at e0 e1 e2
  subst h0 e0 e1 e2
  unfold rope
  split_ifs with c1 c2
  · rw [h1 (by omega), mul_zero, add_zero, mul_neg, sub_eq_add_neg]
  · rw [h2 (by omega), mul_zero, add_zero]
  · rw [mul_zero, mul_zero, add_zero, add_zero, mul_one]

/-- The rotation, head by head. -/
theorem rope_head (p ca sa : ℕ → EReal) (b h e : ℕ) (he : e < 64) : rope p ca sa b (64 * h + e) =
    if e < 8 then p (b + (64 * h + e)) * ca e - p (b + (64 * h + (8 + e))) * sa e
    else if e < 16 then p (b + (64 * h + e)) * ca (e - 8) + p (b + (64 * h + (e - 8))) * sa (e - 8)
    else p (b + (64 * h + e)) := by
  unfold rope
  rw [show (64 * h + e) % 64 = e by omega]
  split_ifs
  · rw [show b + (64 * h + e) + 8 = b + (64 * h + (8 + e)) by omega]
  · rw [show b + (64 * h + e) - 8 = b + (64 * h + (e - 8)) by omega]
  · rfl

/-- An array's columns from column `b` of the products `P`. -/
def cols {R N : ℕ} (P : Fin R → ℕ → EReal) (b : ℕ) (y : (⟨2, ![R, N]⟩ : Shape).Idx) : EReal := P (y 0) (b + (y 1).val)

/-- The same, rotated. -/
def rots {R N : ℕ} (P ca sa : Fin R → ℕ → EReal) (b : ℕ) (y : (⟨2, ![R, N]⟩ : Shape).Idx) : EReal := rope (P (y 0)) (ca (y 0)) (sa (y 0)) b (y 1).val

/-- The first 128 columns rotated, the others not. -/
def half {R N : ℕ} (P ca sa : Fin R → ℕ → EReal) (b : ℕ) (y : (⟨2, ![R, N]⟩ : Shape).Idx) : EReal := if (y 1).val < 128 then rots P ca sa b y else cols P b y

theorem cols_at {R N : ℕ} (P : Fin R → ℕ → EReal) (b : ℕ) (y : (⟨2, ![R, N]⟩ : Shape).Idx) (r : Fin R) (l : ℕ) (e0 : (y 0).val = r.val) (e1 : (y 1).val = l) :
    cols P b y = P r (b + l) := by
  obtain rfl : (y 0 : Fin R) = r := Fin.ext e0
  subst e1
  rfl

theorem rots_at {R N : ℕ} (P ca sa : Fin R → ℕ → EReal) (b : ℕ) (y : (⟨2, ![R, N]⟩ : Shape).Idx) (r : Fin R) (l : ℕ) (e0 : (y 0).val = r.val) (e1 : (y 1).val = l) :
    rots P ca sa b y = rope (P r) (ca r) (sa r) b l := by
  obtain rfl : (y 0 : Fin R) = r := Fin.ext e0
  subst e1
  rfl

/-- The frequency of the `i`-th pair of rotated columns. -/
def freq (i : ℕ) : EReal :=
  Ideal.pow (Ideal.ofBits FTy.f32 1223959552#32) (-(FloatOps.sitofp (F := Ideal) FTy.f32 (BitVec.ofNat 32 i)) * Ideal.ofBits FTy.f32 1040187392#32)

/-- The angle of the `i`-th pair at position `s`. -/
def angle (s i : ℕ) : EReal := FloatOps.sitofp (F := Ideal) FTy.f32 (BitVec.ofNat 32 s) * freq i

/-- Its cosine. -/
def cosT (s i : ℕ) : EReal := Ideal.cos (angle s i)

/-- Its sine. -/
def sinT (s i : ℕ) : EReal := Ideal.sin (angle s i)

end Cert.Proj

end
-- ==== Proof.ProjTile.lean ====
module

public import proofs.«01_k».proof.Proof.Gen.Kernel4Ideal.Frame
public import proofs.«01_k».proof.Proof.ProjMath
public import proofs.«01_k».proof.Proof.Slabs
public import Idealize.ShloMosaic.Lib.Pointwise
public import Idealize.ShloMosaic.Lib.Pipeline.ValueKit

/-!
# The forward projection: what one grid point computes from its blocks
-/

@[expose] public section

noncomputable section

open scoped BigOperators
open Idealize.ShloMosaic Idealize.SL.Sem

namespace Cert.Kernel4Ideal.Gen
open Cert.Proj Cert.Slabs

theorem hz3 : (![0, 0, 0] : Fin 3 → ℕ) = fun _ => 0 := by funext a; fin_cases a <;> rfl

/-- The tile's blocks: the rows `X`, the gain `g`, the tables made of the cosines `ca` and sines `sa`, the weights, of which `W` is the transpose. -/
structure IsTile (x0 : Vec Ideal S512x1024 .f32) (x1 : Vec Ideal S1x1024 .f32) (x2 : Vec Ideal S3x512x128 .f32) (w : Vec Ideal S7424x1024 .bf16)
    (X : Fin 512 → Fin 1024 → EReal) (g : Fin 1024 → EReal) (W : Fin 1024 → ℕ → EReal) (ca sa : Fin 512 → ℕ → EReal) : Prop where
  x : ∀ r k, x0 (ix2 r k) = X r k
  g : ∀ k, x1 (ix2 0 k) = g k
  w : ∀ j k, w (ix2 j k) = W k j.val
  c : ∀ r (d : Fin 128), x2 (ix3 0 r d) = if d.val % 64 < 8 then ca r (d.val % 64) else if d.val % 64 < 16 then ca r (d.val % 64 - 8) else 1
  s1 : ∀ r (d : Fin 128), x2 (ix3 1 r d) = if d.val % 64 < 8 then -sa r (d.val % 64) else 0
  s2 : ∀ r (d : Fin 128), x2 (ix3 2 r d) = if d.val % 64 < 8 then 0 else if d.val % 64 < 16 then sa r (d.val % 64 - 8) else 0

section Tile

variable {x0 : Vec Ideal S512x1024 .f32} {x1 : Vec Ideal S1x1024 .f32} {x2 : Vec Ideal S3x512x128 .f32} {w : Vec Ideal S7424x1024 .bf16}
  {X : Fin 512 → Fin 1024 → EReal} {g : Fin 1024 → EReal} {W : Fin 1024 → ℕ → EReal} {ca sa : Fin 512 → ℕ → EReal}
  (T : IsTile x0 x1 x2 w X g W ca sa)

include T

/-- The normalised rows. -/
theorem IsTile.h (r : Fin 512) (k : Fin 1024) : k0_pay4 (F := Ideal) x0 x1 (ix2 r k) = hn (X r) g k := by
  unfold k0_pay4
  pointwise []
  unfold hn
  simp only [T.x, T.g]

/-- A product of the normalised rows with `n` of the weights' columns. -/
theorem IsTile.product {n : ℕ} (r : Fin 512) (o : ℕ) (inb : ∀ k, (![o, 0] : Fin 2 → ℕ) k + (![n, 1024] : Fin 2 → ℕ) k ≤ (⟨2, ![7424, 1024]⟩ : Shape).size k)
    (d : Fin n) (j : ℕ) (hj : j = o + d.val) :
    ∑ k : Fin 1024, k0_pay4 (F := Ideal) x0 x1 (ix2 r k) * View.ld (Val := Elt Ideal) (e' := .bf16) w (Rect.unit (s := ⟨2, ![7424, 1024]⟩) ![o, 0] ![n, 1024] inb) (ix2 d k)
      = proj (hn (X r) g) W j := by
  subst hj
  refine Finset.sum_congr rfl fun k _ => congrArg₂ (· * ·) (T.h r k) ?_
  exact (ld_slab w o 0 inb d k ⟨o + d.val, (Nat.add_lt_add_left d.isLt o).trans_le (inb 0)⟩ k rfl (Nat.zero_add _).symm).trans (T.w _ k)

/-- The tables' three planes. -/
theorem IsTile.rotate (r : Fin 512) (d : Fin 128) (p : ℕ → EReal) (b l : ℕ) (hd : d.val % 64 = l % 64)
    (inb0 : ∀ k, (![0, 0, 0] : Fin 3 → ℕ) k + S1x512x128.size k ≤ S3x512x128.size k)
    (inb1 : ∀ k, (![1, 0, 0] : Fin 3 → ℕ) k + S1x512x128.size k ≤ S3x512x128.size k)
    (inb2 : ∀ k, (![2, 0, 0] : Fin 3 → ℕ) k + S1x512x128.size k ≤ S3x512x128.size k)
    (a0 a1 a2 : EReal) (h0 : a0 = p (b + l)) (h1 : d.val + 8 < 128 → a1 = p (b + l + 8)) (h2 : 8 ≤ d.val → a2 = p (b + l - 8)) :
    a0 * k0_pay5 (F := Ideal) (View.ld (Val := Elt Ideal) (e' := .f32) x2 (Rect.unit (s := S3x512x128) ![0, 0, 0] S1x512x128.size inb0)) (ix2 r d)
      + a1 * k0_pay6 (F := Ideal) (View.ld (Val := Elt Ideal) (e' := .f32) x2 (Rect.unit (s := S3x512x128) ![1, 0, 0] S1x512x128.size inb1)) (ix2 r d)
      + a2 * k0_pay7 (F := Ideal) (View.ld (Val := Elt Ideal) (e' := .f32) x2 (Rect.unit (s := S3x512x128) ![2, 0, 0] S1x512x128.size inb2)) (ix2 r d)
      = rope p (ca r) (sa r) b l := by
  refine rope_of_tables p (ca r) (sa r) b l d.val hd d.isLt a0 a1 a2 _ _ _ h0 h1 h2 ?_ ?_ ?_
  · unfold k0_pay5
    pointwise []
    exact T.c r d
  · unfold k0_pay6
    pointwise []
    exact T.s1 r d
  · unfold k0_pay7
    pointwise []
    exact T.s2 r d

/-- The queries before the rotation. -/
theorem IsTile.q (r : Fin 512) (l : Fin 512) (j : ℕ) (hj : j = 2048 + l.val)
    (inb : ∀ k, (![2048, 0] : Fin 2 → ℕ) k + (![512, 1024] : Fin 2 → ℕ) k ≤ (⟨2, ![7424, 1024]⟩ : Shape).size k) :
    k0_pay12 (F := Ideal) (k0_pay4 x0 x1) (View.ld (Val := Elt Ideal) (e' := .bf16) w (Rect.unit (s := ⟨2, ![7424, 1024]⟩) ![2048, 0] ![512, 1024] inb)) (ix2 r l) = proj (hn (X r) g) W j := by
  refine Eq.trans ?_ (T.product r 2048 inb l j hj)
  generalize k0_pay4 (F := Ideal) x0 x1 = h
  generalize View.ld (Val := Elt Ideal) (e' := .bf16) w (Rect.unit (s := ⟨2, ![7424, 1024]⟩) ![2048, 0] ![512, 1024] inb) = v
  unfold k0_pay12
  pointwise []

/-- The keys and values before the rotation. -/
theorem IsTile.kv (r : Fin 512) (l : Fin 256) (j : ℕ) (hj : j = 2560 + l.val)
    (inb : ∀ k, (![2560, 0] : Fin 2 → ℕ) k + (![256, 1024] : Fin 2 → ℕ) k ≤ (⟨2, ![7424, 1024]⟩ : Shape).size k) :
    k0_pay17 (F := Ideal) (k0_pay4 x0 x1) (View.ld (Val := Elt Ideal) (e' := .bf16) w (Rect.unit (s := ⟨2, ![7424, 1024]⟩) ![2560, 0] ![256, 1024] inb)) (ix2 r l) = proj (hn (X r) g) W j := by
  refine Eq.trans ?_ (T.product r 2560 inb l j hj)
  generalize k0_pay4 (F := Ideal) x0 x1 = h
  generalize View.ld (Val := Elt Ideal) (e' := .bf16) w (Rect.unit (s := ⟨2, ![7424, 1024]⟩) ![2560, 0] ![256, 1024] inb) = v
  unfold k0_pay17
  pointwise []

end Tile

end Cert.Kernel4Ideal.Gen

end
-- ==== Proof.ProjRunA.lean ====
module

public import proofs.«01_k».proof.Proof.ProjTile

/-!
# The forward projection: what the first grid point leaves in its eight output blocks

It copies the weights in first.
-/

@[expose] public section

noncomputable section

open scoped BigOperators
open Idealize.ShloMosaic Idealize.SL.Sem

namespace Cert.Kernel4Ideal.Gen
open Cert.Proj Cert.Slabs

/-- The weights, copied in. -/
theorem sout_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0) :
    sout0_A_0 c i arg1 harg1 arg2 harg2 arg3 harg3 arg5 harg5 arg6 harg6 arg7 harg7 arg8 harg8 arg9 harg9 arg10 harg10 arg11 harg11 arg12 harg12 arg13 harg13 hc0 x0 x1 x2 fh0 = fh0 := by
  unfold sout0_A_0
  rw [View.read_writes_eq_canon _ _ _ (scover0_A_0 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  exact canon_whole _

/-- The normalised rows. -/
theorem out_A_3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x1024.Idx) :
    out0_A_3 c i arg1 harg1 arg2 harg2 arg3 harg3 arg5 harg5 arg6 harg6 arg7 harg7 arg8 harg8 arg9 harg9 arg10 harg10 arg11 harg11 arg12 harg12 arg13 harg13 hc0 x0 x1 x2 fh0 y
      = hn (X (y 0)) g (y 1) := by
  unfold out0_A_3
  rw [View.read_writes_eq_canon _ _ _ (cover0_A_3 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  rw [View.canon_unit_zero (S := S512x1024) hz2, show y = ix2 (y 0 : Fin 512) (y 1 : Fin 1024) from eq_ix2 y]
  exact T.h _ _

/-- The mixer's input. -/
theorem out_A_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x2048.Idx) :
    out0_A_4 c i arg1 harg1 arg2 harg2 arg3 harg3 arg5 harg5 arg6 harg6 arg7 harg7 arg8 harg8 arg9 harg9 arg10 harg10 arg11 harg11 arg12 harg12 arg13 harg13 hc0 x0 x1 x2 fh0 y
      = cols (fun r => proj (hn (X r) g) W) 0 y := by
  unfold out0_A_4
  rw [View.read_writes_eq_canon _ _ _ (cover0_A_4 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  refine canon_wide 1536 _ _ _ y _ (fun r d e0 e1 => ?_) fun n3 => ?_
  · refine Eq.trans ?_ (cols_at _ _ y r (1536 + d.val) e0 e1).symm
    refine Eq.trans ?_ (T.product r 1536 (by decide) d _ (by omega))
    unfold k0_pay11
    pointwise []
    rfl
  refine canon_wide 1024 _ _ _ y _ (fun r d e0 e1 => ?_) fun n2 => ?_
  · refine Eq.trans ?_ (cols_at _ _ y r (1024 + d.val) e0 e1).symm
    refine Eq.trans ?_ (T.product r 1024 (by decide) d _ (by omega))
    unfold k0_pay10
    pointwise []
    rfl
  refine canon_wide 512 _ _ _ y _ (fun r d e0 e1 => ?_) fun n1 => ?_
  · refine Eq.trans ?_ (cols_at _ _ y r (512 + d.val) e0 e1).symm
    refine Eq.trans ?_ (T.product r 512 (by decide) d _ (by omega))
    unfold k0_pay9
    pointwise []
    rfl
  refine canon_wide 0 _ _ _ y _ (fun r d e0 e1 => ?_) fun n0 => ?_
  · refine Eq.trans ?_ (cols_at _ _ y r (0 + d.val) e0 e1).symm
    refine Eq.trans ?_ (T.product r 0 (by decide) d _ (by omega))
    unfold k0_pay8
    pointwise []
    rfl
  exfalso
  have h1 : (y 1).val < 2048 := (y 1).isLt
  omega

/-- The queries. -/
theorem out_A_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x512.Idx) :
    out0_A_5 c i arg1 harg1 arg2 harg2 arg3 harg3 arg5 harg5 arg6 harg6 arg7 harg7 arg8 harg8 arg9 harg9 arg10 harg10 arg11 harg11 arg12 harg12 arg13 harg13 hc0 x0 x1 x2 fh0 y
      = rots (fun r => proj (hn (X r) g) W) ca sa 2048 y := by
  unfold out0_A_5
  rw [View.read_writes_eq_canon _ _ _ (cover0_A_5 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  refine canon_wide 384 _ _ _ y _ (fun r d e0 e1 => ?_) fun n3 => ?_
  · refine Eq.trans ?_ (rots_at _ _ _ _ y r (384 + d.val) e0 e1).symm
    unfold k0_pay16
    pointwise []
    exact T.rotate r d _ _ _ (by omega) _ _ _ _ _ _ (T.q r _ _ (by dsimp only) _) (fun _ => T.q r _ _ (by dsimp only; omega) _) (fun _ => T.q r _ _ (by dsimp only; omega) _)
  refine canon_wide 256 _ _ _ y _ (fun r d e0 e1 => ?_) fun n2 => ?_
  · refine Eq.trans ?_ (rots_at _ _ _ _ y r (256 + d.val) e0 e1).symm
    unfold k0_pay15
    pointwise []
    exact T.rotate r d _ _ _ (by omega) _ _ _ _ _ _ (T.q r _ _ (by dsimp only) _) (fun _ => T.q r _ _ (by dsimp only; omega) _) (fun _ => T.q r _ _ (by dsimp only; omega) _)
  refine canon_wide 128 _ _ _ y _ (fun r d e0 e1 => ?_) fun n1 => ?_
  · refine Eq.trans ?_ (rots_at _ _ _ _ y r (128 + d.val) e0 e1).symm
    unfold k0_pay14
    pointwise []
    exact T.rotate r d _ _ _ (by omega) _ _ _ _ _ _ (T.q r _ _ (by dsimp only) _) (fun _ => T.q r _ _ (by dsimp only; omega) _) (fun _ => T.q r _ _ (by dsimp only; omega) _)
  refine canon_wide 0 _ _ _ y _ (fun r d e0 e1 => ?_) fun n0 => ?_
  · refine Eq.trans ?_ (rots_at _ _ _ _ y r (0 + d.val) e0 e1).symm
    unfold k0_pay13
    pointwise []
    exact T.rotate r d _ _ _ (by omega) _ _ _ _ _ _ (T.q r _ _ (by dsimp only) _) (fun _ => T.q r _ _ (by dsimp only; omega) _) (fun _ => T.q r _ _ (by dsimp only; omega) _)
  exfalso
  have h1 : (y 1).val < 512 := (y 1).isLt
  omega

/-- The keys and values. -/
theorem out_A_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x256.Idx) :
    out0_A_6 c i arg1 harg1 arg2 harg2 arg3 harg3 arg5 harg5 arg6 harg6 arg7 harg7 arg8 harg8 arg9 harg9 arg10 harg10 arg11 harg11 arg12 harg12 arg13 harg13 hc0 x0 x1 x2 fh0 y
      = half (fun r => proj (hn (X r) g) W) ca sa 2560 y := by
  unfold out0_A_6
  rw [View.read_writes_eq_canon _ _ _ (cover0_A_6 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  unfold half
  refine canon_wide 128 _ _ _ y _ (fun r d e0 e1 => ?_) fun n1 => ?_
  · rw [if_neg (by omega)]
    refine Eq.trans ?_ (cols_at _ _ y r (128 + d.val) e0 e1).symm
    unfold k0_pay19
    pointwise []
    exact T.kv r _ _ (by dsimp only) _
  refine canon_wide 0 _ _ _ y _ (fun r d e0 e1 => ?_) fun n0 => ?_
  · rw [if_pos (by omega)]
    refine Eq.trans ?_ (rots_at _ _ _ _ y r (0 + d.val) e0 e1).symm
    unfold k0_pay18
    pointwise []
    exact T.rotate r d _ _ _ (by omega) _ _ _ _ _ _ (T.kv r _ _ (by dsimp only) _) (fun _ => T.kv r _ _ (by dsimp only; omega) _) (fun _ => T.kv r _ _ (by dsimp only; omega) _)
  exfalso
  have h1 : (y 1).val < 256 := (y 1).isLt
  omega

/-- The attention's gate. -/
theorem out_A_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x512.Idx) :
    out0_A_7 c i arg1 harg1 arg2 harg2 arg3 harg3 arg5 harg5 arg6 harg6 arg7 harg7 arg8 harg8 arg9 harg9 arg10 harg10 arg11 harg11 arg12 harg12 arg13 harg13 hc0 x0 x1 x2 fh0 y
      = cols (fun r => proj (hn (X r) g) W) 2816 y := by
  unfold out0_A_7
  rw [View.read_writes_eq_canon _ _ _ (cover0_A_7 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 2816 (by decide) (y 1 : Fin 512) _ rfl)
  unfold k0_pay20
  pointwise []
  rfl

/-- The memory's queries. -/
theorem out_A_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x512.Idx) :
    out0_A_8 c i arg1 harg1 arg2 harg2 arg3 harg3 arg5 harg5 arg6 harg6 arg7 harg7 arg8 harg8 arg9 harg9 arg10 harg10 arg11 harg11 arg12 harg12 arg13 harg13 hc0 x0 x1 x2 fh0 y
      = cols (fun r => proj (hn (X r) g) W) 3328 y := by
  unfold out0_A_8
  rw [View.read_writes_eq_canon _ _ _ (cover0_A_8 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 3328 (by decide) (y 1 : Fin 512) _ rfl)
  unfold k0_pay21
  pointwise []
  rfl

/-- The memory's gate. -/
theorem out_A_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x512.Idx) :
    out0_A_9 c i arg1 harg1 arg2 harg2 arg3 harg3 arg5 harg5 arg6 harg6 arg7 harg7 arg8 harg8 arg9 harg9 arg10 harg10 arg11 harg11 arg12 harg12 arg13 harg13 hc0 x0 x1 x2 fh0 y
      = cols (fun r => proj (hn (X r) g) W) 3840 y := by
  unfold out0_A_9
  rw [View.read_writes_eq_canon _ _ _ (cover0_A_9 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 3840 (by decide) (y 1 : Fin 512) _ rfl)
  unfold k0_pay22
  pointwise []
  rfl

/-- The gates' logits. -/
theorem out_A_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : cond0_0 i)
    (x0 : Vec Ideal S512x1024 .f32) (x1 : Vec Ideal S1x1024 .f32) (x2 : Vec Ideal S3x512x128 .f32) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 fh0 X g W ca sa) (y : S512x3072.Idx) :
    out0_A_10 c i arg1 harg1 arg2 harg2 arg3 harg3 arg5 harg5 arg6 harg6 arg7 harg7 arg8 harg8 arg9 harg9 arg10 harg10 arg11 harg11 arg12 harg12 arg13 harg13 hc0 x0 x1 x2 fh0 y
      = cols (fun r => proj (hn (X r) g) W) 4352 y := by
  unfold out0_A_10
  rw [View.read_writes_eq_canon _ _ _ (cover0_A_10 c i arg1 harg1 arg2 harg2 arg3 harg3 arg5 harg5 arg6 harg6 arg7 harg7 arg8 harg8 arg9 harg9 arg10 harg10 arg11 harg11 arg12 harg12 arg13 harg13 hc0 x0 x1 x2 fh0)]
  unfold kernelRun0_A
  dsimp only
  sl_unfold_words
  simp only [View.readAt_eq_ld, harg1.read_unread, harg2.read_unread, harg3.read_unread, readCov_whole, View.ld_unit_zero (S := S512x1024) hz2, View.ld_unit_zero (S := S1x1024) hz2]
  refine canon_wide 2560 _ _ _ y _ (fun r d e0 e1 => ?_) fun n5 => ?_
  · refine Eq.trans ?_ (cols_at _ _ y r (2560 + d.val) e0 e1).symm
    refine Eq.trans ?_ (T.product r 6912 (by decide) d _ (by omega))
    unfold k0_pay3
    pointwise []
    rfl
  refine canon_wide 2048 _ _ _ y _ (fun r d e0 e1 => ?_) fun n4 => ?_
  · refine Eq.trans ?_ (cols_at _ _ y r (2048 + d.val) e0 e1).symm
    refine Eq.trans ?_ (T.product r 6400 (by decide) d _ (by omega))
    unfold k0_pay2
    pointwise []
    rfl
  refine canon_wide 1536 _ _ _ y _ (fun r d e0 e1 => ?_) fun n3 => ?_
  · refine Eq.trans ?_ (cols_at _ _ y r (1536 + d.val) e0 e1).symm
    refine Eq.trans ?_ (T.product r 5888 (by decide) d _ (by omega))
    unfold k0_pay1
    pointwise []
    rfl
  refine canon_wide 1024 _ _ _ y _ (fun r d e0 e1 => ?_) fun n2 => ?_
  · refine Eq.trans ?_ (cols_at _ _ y r (1024 + d.val) e0 e1).symm
    refine Eq.trans ?_ (T.product r 5376 (by decide) d _ (by omega))
    unfold k0_pay25
    pointwise []
    rfl
  refine canon_wide 512 _ _ _ y _ (fun r d e0 e1 => ?_) fun n1 => ?_
  · refine Eq.trans ?_ (cols_at _ _ y r (512 + d.val) e0 e1).symm
    refine Eq.trans ?_ (T.product r 4864 (by decide) d _ (by omega))
    unfold k0_pay24
    pointwise []
    rfl
  refine canon_wide 0 _ _ _ y _ (fun r d e0 e1 => ?_) fun n0 => ?_
  · refine Eq.trans ?_ (cols_at _ _ y r (0 + d.val) e0 e1).symm
    refine Eq.trans ?_ (T.product r 4352 (by decide) d _ (by omega))
    unfold k0_pay23
    pointwise []
    rfl
  exfalso
  have h1 : (y 1).val < 3072 := (y 1).isLt
  omega

end Cert.Kernel4Ideal.Gen

end
-- ==== Proof.ProjRunB.lean ====
module

public import proofs.«01_k».proof.Proof.ProjTile

/-!
# The forward projection: what a later grid point leaves in its eight output blocks

It finds the weights where the first point left them.
-/

@[expose] public section

noncomputable section

open scoped BigOperators
open Idealize.ShloMosaic Idealize.SL.Sem

namespace Cert.Kernel4Ideal.Gen
open Cert.Proj Cert.Slabs

/-- The normalised rows. -/
theorem out_B_3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x1024.Idx) :
    out0_B_3 c i arg1 harg1 arg2 harg2 arg3 harg3 arg5 harg5 arg6 harg6 arg7 harg7 arg8 harg8 arg9 harg9 arg10 harg10 arg11 harg11 arg12 harg12 arg13 harg13 hc0 x0 x1 x2 xs0 fh0 y
      = hn (X (y 0)) g (y 1) := by
  unfold out0_B_3
  rw [View.read_writes_eq_canon _ _ _ (cover0_B_3 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  rw [View.canon_unit_zero (S := S512x1024) hz2, show y = ix2 (y 0 : Fin 512) (y 1 : Fin 1024) from eq_ix2 y]
  exact T.h _ _

/-- The mixer's input. -/
theorem out_B_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x2048.Idx) :
    out0_B_4 c i arg1 harg1 arg2 harg2 arg3 harg3 arg5 harg5 arg6 harg6 arg7 harg7 arg8 harg8 arg9 harg9 arg10 harg10 arg11 harg11 arg12 harg12 arg13 harg13 hc0 x0 x1 x2 xs0 fh0 y
      = cols (fun r => proj (hn (X r) g) W) 0 y := by
  unfold out0_B_4
  rw [View.read_writes_eq_canon _ _ _ (cover0_B_4 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  refine canon_wide 1536 _ _ _ y _ (fun r d e0 e1 => ?_) fun n3 => ?_
  · refine Eq.trans ?_ (cols_at _ _ y r (1536 + d.val) e0 e1).symm
    refine Eq.trans ?_ (T.product r 1536 (by decide) d _ (by omega))
    unfold k0_pay11
    pointwise []
  refine canon_wide 1024 _ _ _ y _ (fun r d e0 e1 => ?_) fun n2 => ?_
  · refine Eq.trans ?_ (cols_at _ _ y r (1024 + d.val) e0 e1).symm
    refine Eq.trans ?_ (T.product r 1024 (by decide) d _ (by omega))
    unfold k0_pay10
    pointwise []
  refine canon_wide 512 _ _ _ y _ (fun r d e0 e1 => ?_) fun n1 => ?_
  · refine Eq.trans ?_ (cols_at _ _ y r (512 + d.val) e0 e1).symm
    refine Eq.trans ?_ (T.product r 512 (by decide) d _ (by omega))
    unfold k0_pay9
    pointwise []
  refine canon_wide 0 _ _ _ y _ (fun r d e0 e1 => ?_) fun n0 => ?_
  · refine Eq.trans ?_ (cols_at _ _ y r (0 + d.val) e0 e1).symm
    refine Eq.trans ?_ (T.product r 0 (by decide) d _ (by omega))
    unfold k0_pay8
    pointwise []
  exfalso
  have h1 : (y 1).val < 2048 := (y 1).isLt
  omega

/-- The queries. -/
theorem out_B_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x512.Idx) :
    out0_B_5 c i arg1 harg1 arg2 harg2 arg3 harg3 arg5 harg5 arg6 harg6 arg7 harg7 arg8 harg8 arg9 harg9 arg10 harg10 arg11 harg11 arg12 harg12 arg13 harg13 hc0 x0 x1 x2 xs0 fh0 y
      = rots (fun r => proj (hn (X r) g) W) ca sa 2048 y := by
  unfold out0_B_5
  rw [View.read_writes_eq_canon _ _ _ (cover0_B_5 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  refine canon_wide 384 _ _ _ y _ (fun r d e0 e1 => ?_) fun n3 => ?_
  · refine Eq.trans ?_ (rots_at _ _ _ _ y r (384 + d.val) e0 e1).symm
    unfold k0_pay16
    pointwise []
    exact T.rotate r d _ _ _ (by omega) _ _ _ _ _ _ (T.q r _ _ (by dsimp only) _) (fun _ => T.q r _ _ (by dsimp only; omega) _) (fun _ => T.q r _ _ (by dsimp only; omega) _)
  refine canon_wide 256 _ _ _ y _ (fun r d e0 e1 => ?_) fun n2 => ?_
  · refine Eq.trans ?_ (rots_at _ _ _ _ y r (256 + d.val) e0 e1).symm
    unfold k0_pay15
    pointwise []
    exact T.rotate r d _ _ _ (by omega) _ _ _ _ _ _ (T.q r _ _ (by dsimp only) _) (fun _ => T.q r _ _ (by dsimp only; omega) _) (fun _ => T.q r _ _ (by dsimp only; omega) _)
  refine canon_wide 128 _ _ _ y _ (fun r d e0 e1 => ?_) fun n1 => ?_
  · refine Eq.trans ?_ (rots_at _ _ _ _ y r (128 + d.val) e0 e1).symm
    unfold k0_pay14
    pointwise []
    exact T.rotate r d _ _ _ (by omega) _ _ _ _ _ _ (T.q r _ _ (by dsimp only) _) (fun _ => T.q r _ _ (by dsimp only; omega) _) (fun _ => T.q r _ _ (by dsimp only; omega) _)
  refine canon_wide 0 _ _ _ y _ (fun r d e0 e1 => ?_) fun n0 => ?_
  · refine Eq.trans ?_ (rots_at _ _ _ _ y r (0 + d.val) e0 e1).symm
    unfold k0_pay13
    pointwise []
    exact T.rotate r d _ _ _ (by omega) _ _ _ _ _ _ (T.q r _ _ (by dsimp only) _) (fun _ => T.q r _ _ (by dsimp only; omega) _) (fun _ => T.q r _ _ (by dsimp only; omega) _)
  exfalso
  have h1 : (y 1).val < 512 := (y 1).isLt
  omega

/-- The keys and values. -/
theorem out_B_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x256.Idx) :
    out0_B_6 c i arg1 harg1 arg2 harg2 arg3 harg3 arg5 harg5 arg6 harg6 arg7 harg7 arg8 harg8 arg9 harg9 arg10 harg10 arg11 harg11 arg12 harg12 arg13 harg13 hc0 x0 x1 x2 xs0 fh0 y
      = half (fun r => proj (hn (X r) g) W) ca sa 2560 y := by
  unfold out0_B_6
  rw [View.read_writes_eq_canon _ _ _ (cover0_B_6 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  unfold half
  refine canon_wide 128 _ _ _ y _ (fun r d e0 e1 => ?_) fun n1 => ?_
  · rw [if_neg (by omega)]
    refine Eq.trans ?_ (cols_at _ _ y r (128 + d.val) e0 e1).symm
    unfold k0_pay19
    pointwise []
    exact T.kv r _ _ (by dsimp only) _
  refine canon_wide 0 _ _ _ y _ (fun r d e0 e1 => ?_) fun n0 => ?_
  · rw [if_pos (by omega)]
    refine Eq.trans ?_ (rots_at _ _ _ _ y r (0 + d.val) e0 e1).symm
    unfold k0_pay18
    pointwise []
    exact T.rotate r d _ _ _ (by omega) _ _ _ _ _ _ (T.kv r _ _ (by dsimp only) _) (fun _ => T.kv r _ _ (by dsimp only; omega) _) (fun _ => T.kv r _ _ (by dsimp only; omega) _)
  exfalso
  have h1 : (y 1).val < 256 := (y 1).isLt
  omega

/-- The attention's gate. -/
theorem out_B_7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x512.Idx) :
    out0_B_7 c i arg1 harg1 arg2 harg2 arg3 harg3 arg5 harg5 arg6 harg6 arg7 harg7 arg8 harg8 arg9 harg9 arg10 harg10 arg11 harg11 arg12 harg12 arg13 harg13 hc0 x0 x1 x2 xs0 fh0 y
      = cols (fun r => proj (hn (X r) g) W) 2816 y := by
  unfold out0_B_7
  rw [View.read_writes_eq_canon _ _ _ (cover0_B_7 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 2816 (by decide) (y 1 : Fin 512) _ rfl)
  unfold k0_pay20
  pointwise []

/-- The memory's queries. -/
theorem out_B_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x512.Idx) :
    out0_B_8 c i arg1 harg1 arg2 harg2 arg3 harg3 arg5 harg5 arg6 harg6 arg7 harg7 arg8 harg8 arg9 harg9 arg10 harg10 arg11 harg11 arg12 harg12 arg13 harg13 hc0 x0 x1 x2 xs0 fh0 y
      = cols (fun r => proj (hn (X r) g) W) 3328 y := by
  unfold out0_B_8
  rw [View.read_writes_eq_canon _ _ _ (cover0_B_8 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 3328 (by decide) (y 1 : Fin 512) _ rfl)
  unfold k0_pay21
  pointwise []

/-- The memory's gate. -/
theorem out_B_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x512.Idx) :
    out0_B_9 c i arg1 harg1 arg2 harg2 arg3 harg3 arg5 harg5 arg6 harg6 arg7 harg7 arg8 harg8 arg9 harg9 arg10 harg10 arg11 harg11 arg12 harg12 arg13 harg13 hc0 x0 x1 x2 xs0 fh0 y
      = cols (fun r => proj (hn (X r) g) W) 3840 y := by
  unfold out0_B_9
  rw [View.read_writes_eq_canon _ _ _ (cover0_B_9 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  rw [View.canon_unit_zero (S := S512x512) hz2, show y = ix2 (y 0 : Fin 512) (y 1 : Fin 512) from eq_ix2 y]
  refine Eq.trans ?_ (T.product (y 0) 3840 (by decide) (y 1 : Fin 512) _ rfl)
  unfold k0_pay22
  pointwise []

/-- The gates' logits. -/
theorem out_B_10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x128 .f32) (harg3 : arg3.IsWhole) (arg5 : Memref sig .tc .vmem S512x1024 .bf16) (harg5 : arg5.IsWhole) (arg6 : Memref sig .tc .vmem S512x2048 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S7424x1024 .bf16) (harg13 : arg13.IsWhole) (hc0 : ¬cond0_0 i)
    (x0 : Vec Ideal S512x1024 .f32) (x1 : Vec Ideal S1x1024 .f32) (x2 : Vec Ideal S3x512x128 .f32) (xs0 : Vec Ideal S7424x1024 .bf16) (fh0 : HbBuf0 (F := Ideal) c hbM0_0)
    (X : Fin 512 → Fin 1024 → EReal) (g : Fin 1024 → EReal) (W : Fin 1024 → ℕ → EReal) (ca sa : Fin 512 → ℕ → EReal) (T : IsTile x0 x1 x2 xs0 X g W ca sa) (y : S512x3072.Idx) :
    out0_B_10 c i arg1 harg1 arg2 harg2 arg3 harg3 arg5 harg5 arg6 harg6 arg7 harg7 arg8 harg8 arg9 harg9 arg10 harg10 arg11 harg11 arg12 harg12 arg13 harg13 hc0 x0 x1 x2 xs0 fh0 y
      = cols (fun r => proj (hn (X r) g) W) 4352 y := by
  unfold out0_B_10
  rw [View.read_writes_eq_canon _ _ _ (cover0_B_10 c i arg1 harg1 arg2 harg2 arg3 harg3 arg5 harg5 arg6 harg6 arg7 harg7 arg8 harg8 arg9 harg9 arg10 harg10 arg11 harg11 arg12 harg12 arg13 harg13 hc0 x0 x1 x2 xs0 fh0)]
  unfold kernelRun0_B
  dsimp only
  sl_unfold_words
  simp only [View.readAt_eq_ld, harg1.read_unread, harg2.read_unread, harg3.read_unread, harg13.read_unread, View.ld_unit_zero (S := S512x1024) hz2, View.ld_unit_zero (S := S1x1024) hz2]
  refine canon_wide 2560 _ _ _ y _ (fun r d e0 e1 => ?_) fun n5 => ?_
  · refine Eq.trans ?_ (cols_at _ _ y r (2560 + d.val) e0 e1).symm
    refine Eq.trans ?_ (T.product r 6912 (by decide) d _ (by omega))
    unfold k0_pay3
    pointwise []
  refine canon_wide 2048 _ _ _ y _ (fun r d e0 e1 => ?_) fun n4 => ?_
  · refine Eq.trans ?_ (cols_at _ _ y r (2048 + d.val) e0 e1).symm
    refine Eq.trans ?_ (T.product r 6400 (by decide) d _ (by omega))
    unfold k0_pay2
    pointwise []
  refine canon_wide 1536 _ _ _ y _ (fun r d e0 e1 => ?_) fun n3 => ?_
  · refine Eq.trans ?_ (cols_at _ _ y r (1536 + d.val) e0 e1).symm
    refine Eq.trans ?_ (T.product r 5888 (by decide) d _ (by omega))
    unfold k0_pay1
    pointwise []
  refine canon_wide 1024 _ _ _ y _ (fun r d e0 e1 => ?_) fun n2 => ?_
  · refine Eq.trans ?_ (cols_at _ _ y r (1024 + d.val) e0 e1).symm
    refine Eq.trans ?_ (T.product r 5376 (by decide) d _ (by omega))
    unfold k0_pay25
    pointwise []
  refine canon_wide 512 _ _ _ y _ (fun r d e0 e1 => ?_) fun n1 => ?_
  · refine Eq.trans ?_ (cols_at _ _ y r (512 + d.val) e0 e1).symm
    refine Eq.trans ?_ (T.product r 4864 (by decide) d _ (by omega))
    unfold k0_pay24
    pointwise []
  refine canon_wide 0 _ _ _ y _ (fun r d e0 e1 => ?_) fun n0 => ?_
  · refine Eq.trans ?_ (cols_at _ _ y r (0 + d.val) e0 e1).symm
    refine Eq.trans ?_ (T.product r 4352 (by decide) d _ (by omega))
    unfold k0_pay23
    pointwise []
  exfalso
  have h1 : (y 1).val < 3072 := (y 1).isLt
  omega

end Cert.Kernel4Ideal.Gen

end
-- ==== Proof.ProjHost.lean ====
module

public import proofs.«01_k».proof.Proof.Gen.Kernel4Ideal.Value
public import proofs.«01_k».proof.Proof.ProjMath
public import Idealize.ShloMosaic.Lib.Pointwise
public import Idealize.ShloMosaic.Lib.StableHlo.ReadAt
public import Idealize.ShloMosaic.Lib.Pipeline.ValueKit

/-!
# The forward projection: what the host code hands to the call

The weights go in transposed. The three tables hold, for a position and a lane, what the rotation multiplies the product by: the cosine (one outside the rotated
lanes), minus the sine on the first half of the rotated lanes, the sine on the second half. A lane counts by its remainder by 64, for two heads lie side by side.
-/

@[expose] public section

noncomputable section

open scoped BigOperators
open Idealize.ShloMosaic Idealize.SL.Sem

namespace Cert.Kernel4Ideal.Gen
open Cert.Proj

/-- The mask of the first half of the rotated lanes. -/
theorem lo_bit (d : Fin 128) : IntOp.cmpi CmpIPredicate.slt (IntOp.andi (BitVec.ofNat 32 d.val) 63#32) 8#32 = if d.val % 64 < 8 then 1#1 else 0#1 := by
  revert d; decide +kernel

/-- The mask of the second half. -/
theorem hi_bit (d : Fin 128) : IntOp.andi (IntOp.cmpi CmpIPredicate.sge (IntOp.andi (BitVec.ofNat 32 d.val) 63#32) 8#32)
      (IntOp.cmpi CmpIPredicate.slt (IntOp.andi (BitVec.ofNat 32 d.val) 63#32) 16#32) = if 8 ≤ d.val % 64 ∧ d.val % 64 < 16 then 1#1 else 0#1 := by
  revert d; decide +kernel

/-- The mask of all rotated lanes. -/
theorem any_bit (d : Fin 128) : IntOp.ori (IntOp.cmpi CmpIPredicate.slt (IntOp.andi (BitVec.ofNat 32 d.val) 63#32) 8#32)
      (IntOp.andi (IntOp.cmpi CmpIPredicate.sge (IntOp.andi (BitVec.ofNat 32 d.val) 63#32) 8#32)
        (IntOp.cmpi CmpIPredicate.slt (IntOp.andi (BitVec.ofNat 32 d.val) 63#32) 16#32)) = if d.val % 64 < 16 then 1#1 else 0#1 := by
  revert d; decide +kernel

variable (m : (ℓ : Loc nD τ sig) → Buf (Elt Ideal) ℓ) (c : Dev nD)

/-- The frequencies, where the host code puts them side by side. -/
theorem read_freq (i : Fin 8) : StableHlo.upto (List.flatten [hostOps0, hostOps0_1, hostOps0_2, hostOps0_3, hostOps0_4, hostOps0_5, hostOps0_6]) (fun b => m (c, b)) 12 (Proc.tc.devRef main_v7) (ix1 i) = freq i.val := by
  after_reads_at
  rfl

/-- The array of angles, from the frequencies `A`; lanes past the rotated ones take theirs from `Z`. -/
def angles (A : FVec Ideal S8 .f32) (Z : FVec Ideal S48 .f32) : FVec Ideal S4096x128 .f32 :=
  mulf (sitofp FTy.f32 (iotaInDim S4096x128 32 0))
    (broadcastInDim S4096x128 ![0, 1] bcast_S1x128_S4096x128_0_1 (broadcastInDim S1x128 ![1] bcast_S128_S1x128_1
      (shapeCast S128 (broadcastInDim S2x64 ![0, 1] bcast_S1x64_S2x64_0_1
        (shapeCast S1x64 (concatenate S64 0 [⟨S8, A⟩, ⟨S8, A⟩, ⟨S48, Z⟩] concatenates_S8_S8_S48_S64_d0) shapeCasts_S64_S1x64)) shapeCasts_S2x64_S128)))

/-- Its entries on the rotated lanes. -/
theorem angles_at (A : FVec Ideal S8 .f32) (Z : FVec Ideal S48 .f32) (hA : ∀ i, A (ix1 i) = freq i.val) (s : Fin 4096) (d : Fin 128) (h : d.val % 64 < 16) :
    angles A Z (ix2 s d) = angle s.val (if d.val % 64 < 8 then d.val % 64 else d.val % 64 - 8) := by
  unfold angles
  pointwise []
  unfold angle
  split_ifs
  all_goals first
    | (exfalso; omega)
    | rw [hA]

/-- Each lane's number within its head. -/
def lanes : IVec S4096x128 32 := andi (iotaInDim S4096x128 32 1) (broadcastInDim S4096x128 ![] bcast_S_S4096x128 (constantI S_ 32 63#32))

/-- The lanes of the first half. -/
def lo : IVec S4096x128 1 := cmpi CmpIPredicate.slt lanes (broadcastInDim S4096x128 ![] bcast_S_S4096x128 (constantI S_ 32 8#32))

/-- The lanes of the second half. -/
def hi : IVec S4096x128 1 := andi (cmpi CmpIPredicate.sge lanes (broadcastInDim S4096x128 ![] bcast_S_S4096x128 (constantI S_ 32 8#32))) (cmpi CmpIPredicate.slt lanes (broadcastInDim S4096x128 ![] bcast_S_S4096x128 (constantI S_ 32 16#32)))

theorem lo_at (s : Fin 4096) (d : Fin 128) : lo (ix2 s d) = if d.val % 64 < 8 then 1#1 else 0#1 := by
  unfold lo lanes
  pointwise []
  exact lo_bit d

theorem hi_at (s : Fin 4096) (d : Fin 128) : hi (ix2 s d) = if 8 ≤ d.val % 64 ∧ d.val % 64 < 16 then 1#1 else 0#1 := by
  unfold hi lanes
  pointwise []
  exact hi_bit d

theorem any_at (s : Fin 4096) (d : Fin 128) : ori lo hi (ix2 s d) = if d.val % 64 < 16 then 1#1 else 0#1 := by
  unfold lo hi lanes
  pointwise []
  exact any_bit d

/-- A choice by a mask. -/
theorem choose {b : BitVec 1} {P : Prop} [Decidable P] (hb : b = if P then 1#1 else 0#1) {x y z : EReal} (h1 : P → x = z) (h0 : ¬P → y = z) :
    Scalar.select b x y = z := by
  subst hb
  by_cases h : P
  · rw [if_pos h]
    exact h1 h
  · rw [if_neg h]
    exact h0 h

/-- The table of cosines, as the host code computes it. -/
theorem array_31 (A : FVec Ideal S8 .f32) (Z : FVec Ideal S48 .f32) (hA : StableHlo.upto (List.flatten [hostOps0, hostOps0_1, hostOps0_2, hostOps0_3, hostOps0_4, hostOps0_5, hostOps0_6]) (fun b => m (c, b)) 12 (Proc.tc.devRef main_v7) = A)
    (hZ : StableHlo.upto (List.flatten [hostOps0, hostOps0_1, hostOps0_2, hostOps0_3, hostOps0_4, hostOps0_5, hostOps0_6]) (fun b => m (c, b)) 12 (Proc.tc.devRef main_v8) = Z) :
    StableHlo.upto (List.flatten [hostOps0, hostOps0_1, hostOps0_2, hostOps0_3, hostOps0_4, hostOps0_5, hostOps0_6]) (fun b => m (c, b)) 51 (Proc.tc.devRef main_v31) = select (ori lo hi) (Host.cos (angles A Z)) (broadcastInDim S4096x128 ![] bcast_S_S4096x128 (constant (F := Ideal) S_ FTy.f32 1065353216#32)) := by
  after_reads_simp
  subst hA hZ
  simp -implicitDefEqProofs only [StableHlo.TRef.toBuf, StableHlo.TRef.ofBuf, cast_cast, cast_eq]
  refine congrArg₂ (fun a b => select a b _) ?_ ?_
  · rfl
  · rfl

/-- Its entries. -/
theorem read_31 (s : Fin 4096) (d : Fin 128) : (StableHlo.upto (List.flatten [hostOps0, hostOps0_1, hostOps0_2, hostOps0_3, hostOps0_4, hostOps0_5, hostOps0_6]) (fun b => m (c, b)) 51 (Proc.tc.devRef main_v31) (ix2 s d) : EReal) =
    if d.val % 64 < 8 then cosT s.val (d.val % 64) else if d.val % 64 < 16 then cosT s.val (d.val % 64 - 8) else 1 := by
  refine (congrFun (array_31 m c _ _ rfl rfl) (ix2 s d)).trans ?_
  refine choose (any_at s d) (fun h => ?_) fun h => ?_
  · refine (congrArg (Ideal.cos) (angles_at _ _ (read_freq m c) s d h)).trans ?_
    unfold cosT
    split_ifs
    all_goals first
      | (exfalso; omega)
      | rfl
  · refine Eq.trans (b := Ideal.ofBits FTy.f32 1065353216#32) rfl ?_
    rw [Ideal.ofBits_one_f32]
    split_ifs
    all_goals first
      | (exfalso; omega)
      | rfl

/-- The table of first half's sines, as the host code computes it. -/
theorem array_33 (A : FVec Ideal S8 .f32) (Z : FVec Ideal S48 .f32) (hA : StableHlo.upto (List.flatten [hostOps0, hostOps0_1, hostOps0_2, hostOps0_3, hostOps0_4, hostOps0_5, hostOps0_6]) (fun b => m (c, b)) 12 (Proc.tc.devRef main_v7) = A)
    (hZ : StableHlo.upto (List.flatten [hostOps0, hostOps0_1, hostOps0_2, hostOps0_3, hostOps0_4, hostOps0_5, hostOps0_6]) (fun b => m (c, b)) 12 (Proc.tc.devRef main_v8) = Z) :
    StableHlo.upto (List.flatten [hostOps0, hostOps0_1, hostOps0_2, hostOps0_3, hostOps0_4, hostOps0_5, hostOps0_6]) (fun b => m (c, b)) 52 (Proc.tc.devRef main_v33) = select lo (Host.negf (Host.sin (angles A Z))) (broadcastInDim S4096x128 ![] bcast_S_S4096x128 (constant (F := Ideal) S_ FTy.f32 0#32)) := by
  after_reads_simp
  subst hA hZ
  simp -implicitDefEqProofs only [StableHlo.TRef.toBuf, StableHlo.TRef.ofBuf, cast_cast, cast_eq]
  refine congrArg₂ (fun a b => select a b _) ?_ ?_
  · rfl
  · rfl

/-- Its entries. -/
theorem read_33 (s : Fin 4096) (d : Fin 128) : (StableHlo.upto (List.flatten [hostOps0, hostOps0_1, hostOps0_2, hostOps0_3, hostOps0_4, hostOps0_5, hostOps0_6]) (fun b => m (c, b)) 52 (Proc.tc.devRef main_v33) (ix2 s d) : EReal) =
    if d.val % 64 < 8 then -sinT s.val (d.val % 64) else 0 := by
  refine (congrFun (array_33 m c _ _ rfl rfl) (ix2 s d)).trans ?_
  refine choose (lo_at s d) (fun h => ?_) fun h => ?_
  · refine (congrArg (fun z => -Ideal.sin z) (angles_at _ _ (read_freq m c) s d (by omega))).trans ?_
    unfold sinT
    split_ifs
    all_goals first
      | (exfalso; omega)
      | rfl
  · refine Eq.trans (b := Ideal.ofBits FTy.f32 0#32) rfl ?_
    rw [Ideal.ofBits_zero]
    split_ifs
    all_goals first
      | (exfalso; omega)
      | rfl

/-- The table of second half's sines, as the host code computes it. -/
theorem array_34 (A : FVec Ideal S8 .f32) (Z : FVec Ideal S48 .f32) (hA : StableHlo.upto (List.flatten [hostOps0, hostOps0_1, hostOps0_2, hostOps0_3, hostOps0_4, hostOps0_5, hostOps0_6]) (fun b => m (c, b)) 12 (Proc.tc.devRef main_v7) = A)
    (hZ : StableHlo.upto (List.flatten [hostOps0, hostOps0_1, hostOps0_2, hostOps0_3, hostOps0_4, hostOps0_5, hostOps0_6]) (fun b => m (c, b)) 12 (Proc.tc.devRef main_v8) = Z) :
    StableHlo.upto (List.flatten [hostOps0, hostOps0_1, hostOps0_2, hostOps0_3, hostOps0_4, hostOps0_5, hostOps0_6]) (fun b => m (c, b)) 53 (Proc.tc.devRef main_v34) = select hi (Host.sin (angles A Z)) (broadcastInDim S4096x128 ![] bcast_S_S4096x128 (constant (F := Ideal) S_ FTy.f32 0#32)) := by
  after_reads_simp
  subst hA hZ
  simp -implicitDefEqProofs only [StableHlo.TRef.toBuf, StableHlo.TRef.ofBuf, cast_cast, cast_eq]
  refine congrArg₂ (fun a b => select a b _) ?_ ?_
  · rfl
  · rfl

/-- Its entries. -/
theorem read_34 (s : Fin 4096) (d : Fin 128) : (StableHlo.upto (List.flatten [hostOps0, hostOps0_1, hostOps0_2, hostOps0_3, hostOps0_4, hostOps0_5, hostOps0_6]) (fun b => m (c, b)) 53 (Proc.tc.devRef main_v34) (ix2 s d) : EReal) =
    if d.val % 64 < 8 then 0 else if d.val % 64 < 16 then sinT s.val (d.val % 64 - 8) else 0 := by
  refine (congrFun (array_34 m c _ _ rfl rfl) (ix2 s d)).trans ?_
  refine choose (hi_at s d) (fun h => ?_) fun h => ?_
  · refine (congrArg (Ideal.sin) (angles_at _ _ (read_freq m c) s d h.2)).trans ?_
    unfold sinT
    split_ifs
    all_goals first
      | (exfalso; omega)
      | rfl
  · refine Eq.trans (b := Ideal.ofBits FTy.f32 0#32) rfl ?_
    rw [Ideal.ofBits_zero]
    split_ifs
    all_goals first
      | (exfalso; omega)
      | rfl

/-- Its plane 0 is the table of cosines. -/
theorem plane_0 (s : Fin 4096) (d : Fin 128) {y : EReal} (h : (StableHlo.upto (List.flatten [hostOps0, hostOps0_1, hostOps0_2, hostOps0_3, hostOps0_4, hostOps0_5, hostOps0_6]) (fun b => m (c, b)) 51 (Proc.tc.devRef main_v31) (ix2 s d) : EReal) = y) :
    (V m c main_v38 (ix3 0 s d) : EReal) = y := by
  unfold V
  after_reads_at
  rw [StableHlo.unary_result]
  pointwise []
  exact h

/-- Its plane 1 is the table of first half's sines. -/
theorem plane_1 (s : Fin 4096) (d : Fin 128) {y : EReal} (h : (StableHlo.upto (List.flatten [hostOps0, hostOps0_1, hostOps0_2, hostOps0_3, hostOps0_4, hostOps0_5, hostOps0_6]) (fun b => m (c, b)) 52 (Proc.tc.devRef main_v33) (ix2 s d) : EReal) = y) :
    (V m c main_v38 (ix3 1 s d) : EReal) = y := by
  unfold V
  after_reads_at
  rw [StableHlo.unary_result]
  pointwise []
  exact h

/-- Its plane 2 is the table of second half's sines. -/
theorem plane_2 (s : Fin 4096) (d : Fin 128) {y : EReal} (h : (StableHlo.upto (List.flatten [hostOps0, hostOps0_1, hostOps0_2, hostOps0_3, hostOps0_4, hostOps0_5, hostOps0_6]) (fun b => m (c, b)) 53 (Proc.tc.devRef main_v34) (ix2 s d) : EReal) = y) :
    (V m c main_v38 (ix3 2 s d) : EReal) = y := by
  unfold V
  after_reads_at
  rw [StableHlo.unary_result]
  pointwise []
  exact h

/-- The weights the call sees are the argument's transpose. -/
theorem weights (j : Fin 7424) (k : Fin 1024) : V m c main_v1 (ix2 j k) = m ((c.tc : Thread nD τ).loc main_arg2) (ix2 k j) := by
  unfold V
  after_reads_at

end Cert.Kernel4Ideal.Gen

end
-- ==== Proof.ProjKernel.lean ====
module

public import proofs.«01_k».proof.Proof.ProjRunA
public import proofs.«01_k».proof.Proof.ProjRunB
public import proofs.«01_k».proof.Proof.ProjHost
public import Idealize.ShloMosaic.Lib.Pipeline.ValueKit

/-!
# The forward projection: what the kernel's eight result arrays end holding

The normalised rows, and their products with the weights' columns in seven parts, the queries and keys among them rotated.
-/

@[expose] public section

noncomputable section

open scoped BigOperators
open Idealize.ShloMosaic Idealize.SL.Sem

namespace Cert.Kernel4Ideal.Gen
open Cert.Proj

variable (m : (ℓ : Loc nD τ sig) → Buf (Elt Ideal) ℓ)

/-- The argument arrays of a device: the rows `X`, the gain `g`, the weights `W`, whose columns are counted by natural numbers. -/
structure IsArgs (c : Dev nD) (X : Fin 4096 → Fin 1024 → EReal) (g : Fin 1024 → EReal) (W : Fin 1024 → ℕ → EReal) : Prop where
  x : ∀ s k, m ((c.tc : Thread nD τ).loc main_arg0) (ix2 s k) = X s k
  g : ∀ k, m ((c.tc : Thread nD τ).loc main_arg1) (ix2 0 k) = g k
  w : ∀ k (j : Fin 7424), m ((c.tc : Thread nD τ).loc main_arg2) (ix2 k j) = W k j.val

/-- Row `r` of tile `t`. -/
def row (t : Fin cfg0.N) (r : Fin 512) : Fin 4096 := ⟨512 * t.val + r.val, by have : t.val < 8 := t.isLt; omega⟩

/-- Where each window's block lies at point `t`, in blocks. -/
theorem idx (t : Fin cfg0.N) :
    (win0_0.index t = ![t.val, 0] ∧ win0_1.index t = ![0, 0] ∧ win0_2.index t = ![0, t.val, 0]) ∧
    (win0_3.index t = ![t.val, 0] ∧ win0_4.index t = ![t.val, 0] ∧ win0_5.index t = ![t.val, 0] ∧ win0_6.index t = ![t.val, 0]) ∧
    (win0_7.index t = ![t.val, 0] ∧ win0_8.index t = ![t.val, 0] ∧ win0_9.index t = ![t.val, 0] ∧ win0_10.index t = ![t.val, 0]) := by
  revert t; decide +kernel

/-- The rows of a point. -/
theorem block_x {c : Dev nD} {X : Fin 4096 → Fin 1024 → EReal} {g : Fin 1024 → EReal} {W : Fin 1024 → ℕ → EReal} (R : IsArgs m c X g W) (t : Fin cfg0.N) (r : Fin 512) (k : Fin 1024) :
    iblk m c 0 t (ix2 r k) = X (row t r) k := by
  have e0 := (idx t).1.1
  refine Eq.trans ?_ (R.x (row t r) k)
  unfold iblk
  rw [View.read_apply]
  show V m c main_arg0 _ = _
  rw [V_main_arg0]
  congr 1
  blk_ext [e0, row]

/-- The gain. -/
theorem block_g {c : Dev nD} {X : Fin 4096 → Fin 1024 → EReal} {g : Fin 1024 → EReal} {W : Fin 1024 → ℕ → EReal} (R : IsArgs m c X g W) (t : Fin cfg0.N) (k : Fin 1024) :
    iblk m c 1 t (ix2 0 k) = g k := by
  have e1 := (idx t).1.2.1
  refine Eq.trans ?_ (R.g k)
  unfold iblk
  rw [View.read_apply]
  show V m c main_arg1 _ = _
  rw [V_main_arg1]
  congr 1
  blk_ext [e1]

/-- The tables' rows of a point. -/
theorem block_t (c : Dev nD) (t : Fin cfg0.N) (p : Fin 3) (r : Fin 512) (d : Fin 128) : iblk m c 2 t (ix3 p r d) = V m c main_v38 (ix3 p (row t r) d) := by
  have e2 := (idx t).1.2.2
  unfold iblk
  rw [View.read_apply]
  show V m c main_v38 _ = _
  generalize V m c main_v38 = A
  congr 1
  blk_ext [e2, row]

/-- The blocks of a point: 512 rows of the array and of the tables, the gain and the weights whole. -/
theorem isTile {c : Dev nD} {X : Fin 4096 → Fin 1024 → EReal} {g : Fin 1024 → EReal} {W : Fin 1024 → ℕ → EReal} (R : IsArgs m c X g W) (t : Fin cfg0.N) :
    IsTile (iblk m c 0 t) (iblk m c 1 t) (iblk m c 2 t) (V m c main_v1) (fun r => X (row t r)) g W (fun r => cosT (row t r).val) (fun r => sinT (row t r).val) :=
  ⟨fun r k => block_x m R t r k, fun k => block_g m R t k, fun j k => (weights m c j k).trans (R.w k j),
    fun r d => (block_t m c t 0 r d).trans (plane_0 m c (row t r) d (read_31 m c (row t r) d)),
    fun r d => (block_t m c t 1 r d).trans (plane_1 m c (row t r) d (read_33 m c (row t r) d)),
    fun r d => (block_t m c t 2 r d).trans (plane_2 m c (row t r) d (read_34 m c (row t r) d))⟩

/-- The scratch holds the weights from the first point on. -/
theorem scratch (c : Dev nD) : ∀ (n : ℕ) (h : n < cfg0.N), (outsAt0 m c n h).2.2.2.2.2.2.2.2 = V m c main_v1 := by
  intro n
  induction n with
  | zero =>
    intro h
    rw [show outsAt0 m c 0 h = _ from outsAt0_A m c ⟨0, h⟩ rfl]
    dsimp only
    exact sout_A c _ _ _ _ _ _ _ _ _ _ _ _ _ _ _ _ _ _ _ _ _ _ _ _ _ _ _ _ _ _
  | succ n ih =>
    intro h
    have hN : n + 1 < 8 := h
    rw [show outsAt0 m c (n + 1) h = _ from outsAt0_B m c ⟨n + 1, h⟩ (by show ¬(n + 1) % 8 = 0; omega)]
    dsimp only
    unfold sout0_B_0
    exact ih _

/-- The normalised rows: a point's block. -/
theorem outs3 {c : Dev nD} {X : Fin 4096 → Fin 1024 → EReal} {g : Fin 1024 → EReal} {W : Fin 1024 → ℕ → EReal} (R : IsArgs m c X g W) (t : Fin cfg0.N) (y : S512x1024.Idx) :
    (outsAt0 m c t.val t.isLt).1 y = hn (X (row t (y 0))) g (y 1) := by
  by_cases h : t.val % 8 = 0
  · rw [outsAt0_A m c t h]
    dsimp only
    exact out_A_3 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_3 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The normalised rows: the result array. -/
theorem final3 {c : Dev nD} {X : Fin 4096 → Fin 1024 → EReal} {g : Fin 1024 → EReal} {W : Fin 1024 → ℕ → EReal} (R : IsArgs m c X g W) :
    (dats m 0 c).arrAt 3 cfg0.N = fun y : S4096x1024.Idx => hn (X (y 0)) g (y 1) := by
  refine (dats m 0 c).arrAt_eq_of_covers 3 _ (by decide +kernel) fun t _ y => ?_
  obtain ⟨-, ⟨e3, e4, e5, e6⟩, e7, e8, e9, e10⟩ := idx t
  blk_simp
  rw [after0_3]
  have h0 : (win0_3.blk t).view.emb y 0 = row t (y 0) := Fin.ext (by blk_simp [e3]; show t.val * 512 + (y 0).val = 512 * t.val + (y 0).val; omega)
  have h1 : ((win0_3.blk t).view.emb y 1).val = (y 1).val := by blk_simp [e3]
  refine (outs3 m R t y).trans ?_
  have h1' : (win0_3.blk t).view.emb y 1 = (y 1 : Fin 1024) := Fin.ext h1
  rw [h0, h1']

/-- The part that begins at column 0: a point's block. -/
theorem outs4 {c : Dev nD} {X : Fin 4096 → Fin 1024 → EReal} {g : Fin 1024 → EReal} {W : Fin 1024 → ℕ → EReal} (R : IsArgs m c X g W) (t : Fin cfg0.N) (y : S512x2048.Idx) :
    (outsAt0 m c t.val t.isLt).2.1 y = cols (fun r => proj (hn (X (row t r)) g) W) 0 y := by
  by_cases h : t.val % 8 = 0
  · rw [outsAt0_A m c t h]
    dsimp only
    exact out_A_4 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_4 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The part that begins at column 0: the result array. -/
theorem final4 {c : Dev nD} {X : Fin 4096 → Fin 1024 → EReal} {g : Fin 1024 → EReal} {W : Fin 1024 → ℕ → EReal} (R : IsArgs m c X g W) :
    (dats m 0 c).arrAt 4 cfg0.N = fun y : S4096x2048.Idx => cols (fun r => proj (hn (X r) g) W) 0 y := by
  refine (dats m 0 c).arrAt_eq_of_covers 4 _ (by decide +kernel) fun t _ y => ?_
  obtain ⟨-, ⟨e3, e4, e5, e6⟩, e7, e8, e9, e10⟩ := idx t
  blk_simp
  rw [after0_4]
  have h0 : (win0_4.blk t).view.emb y 0 = row t (y 0) := Fin.ext (by blk_simp [e4]; show t.val * 512 + (y 0).val = 512 * t.val + (y 0).val; omega)
  have h1 : ((win0_4.blk t).view.emb y 1).val = (y 1).val := by blk_simp [e4]
  refine (outs4 m R t y).trans ?_
  unfold cols
  rw [h0, h1]

/-- The queries, rotated: a point's block. -/
theorem outs5 {c : Dev nD} {X : Fin 4096 → Fin 1024 → EReal} {g : Fin 1024 → EReal} {W : Fin 1024 → ℕ → EReal} (R : IsArgs m c X g W) (t : Fin cfg0.N) (y : S512x512.Idx) :
    (outsAt0 m c t.val t.isLt).2.2.1 y = rots (fun r => proj (hn (X (row t r)) g) W) (fun r => cosT (row t r).val) (fun r => sinT (row t r).val) 2048 y := by
  by_cases h : t.val % 8 = 0
  · rw [outsAt0_A m c t h]
    dsimp only
    exact out_A_5 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_5 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The queries, rotated: the result array. -/
theorem final5 {c : Dev nD} {X : Fin 4096 → Fin 1024 → EReal} {g : Fin 1024 → EReal} {W : Fin 1024 → ℕ → EReal} (R : IsArgs m c X g W) :
    (dats m 0 c).arrAt 5 cfg0.N = fun y : S4096x512.Idx => rots (fun r => proj (hn (X r) g) W) (fun r => cosT r.val) (fun r => sinT r.val) 2048 y := by
  refine (dats m 0 c).arrAt_eq_of_covers 5 _ (by decide +kernel) fun t _ y => ?_
  obtain ⟨-, ⟨e3, e4, e5, e6⟩, e7, e8, e9, e10⟩ := idx t
  blk_simp
  rw [after0_5]
  have h0 : (win0_5.blk t).view.emb y 0 = row t (y 0) := Fin.ext (by blk_simp [e5]; show t.val * 512 + (y 0).val = 512 * t.val + (y 0).val; omega)
  have h1 : ((win0_5.blk t).view.emb y 1).val = (y 1).val := by blk_simp [e5]
  refine (outs5 m R t y).trans ?_
  unfold rots
  rw [h0, h1]

/-- The keys, rotated, with the values beside them: a point's block. -/
theorem outs6 {c : Dev nD} {X : Fin 4096 → Fin 1024 → EReal} {g : Fin 1024 → EReal} {W : Fin 1024 → ℕ → EReal} (R : IsArgs m c X g W) (t : Fin cfg0.N) (y : S512x256.Idx) :
    (outsAt0 m c t.val t.isLt).2.2.2.1 y = half (fun r => proj (hn (X (row t r)) g) W) (fun r => cosT (row t r).val) (fun r => sinT (row t r).val) 2560 y := by
  by_cases h : t.val % 8 = 0
  · rw [outsAt0_A m c t h]
    dsimp only
    exact out_A_6 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_6 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The keys, rotated, with the values beside them: the result array. -/
theorem final6 {c : Dev nD} {X : Fin 4096 → Fin 1024 → EReal} {g : Fin 1024 → EReal} {W : Fin 1024 → ℕ → EReal} (R : IsArgs m c X g W) :
    (dats m 0 c).arrAt 6 cfg0.N = fun y : S4096x256.Idx => half (fun r => proj (hn (X r) g) W) (fun r => cosT r.val) (fun r => sinT r.val) 2560 y := by
  refine (dats m 0 c).arrAt_eq_of_covers 6 _ (by decide +kernel) fun t _ y => ?_
  obtain ⟨-, ⟨e3, e4, e5, e6⟩, e7, e8, e9, e10⟩ := idx t
  blk_simp
  rw [after0_6]
  have h0 : (win0_6.blk t).view.emb y 0 = row t (y 0) := Fin.ext (by blk_simp [e6]; show t.val * 512 + (y 0).val = 512 * t.val + (y 0).val; omega)
  have h1 : ((win0_6.blk t).view.emb y 1).val = (y 1).val := by blk_simp [e6]
  refine (outs6 m R t y).trans ?_
  unfold half rots cols
  rw [h0, h1]

/-- The part that begins at column 2816: a point's block. -/
theorem outs7 {c : Dev nD} {X : Fin 4096 → Fin 1024 → EReal} {g : Fin 1024 → EReal} {W : Fin 1024 → ℕ → EReal} (R : IsArgs m c X g W) (t : Fin cfg0.N) (y : S512x512.Idx) :
    (outsAt0 m c t.val t.isLt).2.2.2.2.1 y = cols (fun r => proj (hn (X (row t r)) g) W) 2816 y := by
  by_cases h : t.val % 8 = 0
  · rw [outsAt0_A m c t h]
    dsimp only
    exact out_A_7 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_7 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The part that begins at column 2816: the result array. -/
theorem final7 {c : Dev nD} {X : Fin 4096 → Fin 1024 → EReal} {g : Fin 1024 → EReal} {W : Fin 1024 → ℕ → EReal} (R : IsArgs m c X g W) :
    (dats m 0 c).arrAt 7 cfg0.N = fun y : S4096x512.Idx => cols (fun r => proj (hn (X r) g) W) 2816 y := by
  refine (dats m 0 c).arrAt_eq_of_covers 7 _ (by decide +kernel) fun t _ y => ?_
  obtain ⟨-, ⟨e3, e4, e5, e6⟩, e7, e8, e9, e10⟩ := idx t
  blk_simp
  rw [after0_7]
  have h0 : (win0_7.blk t).view.emb y 0 = row t (y 0) := Fin.ext (by blk_simp [e7]; show t.val * 512 + (y 0).val = 512 * t.val + (y 0).val; omega)
  have h1 : ((win0_7.blk t).view.emb y 1).val = (y 1).val := by blk_simp [e7]
  refine (outs7 m R t y).trans ?_
  unfold cols
  rw [h0, h1]

/-- The part that begins at column 3328: a point's block. -/
theorem outs8 {c : Dev nD} {X : Fin 4096 → Fin 1024 → EReal} {g : Fin 1024 → EReal} {W : Fin 1024 → ℕ → EReal} (R : IsArgs m c X g W) (t : Fin cfg0.N) (y : S512x512.Idx) :
    (outsAt0 m c t.val t.isLt).2.2.2.2.2.1 y = cols (fun r => proj (hn (X (row t r)) g) W) 3328 y := by
  by_cases h : t.val % 8 = 0
  · rw [outsAt0_A m c t h]
    dsimp only
    exact out_A_8 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_8 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The part that begins at column 3328: the result array. -/
theorem final8 {c : Dev nD} {X : Fin 4096 → Fin 1024 → EReal} {g : Fin 1024 → EReal} {W : Fin 1024 → ℕ → EReal} (R : IsArgs m c X g W) :
    (dats m 0 c).arrAt 8 cfg0.N = fun y : S4096x512.Idx => cols (fun r => proj (hn (X r) g) W) 3328 y := by
  refine (dats m 0 c).arrAt_eq_of_covers 8 _ (by decide +kernel) fun t _ y => ?_
  obtain ⟨-, ⟨e3, e4, e5, e6⟩, e7, e8, e9, e10⟩ := idx t
  blk_simp
  rw [after0_8]
  have h0 : (win0_8.blk t).view.emb y 0 = row t (y 0) := Fin.ext (by blk_simp [e8]; show t.val * 512 + (y 0).val = 512 * t.val + (y 0).val; omega)
  have h1 : ((win0_8.blk t).view.emb y 1).val = (y 1).val := by blk_simp [e8]
  refine (outs8 m R t y).trans ?_
  unfold cols
  rw [h0, h1]

/-- The part that begins at column 3840: a point's block. -/
theorem outs9 {c : Dev nD} {X : Fin 4096 → Fin 1024 → EReal} {g : Fin 1024 → EReal} {W : Fin 1024 → ℕ → EReal} (R : IsArgs m c X g W) (t : Fin cfg0.N) (y : S512x512.Idx) :
    (outsAt0 m c t.val t.isLt).2.2.2.2.2.2.1 y = cols (fun r => proj (hn (X (row t r)) g) W) 3840 y := by
  by_cases h : t.val % 8 = 0
  · rw [outsAt0_A m c t h]
    dsimp only
    exact out_A_9 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_9 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The part that begins at column 3840: the result array. -/
theorem final9 {c : Dev nD} {X : Fin 4096 → Fin 1024 → EReal} {g : Fin 1024 → EReal} {W : Fin 1024 → ℕ → EReal} (R : IsArgs m c X g W) :
    (dats m 0 c).arrAt 9 cfg0.N = fun y : S4096x512.Idx => cols (fun r => proj (hn (X r) g) W) 3840 y := by
  refine (dats m 0 c).arrAt_eq_of_covers 9 _ (by decide +kernel) fun t _ y => ?_
  obtain ⟨-, ⟨e3, e4, e5, e6⟩, e7, e8, e9, e10⟩ := idx t
  blk_simp
  rw [after0_9]
  have h0 : (win0_9.blk t).view.emb y 0 = row t (y 0) := Fin.ext (by blk_simp [e9]; show t.val * 512 + (y 0).val = 512 * t.val + (y 0).val; omega)
  have h1 : ((win0_9.blk t).view.emb y 1).val = (y 1).val := by blk_simp [e9]
  refine (outs9 m R t y).trans ?_
  unfold cols
  rw [h0, h1]

/-- The part that begins at column 4352: a point's block. -/
theorem outs10 {c : Dev nD} {X : Fin 4096 → Fin 1024 → EReal} {g : Fin 1024 → EReal} {W : Fin 1024 → ℕ → EReal} (R : IsArgs m c X g W) (t : Fin cfg0.N) (y : S512x3072.Idx) :
    (outsAt0 m c t.val t.isLt).2.2.2.2.2.2.2.1 y = cols (fun r => proj (hn (X (row t r)) g) W) 4352 y := by
  by_cases h : t.val % 8 = 0
  · rw [outsAt0_A m c t h]
    dsimp only
    exact out_A_10 c _ _ _ _ _ _ _ _ _ _ _ _ _ _ _ _ _ _ _ _ _ _ _ _ _ _ _ _ _ _ (fun r => X (row t r)) g W (fun r => cosT (row t r).val) (fun r => sinT (row t r).val) (isTile m R t) y
  · rw [outsAt0_B m c t h]
    dsimp only
    refine out_B_10 c _ _ _ _ _ _ _ _ _ _ _ _ _ _ _ _ _ _ _ _ _ _ _ _ _ _ _ _ _ _ _ (fun r => X (row t r)) g W (fun r => cosT (row t r).val) (fun r => sinT (row t r).val) ?_ y
    rw [scratch]
    exact isTile m R t

/-- The part that begins at column 4352: the result array. -/
theorem final10 {c : Dev nD} {X : Fin 4096 → Fin 1024 → EReal} {g : Fin 1024 → EReal} {W : Fin 1024 → ℕ → EReal} (R : IsArgs m c X g W) :
    (dats m 0 c).arrAt 10 cfg0.N = fun y : S4096x3072.Idx => cols (fun r => proj (hn (X r) g) W) 4352 y := by
  refine (dats m 0 c).arrAt_eq_of_covers 10 _ (by decide +kernel) fun t _ y => ?_
  obtain ⟨-, ⟨e3, e4, e5, e6⟩, e7, e8, e9, e10⟩ := idx t
  blk_simp
  rw [after0_10]
  have h0 : (win0_10.blk t).view.emb y 0 = row t (y 0) := Fin.ext (by blk_simp [e10]; show t.val * 512 + (y 0).val = 512 * t.val + (y 0).val; omega)
  have h1 : ((win0_10.blk t).view.emb y 1).val = (y 1).val := by blk_simp [e10]
  refine (outs10 m R t y).trans ?_
  unfold cols
  rw [h0, h1]

end Cert.Kernel4Ideal.Gen

end
-- ==== Proof.ProjReference.lean ====
module

public import proofs.«01_k».proof.Proof.Gen.Reference4Ideal.Read
public import proofs.«01_k».proof.Proof.ProjMath
public import Idealize.ShloMosaic.Lib.Pointwise
public import Idealize.ShloMosaic.Lib.Pipeline.ValueKit

/-!
# The forward projection: what the reference computes

The same eight arrays: the normalised rows, and their products with the weights' columns in seven parts, the queries and keys among them rotated.
-/

@[expose] public section

noncomputable section

open scoped BigOperators
open Idealize.ShloMosaic Idealize.SL.Sem

namespace Cert.Reference4Ideal.Read
open Cert.Reference4Ideal Cert.Reference4Ideal.Gen Cert.Proj
variable [Facts]

/-- The argument arrays: the rows `X`, the gain `g`, the weights `W`, whose columns are counted by natural numbers. -/
structure AreArgs (x0 : Vec Ideal S4096x1024 .f32) (x1 : Vec Ideal S1x1024 .f32) (x2 : Vec Ideal S1024x7424 .f32)
    (X : Fin 4096 → Fin 1024 → EReal) (g : Fin 1024 → EReal) (W : Fin 1024 → ℕ → EReal) : Prop where
  x : ∀ s k, x0 (ix2 s k) = X s k
  g : ∀ k, x1 (ix2 0 k) = g k
  w : ∀ k (j : Fin 7424), x2 (ix2 k j) = W k j.val

variable {x0 : Vec Ideal S4096x1024 .f32} {x1 : Vec Ideal S1x1024 .f32} {x2 : Vec Ideal S1024x7424 .f32}
  {X : Fin 4096 → Fin 1024 → EReal} {g : Fin 1024 → EReal} {W : Fin 1024 → ℕ → EReal}

/-- The normalised rows. -/
theorem rows (R : AreArgs x0 x1 x2 X g W) (s : Fin 4096) (k : Fin 1024) : val_main_v13 (F := Ideal) x0 x1 (ix3 0 s k) = hn (X s) g k := by
  unfold val_main_v13 val_main_v12 val_main_v11 val_main_v10 val_main_v9 val_main_v8 val_main_v7 val_main_v6 val_main_v5 val_main_v4 val_main_v3 val_main_v2 val_main_v1 val_main_v0
  unfold val_main_cst val_main_cst_0 val_main_cst_1
  pointwise []
  simp only [R.x, R.g]
  rfl

/-- Their products with the weights' columns. -/
theorem products (R : AreArgs x0 x1 x2 X g W) (s : Fin 4096) (j : Fin 7424) (n : ℕ) (hn' : j.val = n) : val_main_v14 (F := Ideal) x0 x1 x2 (ix3 0 s j) = proj (hn (X s) g) W n := by
  subst hn'
  have e := rows R s
  unfold val_main_v14
  generalize val_main_v13 (F := Ideal) x0 x1 = B at e ⊢
  pointwise []
  exact Finset.sum_congr rfl fun k _ => congrArg₂ (· * ·) (e k) (R.w k j)

/-- The angles by which the queries turn. -/
theorem angles_q (s : Fin 4096) (i : Fin 8) : val_main_v37 (F := Ideal) (ix2 s i) = angle s.val i.val := by
  unfold val_main_v37 val_main_v36 val_main_v35 val_main_v34 val_main_v33 val_main_v32 val_main_v31 val_main_v30 val_main_v29 val_main_v28 val_main_v27 val_main_v26 val_main_v24
  unfold val_main_cst_2 val_main_cst_3
  pointwise []
  rfl

/-- The angles by which the keys turn. -/
theorem angles_k (s : Fin 4096) (i : Fin 8) : val_main_v71 (F := Ideal) (ix2 s i) = angle s.val i.val := by
  unfold val_main_v71 val_main_v70 val_main_v69 val_main_v68 val_main_v67 val_main_v66 val_main_v65 val_main_v64 val_main_v63 val_main_v62 val_main_v61 val_main_v60 val_main_v24
  unfold val_main_cst_4 val_main_cst_5
  pointwise []
  rfl

/-- The queries before their rotation, head by head. -/
theorem heads_q (R : AreArgs x0 x1 x2 X g W) (s : Fin 4096) (h : Fin 8) (e : Fin 64) :
    val_main_v25 (F := Ideal) x0 x1 x2 (ix4 0 s h e) = proj (hn (X s) g) W (2048 + (64 * h.val + e.val)) := by
  have p := products R s
  unfold val_main_v25 val_main_v16
  generalize val_main_v14 (F := Ideal) x0 x1 x2 = B at p ⊢
  pointwise []
  exact p _ _ (by dsimp only; omega)

/-- The queries, rotated. -/
theorem turned_q (R : AreArgs x0 x1 x2 X g W) (s : Fin 4096) (h : Fin 8) (e : Fin 64) :
    val_main_v57 (F := Ideal) x0 x1 x2 (ix4 0 s h e) = rope (proj (hn (X s) g) W) (cosT s.val) (sinT s.val) 2048 (64 * h.val + e.val) := by
  have p := heads_q R s h
  have t := angles_q s
  unfold val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38
  generalize val_main_v25 (F := Ideal) x0 x1 x2 = B at p ⊢
  generalize val_main_v37 (F := Ideal) = T at t ⊢
  pointwise []
  simp only [p, t]
  rw [rope_head _ _ _ _ _ _ e.isLt]
  split_ifs
  all_goals first
    | (exfalso; omega)
    | rfl
    | (rw [show 8 + (e.val - 8) = e.val by omega]; rfl)
    | (rw [show 16 + (e.val - 16) = e.val by omega])

/-- The keys before their rotation, head by head. -/
theorem heads_k (R : AreArgs x0 x1 x2 X g W) (s : Fin 4096) (h : Fin 2) (e : Fin 64) :
    val_main_v59 (F := Ideal) x0 x1 x2 (ix4 0 s h e) = proj (hn (X s) g) W (2560 + (64 * h.val + e.val)) := by
  have p := products R s
  unfold val_main_v59 val_main_v22 val_main_v17
  generalize val_main_v14 (F := Ideal) x0 x1 x2 = B at p ⊢
  pointwise []
  exact p _ _ (by dsimp only; omega)

/-- The keys, rotated. -/
theorem turned_k (R : AreArgs x0 x1 x2 X g W) (s : Fin 4096) (h : Fin 2) (e : Fin 64) :
    val_main_v91 (F := Ideal) x0 x1 x2 (ix4 0 s h e) = rope (proj (hn (X s) g) W) (cosT s.val) (sinT s.val) 2560 (64 * h.val + e.val) := by
  have p := heads_k R s h
  have t := angles_k s
  unfold val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72
  generalize val_main_v59 (F := Ideal) x0 x1 x2 = B at p ⊢
  generalize val_main_v71 (F := Ideal) = T at t ⊢
  pointwise []
  simp only [p, t]
  rw [rope_head _ _ _ _ _ _ e.isLt]
  split_ifs
  all_goals first
    | (exfalso; omega)
    | rfl
    | (rw [show 8 + (e.val - 8) = e.val by omega]; rfl)
    | (rw [show 16 + (e.val - 16) = e.val by omega])

/-- The first result. -/
theorem result_95 (R : AreArgs x0 x1 x2 X g W) (y : S4096x1024.Idx) : val_main_v95 (F := Ideal) x0 x1 y = hn (X (y 0)) g (y 1) := by
  refine (congrArg (val_main_v95 (F := Ideal) x0 x1) (eq_ix2 y)).trans ?_
  generalize (y 0 : Fin 4096) = s
  generalize (y 1 : Fin 1024) = k
  have e := rows R s k
  unfold val_main_v95 val_main_v94
  generalize val_main_v13 (F := Ideal) x0 x1 = B at e ⊢
  pointwise []
  exact e

/-- The part of the products that begins at column 0. -/
theorem result_97 (R : AreArgs x0 x1 x2 X g W) (y : S4096x2048.Idx) : val_main_v97 (F := Ideal) x0 x1 x2 y = cols (fun r => proj (hn (X r) g) W) 0 y := by
  refine (congrArg (val_main_v97 (F := Ideal) x0 x1 x2) (eq_ix2 y)).trans ?_
  unfold cols
  generalize (y 0 : Fin 4096) = s
  generalize (y 1 : Fin 2048) = l
  have p := products R s
  unfold val_main_v97 val_main_v96 val_main_v15
  generalize val_main_v14 (F := Ideal) x0 x1 x2 = B at p ⊢
  pointwise []
  exact p _ _ (by dsimp only)

/-- The part of the products that begins at column 2816. -/
theorem result_103 (R : AreArgs x0 x1 x2 X g W) (y : S4096x512.Idx) : val_main_v103 (F := Ideal) x0 x1 x2 y = cols (fun r => proj (hn (X r) g) W) 2816 y := by
  refine (congrArg (val_main_v103 (F := Ideal) x0 x1 x2) (eq_ix2 y)).trans ?_
  unfold cols
  generalize (y 0 : Fin 4096) = s
  generalize (y 1 : Fin 512) = l
  have p := products R s
  unfold val_main_v103 val_main_v102 val_main_v18
  generalize val_main_v14 (F := Ideal) x0 x1 x2 = B at p ⊢
  pointwise []
  exact p _ _ (by dsimp only)

/-- The part of the products that begins at column 3328. -/
theorem result_105 (R : AreArgs x0 x1 x2 X g W) (y : S4096x512.Idx) : val_main_v105 (F := Ideal) x0 x1 x2 y = cols (fun r => proj (hn (X r) g) W) 3328 y := by
  refine (congrArg (val_main_v105 (F := Ideal) x0 x1 x2) (eq_ix2 y)).trans ?_
  unfold cols
  generalize (y 0 : Fin 4096) = s
  generalize (y 1 : Fin 512) = l
  have p := products R s
  unfold val_main_v105 val_main_v104 val_main_v19
  generalize val_main_v14 (F := Ideal) x0 x1 x2 = B at p ⊢
  pointwise []
  exact p _ _ (by dsimp only)

/-- The part of the products that begins at column 3840. -/
theorem result_107 (R : AreArgs x0 x1 x2 X g W) (y : S4096x512.Idx) : val_main_v107 (F := Ideal) x0 x1 x2 y = cols (fun r => proj (hn (X r) g) W) 3840 y := by
  refine (congrArg (val_main_v107 (F := Ideal) x0 x1 x2) (eq_ix2 y)).trans ?_
  unfold cols
  generalize (y 0 : Fin 4096) = s
  generalize (y 1 : Fin 512) = l
  have p := products R s
  unfold val_main_v107 val_main_v106 val_main_v20
  generalize val_main_v14 (F := Ideal) x0 x1 x2 = B at p ⊢
  pointwise []
  exact p _ _ (by dsimp only)

/-- The part of the products that begins at column 4352. -/
theorem result_109 (R : AreArgs x0 x1 x2 X g W) (y : S4096x3072.Idx) : val_main_v109 (F := Ideal) x0 x1 x2 y = cols (fun r => proj (hn (X r) g) W) 4352 y := by
  refine (congrArg (val_main_v109 (F := Ideal) x0 x1 x2) (eq_ix2 y)).trans ?_
  unfold cols
  generalize (y 0 : Fin 4096) = s
  generalize (y 1 : Fin 3072) = l
  have p := products R s
  unfold val_main_v109 val_main_v108 val_main_v21
  generalize val_main_v14 (F := Ideal) x0 x1 x2 = B at p ⊢
  pointwise []
  exact p _ _ (by dsimp only)

/-- The queries. -/
theorem result_99 (R : AreArgs x0 x1 x2 X g W) (y : S4096x512.Idx) :
    val_main_v99 (F := Ideal) x0 x1 x2 y = rots (fun r => proj (hn (X r) g) W) (fun r => cosT r.val) (fun r => sinT r.val) 2048 y := by
  refine (congrArg (val_main_v99 (F := Ideal) x0 x1 x2) (eq_ix2 y)).trans ?_
  unfold rots
  generalize (y 0 : Fin 4096) = s
  generalize (y 1 : Fin 512) = l
  have p := turned_q R s
  unfold val_main_v99 val_main_v98 val_main_v58
  generalize val_main_v57 (F := Ideal) x0 x1 x2 = B at p ⊢
  pointwise []
  exact (p _ _).trans (congrArg (rope _ _ _ _) (by dsimp only; omega))

/-- The keys, with the values beside them. -/
theorem result_101 (R : AreArgs x0 x1 x2 X g W) (y : S4096x256.Idx) :
    val_main_v101 (F := Ideal) x0 x1 x2 y = half (fun r => proj (hn (X r) g) W) (fun r => cosT r.val) (fun r => sinT r.val) 2560 y := by
  refine (congrArg (val_main_v101 (F := Ideal) x0 x1 x2) (eq_ix2 y)).trans ?_
  unfold half rots cols
  generalize (y 0 : Fin 4096) = s
  generalize (y 1 : Fin 256) = l
  have p := turned_k R s
  have q := products R s
  unfold val_main_v101 val_main_v100 val_main_v93 val_main_v92 val_main_v23 val_main_v17
  generalize val_main_v91 (F := Ideal) x0 x1 x2 = B at p ⊢
  generalize val_main_v14 (F := Ideal) x0 x1 x2 = C at q ⊢
  pointwise []
  by_cases h : l.val < 128
  · rw [dif_pos h, if_pos h]
    exact (p _ _).trans (congrArg (rope _ _ _ _) (by dsimp only; omega))
  · rw [dif_neg h, if_neg h]
    exact q _ _ (by dsimp only; omega)

end Cert.Reference4Ideal.Read

end
-- ==== Proof.ProjClaim.lean ====
module

public import proofs.«01_k».proof.Defs
public import proofs.«01_k».proof.Proof.ProjKernel
public import proofs.«01_k».proof.Proof.ProjReference

/-!
# The forward projection: kernel and reference agree

Whatever the arguments hold, both runs end with the same eight arrays.
-/

@[expose] public section

noncomputable section

namespace Cert.Proj
open Idealize.ShloMosaic Idealize.SL.Sem

/-- Any argument arrays are rows, a gain and weights. -/
theorem isArgs (m : (ℓ : Loc Cert.Kernel4Ideal.nD Cert.Kernel4Ideal.τ Cert.Kernel4Ideal.sig) → Buf (Elt Ideal) ℓ) (c : Dev Cert.Kernel4Ideal.nD) :
    ∃ (X : Fin 4096 → Fin 1024 → EReal) (g : Fin 1024 → EReal) (W : Fin 1024 → ℕ → EReal), Cert.Kernel4Ideal.Gen.IsArgs m c X g W :=
  ⟨fun s k => (m ((c.tc : Thread Cert.Kernel4Ideal.nD Cert.Kernel4Ideal.τ).loc Cert.Kernel4Ideal.main_arg0)) (ix2 s k), fun k => (m ((c.tc : Thread Cert.Kernel4Ideal.nD Cert.Kernel4Ideal.τ).loc Cert.Kernel4Ideal.main_arg1)) (ix2 0 k),
    fun k j => (m ((c.tc : Thread Cert.Kernel4Ideal.nD Cert.Kernel4Ideal.τ).loc Cert.Kernel4Ideal.main_arg2)) (ix2 k ⟨j % 7424, Nat.mod_lt _ (by decide)⟩),
    fun _ _ => rfl, fun _ => rfl, fun k j => congrArg (fun i : Fin 7424 => (m ((c.tc : Thread Cert.Kernel4Ideal.nD Cert.Kernel4Ideal.τ).loc Cert.Kernel4Ideal.main_arg2)) (ix2 k i)) (Fin.ext (Nat.mod_eq_of_lt j.isLt).symm)⟩

/-! Each result array of the reference is the kernel's. -/

theorem agree_0 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v95 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = (Cert.Kernel4Ideal.Gen.dats m 0 c).arrAt 3 Cert.Kernel4Ideal.cfg0.N :=
  (funext fun y => Cert.Reference4Ideal.Read.result_95 R' y).trans (Cert.Kernel4Ideal.Gen.final3 m R).symm

theorem agree_1 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v97 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 4 Cert.Kernel4Ideal.cfg0.N :=
  (funext fun y => Cert.Reference4Ideal.Read.result_97 R' y).trans (Cert.Kernel4Ideal.Gen.final4 m R).symm

theorem agree_2 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v99 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 5 Cert.Kernel4Ideal.cfg0.N :=
  (funext fun y => Cert.Reference4Ideal.Read.result_99 R' y).trans (Cert.Kernel4Ideal.Gen.final5 m R).symm

theorem agree_3 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v101 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 6 Cert.Kernel4Ideal.cfg0.N :=
  (funext fun y => Cert.Reference4Ideal.Read.result_101 R' y).trans (Cert.Kernel4Ideal.Gen.final6 m R).symm

theorem agree_4 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v103 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 7 Cert.Kernel4Ideal.cfg0.N :=
  (funext fun y => Cert.Reference4Ideal.Read.result_103 R' y).trans (Cert.Kernel4Ideal.Gen.final7 m R).symm

theorem agree_5 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v105 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 8 Cert.Kernel4Ideal.cfg0.N :=
  (funext fun y => Cert.Reference4Ideal.Read.result_105 R' y).trans (Cert.Kernel4Ideal.Gen.final8 m R).symm

theorem agree_6 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v107 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 9 Cert.Kernel4Ideal.cfg0.N :=
  (funext fun y => Cert.Reference4Ideal.Read.result_107 R' y).trans (Cert.Kernel4Ideal.Gen.final9 m R).symm

theorem agree_7 {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ}
    {c : Dev Cert.Kernel4Ideal.nD} {X : Fin 4096 → Fin 1024 → EReal} {G : Fin 1024 → EReal} {W : Fin 1024 → ℕ → EReal} (R : Cert.Kernel4Ideal.Gen.IsArgs m c X G W)
    (R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W) :
    Cert.Reference4Ideal.Read.val_main_v109 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = (Cert.Kernel4Ideal.Gen.dats m 0 c).arrAt 10 Cert.Kernel4Ideal.cfg0.N :=
  (funext fun y => Cert.Reference4Ideal.Read.result_109 R' y).trans (Cert.Kernel4Ideal.Gen.final10 m R).symm

set_option maxHeartbeats 4000000 in
theorem algebraic : Cert.algebraic_Kernel4Ideal_Reference4Ideal := by
  intro m g m' g' _ hagree
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N, fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N,
    Cert.Kernel4Ideal.Value.run_blocks m g, ?_⟩
  refine (θ_run _ _ _).mono (fun r h c => ?_) (Cert.Reference4Ideal.Value.run m' g')
  obtain ⟨q0, q1, q2, q3, q4, q5, q6, q7, hargs⟩ := h c
  obtain ⟨a0, a1, a2⟩ := hagree c
  obtain ⟨X, G, W, R⟩ := isArgs m c
  have R' : Cert.Reference4Ideal.Read.AreArgs (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) X G W :=
    ⟨fun s k => (congrFun a0 _).trans (R.x s k), fun k => (congrFun a1 _).trans (R.g k), fun k j => (congrFun a2 _).trans (R.w k j)⟩
  refine ⟨q0.trans ?_, q1.trans ?_, q2.trans ?_, q3.trans ?_, q4.trans ?_, q5.trans ?_, q6.trans ?_, q7.trans ?_, hargs⟩
  · rw [Cert.Reference4Ideal.Read.val_main_v95_eq]
    exact agree_0 R R'
  · rw [Cert.Reference4Ideal.Read.val_main_v97_eq]
    exact agree_1 R R'
  · rw [Cert.Reference4Ideal.Read.val_main_v99_eq]
    exact agree_2 R R'
  · rw [Cert.Reference4Ideal.Read.val_main_v101_eq]
    exact agree_3 R R'
  · rw [Cert.Reference4Ideal.Read.val_main_v103_eq]
    exact agree_4 R R'
  · rw [Cert.Reference4Ideal.Read.val_main_v105_eq]
    exact agree_5 R R'
  · rw [Cert.Reference4Ideal.Read.val_main_v107_eq]
    exact agree_6 R R'
  · rw [Cert.Reference4Ideal.Read.val_main_v109_eq]
    exact agree_7 R R'

end Cert.Proj

end
-- ==== Proof.WoFrames.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run

/-!
# The output projection's gradient in its weights: frames

Each program runs to its end, leaves its arguments as they were and every semaphore counter at zero.
-/

@[expose] public section

namespace Cert.Wo
open Idealize.ShloMosaic Idealize.SL.Sem

theorem frame_kernel : Cert.quiescent_Kernel5 := fun m ρ _ => Cert.Kernel5.Gen.frame m ρ

theorem frame_kernelIdeal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Cert.Wo
-- ==== Proof.WoKernel.lean ====
module

public import proofs.«01_k».proof.Proof.Gen.Kernel5Ideal.Value
public import proofs.«01_k».proof.Proof.Slabs
public import Idealize.ShloMosaic.Lib.Pointwise
public import Idealize.ShloMosaic.Lib.Pipeline.ValueKit

/-!
# The output projection's gradient in its weights: what the kernel computes

The merged activations, transposed, times the gradient, whatever they hold.
-/

@[expose] public section

noncomputable section

open scoped BigOperators
open Idealize.ShloMosaic Idealize.SL.Sem

namespace Cert.Kernel5Ideal.Gen
open Cert.Slabs

variable (m : (ℓ : Loc nD τ sig) → Buf (Elt Ideal) ℓ)

/-- What one grid point leaves in its block. -/
theorem out_apply (a : Vec Ideal S4096x256 .bf16) (b : Vec Ideal S4096x1024 .bf16) (r : Fin 256) (j : Fin 1024) :
    out0_2 (F := Ideal) a b (ix2 r j) = ∑ s : Fin 4096, a (ix2 s r) * b (ix2 s j) := by
  unfold out0_2 r0_0 r0_1 r0_2
  rw [View.canon_unit_zero (S := S256x1024) hz2, View.ld_unit_zero (S := S4096x256) hz2, View.ld_unit_zero (S := S4096x1024) hz2]
  unfold k0_pay1
  pointwise []

/-- Column `r` of the block of point `t`, among all columns. -/
def col (t : Fin cfg0.N) (r : Fin 256) : Fin 1024 := ⟨256 * t.val + r.val, by have : t.val < 4 := t.isLt; omega⟩

theorem idx (t : Fin cfg0.N) : win0_0.index t = ![0, t.val] ∧ win0_1.index t = ![0, 0] ∧ win0_2.index t = ![t.val, 0] := by
  revert t; decide +kernel

theorem blk_0 (c : Dev nD) (t : Fin cfg0.N) (s : Fin 4096) (r : Fin 256) :
    iblk m c 0 t (ix2 s r) = m ((c.tc : Thread nD τ).loc main_arg0) (ix2 s (col t r)) := by
  have e := (idx t).1
  unfold iblk
  rw [View.read_apply]
  show V m c main_arg0 _ = _
  rw [V_main_arg0]
  congr 1
  blk_ext [e, col]

theorem blk_1 (c : Dev nD) (t : Fin cfg0.N) (s : Fin 4096) (j : Fin 1024) :
    iblk m c 1 t (ix2 s j) = m ((c.tc : Thread nD τ).loc main_arg1) (ix2 s j) := by
  have e := (idx t).2.1
  unfold iblk
  rw [View.read_apply]
  show V m c main_arg1 _ = _
  rw [V_main_arg1]
  congr 1
  blk_ext [e]

/-- The product of the first array, transposed, with the second. -/
def gram (a b : Vec Ideal S4096x1024 .bf16) (x : S1024x1024.Idx) : EReal := ∑ s : Fin 4096, a (ix2 s (x 0)) * b (ix2 s (x 1))

/-- The result array. -/
theorem final (c : Dev nD) : (dats m 0 c).arrAt 2 cfg0.N = gram (m ((c.tc : Thread nD τ).loc main_arg0)) (m ((c.tc : Thread nD τ).loc main_arg1)) := by
  refine (dats m 0 c).arrAt_eq_of_covers 2 _ (by decide +kernel) fun t _ y => ?_
  have e := (idx t).2.2
  blk_simp
  rw [after0_2]
  have hy : y = ix2 (y 0 : Fin 256) (y 1 : Fin 1024) := eq_ix2 y
  have h0 : (win0_2.blk t).view.emb y 0 = col t (y 0) := Fin.ext (by blk_simp [e]; show t.val * 256 + (y 0).val = 256 * t.val + (y 0).val; omega)
  have h1 : (win0_2.blk t).view.emb y 1 = (y 1 : Fin 1024) := Fin.ext (by blk_simp [e])
  unfold gram
  rw [h0, h1, hy]
  refine (out_apply _ _ (y 0) (y 1)).trans ?_
  exact Finset.sum_congr rfl fun s _ => congrArg₂ (· * ·) (blk_0 m c t s (y 0)) (blk_1 m c t s (y 1))

end Cert.Kernel5Ideal.Gen

end
-- ==== Proof.WoReference.lean ====
module

public import proofs.«01_k».proof.Proof.Gen.Reference5Ideal.Read
public import Idealize.ShloMosaic.Lib.Pointwise
public import Idealize.ShloMosaic.Lib.Pipeline.ValueKit

/-!
# The output projection's gradient in its weights: what the reference computes
-/

@[expose] public section

noncomputable section

open scoped BigOperators
open Idealize.ShloMosaic Idealize.SL.Sem

namespace Cert.Reference5Ideal.Read
open Cert.Reference5Ideal Cert.Reference5Ideal.Gen

variable [Facts]

/-- The result. -/
theorem result (x0 x1 : Vec Ideal S4096x1024 .bf16) (i : S1024x1024.Idx) :
    val_main_v6 (F := Ideal) x0 x1 i = ∑ s : Fin 4096, x0 (ix2 s (i 0)) * x1 (ix2 s (i 1)) := by
  refine (val_main_v5_apply x0 x1 i).trans ((val_main_v4_apply x0 x1 _).trans ?_)
  refine Finset.sum_congr rfl fun s _ => (mul_comm _ _).trans (congrArg₂ (· * ·) ?_ ?_)
  · show x0 _ = _
    congr 1
    blk_ext [ridx_main_v4, idx_main_v5]
  · show x1 _ = _
    congr 1
    blk_ext [lidx_main_v4, idx_main_v5]

end Cert.Reference5Ideal.Read

end
-- ==== Proof.WoClaim.lean ====
module

public import proofs.«01_k».proof.Defs
public import proofs.«01_k».proof.Proof.WoKernel
public import proofs.«01_k».proof.Proof.WoReference

/-!
# The output projection's gradient in its weights: kernel and reference agree

Whatever the arguments hold, both runs end with the same array.
-/

@[expose] public section

noncomputable section

namespace Cert.Wo
open Idealize.ShloMosaic Idealize.SL.Sem

theorem algebraic : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g, ?_⟩
  refine (θ_run _ _ _).mono (fun r h c => ?_) (Cert.Reference5Ideal.Value.run m' g')
  obtain ⟨q0, hargs⟩ := h c
  obtain ⟨a0, a1⟩ := hagree c
  refine ⟨q0.trans ?_, hargs⟩
  rw [Cert.Reference5Ideal.Read.val_main_v6_eq]
  refine (funext fun i => (Cert.Reference5Ideal.Read.result _ _ i).trans ?_).trans (Cert.Kernel5Ideal.Gen.final m c).symm
  unfold Cert.Kernel5Ideal.Gen.gram
  exact Finset.sum_congr rfl fun s _ => congrArg₂ (· * ·) (congrFun a0 _) (congrFun a1 _)

end Cert.Wo

end
-- ==== Proof.WuFrames.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run

/-!
# The up projections' gradient in their weights: frames

Each program runs to its end, leaves its arguments as they were and every semaphore counter at zero.
-/

@[expose] public section

namespace Cert.Wu
open Idealize.ShloMosaic Idealize.SL.Sem

theorem frame_kernel : Cert.quiescent_Kernel6 := fun m ρ _ => Cert.Kernel6.Gen.frame m ρ

theorem frame_kernelIdeal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Cert.Wu
-- ==== Proof.WuTile.lean ====
module

public import proofs.«01_k».proof.Proof.Gen.Kernel6Ideal.Frame
public import proofs.«01_k».proof.Proof.Slabs
public import Idealize.ShloMosaic.Lib.Pointwise

/-!
# The up projections' gradient in their weights: one grid point

Half a branch's columns, transposed, times that branch's gradient, written out in eight planes of 128 columns each.
-/

@[expose] public section

noncomputable section

open scoped BigOperators
open Idealize.ShloMosaic Idealize.SL.Sem

namespace Cert.Kernel6Ideal.Gen
open Cert.Slabs

theorem hz3 : (![0, 0, 0] : Fin 3 → ℕ) = fun _ => 0 := by funext a; fin_cases a <;> rfl

/-- Column `l` of plane `d`. -/
def wide (d : Fin 8) (l : Fin 128) : Fin 1024 := ⟨128 * d.val + l.val, by have := d.isLt; have := l.isLt; omega⟩

/-- The point's product, plane by plane. -/
def planes (a : Vec Ideal S4096x256 .bf16) (b : Vec Ideal S1x4096x1024 .bf16) (y : S8x256x128.Idx) : EReal :=
  ∑ s : Fin 4096, a (ix2 s (y 1)) * b (ix3 0 s (wide (y 0) (y 2)))

theorem product_7 (a : Vec Ideal S4096x256 .bf16) (b : Vec Ideal S1x4096x1024 .bf16) (r : Fin 256) (j j' : Fin 1024) (h : j'.val = j.val) :
    k0_pay7 (F := Ideal) a b (ix2 r j') = ∑ s : Fin 4096, a (ix2 s r) * b (ix3 0 s j) := by
  obtain rfl : j' = j := Fin.ext h
  unfold k0_pay7
  pointwise []

theorem product_14 (a : Vec Ideal S4096x256 .bf16) (b : Vec Ideal S1x4096x1024 .bf16) (r : Fin 256) (j j' : Fin 1024) (h : j'.val = j.val) :
    k0_pay14 (F := Ideal) a b (ix2 r j') = ∑ s : Fin 4096, a (ix2 s r) * b (ix3 0 s j) := by
  obtain rfl : j' = j := Fin.ext h
  unfold k0_pay14
  pointwise []

theorem product_21 (a : Vec Ideal S4096x256 .bf16) (b : Vec Ideal S1x4096x1024 .bf16) (r : Fin 256) (j j' : Fin 1024) (h : j'.val = j.val) :
    k0_pay21 (F := Ideal) a b (ix2 r j') = ∑ s : Fin 4096, a (ix2 s r) * b (ix3 0 s j) := by
  obtain rfl : j' = j := Fin.ext h
  unfold k0_pay21
  pointwise []

theorem planes_at (a : Vec Ideal S4096x256 .bf16) (b : Vec Ideal S1x4096x1024 .bf16) (y : S8x256x128.Idx) (r : Fin 256) (d : Fin 128) (k : Fin 8)
    (e0 : (y 0).val = k.val) (e1 : (y 1).val = r.val) (e2 : (y 2).val = d.val) :
    planes a b y = ∑ s : Fin 4096, a (ix2 s r) * b (ix3 0 s (wide k d)) := by
  unfold planes
  rw [show y 0 = k from Fin.ext e0, show y 1 = r from Fin.ext e1, show y 2 = d from Fin.ext e2]

theorem out_A (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x4096x1024 .bf16) (harg4 : arg4.IsWhole) (arg5 : Memref sig .tc .vmem S8x256x128 .bf16) (harg5 : arg5.IsWhole)
    (hc0 : cond0_0 i) (hc1 : ¬cond0_1 i) (hc2 : ¬cond0_2 i) (x0 x1 x2 : Vec Ideal S4096x256 .bf16) (x3 : Vec Ideal S1x4096x1024 .bf16) (y : S8x256x128.Idx) :
    out0_A_4 c i arg1 harg1 arg2 harg2 arg3 harg3 arg4 harg4 arg5 harg5 hc0 hc1 hc2 x0 x1 x2 x3 y = planes x0 x3 y := by
  unfold out0_A_4
  rw [View.read_writes_eq_canon _ _ _ (cover0_A_4 c i arg1 harg1 arg2 harg2 arg3 harg3 arg4 harg4 arg5 harg5 hc0 hc1 hc2 x0 x1 x2 x3)]
  unfold kernelRun0_A
  dsimp only
  sl_unfold_words
  simp only [View.readAt_eq_ld, harg1.read_unread, harg2.read_unread, harg3.read_unread, harg4.read_unread, View.ld_unit_zero (S := S4096x256) hz2, View.ld_unit_zero (S := S1x4096x1024) hz3]
  refine canon_plane 7 _ _ _ y _ (fun r d e0 e1 e2 => ?_) fun n7 => ?_
  · refine Eq.trans ?_ (planes_at _ _ y r d 7 e0 e1 e2).symm
    unfold k0_pay30
    pointwise []
    exact product_7 _ _ _ _ _ (by simp [wide])
  refine canon_plane 6 _ _ _ y _ (fun r d e0 e1 e2 => ?_) fun n6 => ?_
  · refine Eq.trans ?_ (planes_at _ _ y r d 6 e0 e1 e2).symm
    unfold k0_pay29
    pointwise []
    exact product_7 _ _ _ _ _ (by simp [wide])
  refine canon_plane 5 _ _ _ y _ (fun r d e0 e1 e2 => ?_) fun n5 => ?_
  · refine Eq.trans ?_ (planes_at _ _ y r d 5 e0 e1 e2).symm
    unfold k0_pay28 k0_pay13
    pointwise []
    exact product_7 _ _ _ _ _ (by simp [wide])
  refine canon_plane 4 _ _ _ y _ (fun r d e0 e1 e2 => ?_) fun n4 => ?_
  · refine Eq.trans ?_ (planes_at _ _ y r d 4 e0 e1 e2).symm
    unfold k0_pay12
    pointwise []
    exact product_7 _ _ _ _ _ (by simp [wide])
  refine canon_plane 3 _ _ _ y _ (fun r d e0 e1 e2 => ?_) fun n3 => ?_
  · refine Eq.trans ?_ (planes_at _ _ y r d 3 e0 e1 e2).symm
    unfold k0_pay11
    pointwise []
    exact product_7 _ _ _ _ _ (by simp [wide])
  refine canon_plane 2 _ _ _ y _ (fun r d e0 e1 e2 => ?_) fun n2 => ?_
  · refine Eq.trans ?_ (planes_at _ _ y r d 2 e0 e1 e2).symm
    unfold k0_pay10
    pointwise []
    exact product_7 _ _ _ _ _ (by simp [wide])
  refine canon_plane 1 _ _ _ y _ (fun r d e0 e1 e2 => ?_) fun n1 => ?_
  · refine Eq.trans ?_ (planes_at _ _ y r d 1 e0 e1 e2).symm
    unfold k0_pay9
    pointwise []
    exact product_7 _ _ _ _ _ (by simp [wide])
  refine canon_plane 0 _ _ _ y _ (fun r d e0 e1 e2 => ?_) fun n0 => ?_
  · refine Eq.trans ?_ (planes_at _ _ y r d 0 e0 e1 e2).symm
    unfold k0_pay8
    pointwise []
    exact product_7 _ _ _ _ _ (by simp [wide])
  have := (y 0).isLt
  exact absurd (show (y 0).val < 8 from this) (by omega)

theorem out_B (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x4096x1024 .bf16) (harg4 : arg4.IsWhole) (arg5 : Memref sig .tc .vmem S8x256x128 .bf16) (harg5 : arg5.IsWhole)
    (hc0 : ¬cond0_0 i) (hc1 : cond0_1 i) (hc2 : ¬cond0_2 i) (x0 x1 x2 : Vec Ideal S4096x256 .bf16) (x3 : Vec Ideal S1x4096x1024 .bf16) (y : S8x256x128.Idx) :
    out0_B_4 c i arg1 harg1 arg2 harg2 arg3 harg3 arg4 harg4 arg5 harg5 hc0 hc1 hc2 x0 x1 x2 x3 y = planes x1 x3 y := by
  unfold out0_B_4
  rw [View.read_writes_eq_canon _ _ _ (cover0_B_4 c i arg1 harg1 arg2 harg2 arg3 harg3 arg4 harg4 arg5 harg5 hc0 hc1 hc2 x0 x1 x2 x3)]
  unfold kernelRun0_B
  dsimp only
  sl_unfold_words
  simp only [View.readAt_eq_ld, harg1.read_unread, harg2.read_unread, harg3.read_unread, harg4.read_unread, View.ld_unit_zero (S := S4096x256) hz2, View.ld_unit_zero (S := S1x4096x1024) hz3]
  refine canon_plane 7 _ _ _ y _ (fun r d e0 e1 e2 => ?_) fun n7 => ?_
  · refine Eq.trans ?_ (planes_at _ _ y r d 7 e0 e1 e2).symm
    unfold k0_pay3
    pointwise []
    exact product_14 _ _ _ _ _ (by simp [wide])
  refine canon_plane 6 _ _ _ y _ (fun r d e0 e1 e2 => ?_) fun n6 => ?_
  · refine Eq.trans ?_ (planes_at _ _ y r d 6 e0 e1 e2).symm
    unfold k0_pay2
    pointwise []
    exact product_14 _ _ _ _ _ (by simp [wide])
  refine canon_plane 5 _ _ _ y _ (fun r d e0 e1 e2 => ?_) fun n5 => ?_
  · refine Eq.trans ?_ (planes_at _ _ y r d 5 e0 e1 e2).symm
    unfold k0_pay1 k0_pay20
    pointwise []
    exact product_14 _ _ _ _ _ (by simp [wide])
  refine canon_plane 4 _ _ _ y _ (fun r d e0 e1 e2 => ?_) fun n4 => ?_
  · refine Eq.trans ?_ (planes_at _ _ y r d 4 e0 e1 e2).symm
    unfold k0_pay19
    pointwise []
    exact product_14 _ _ _ _ _ (by simp [wide])
  refine canon_plane 3 _ _ _ y _ (fun r d e0 e1 e2 => ?_) fun n3 => ?_
  · refine Eq.trans ?_ (planes_at _ _ y r d 3 e0 e1 e2).symm
    unfold k0_pay18
    pointwise []
    exact product_14 _ _ _ _ _ (by simp [wide])
  refine canon_plane 2 _ _ _ y _ (fun r d e0 e1 e2 => ?_) fun n2 => ?_
  · refine Eq.trans ?_ (planes_at _ _ y r d 2 e0 e1 e2).symm
    unfold k0_pay17
    pointwise []
    exact product_14 _ _ _ _ _ (by simp [wide])
  refine canon_plane 1 _ _ _ y _ (fun r d e0 e1 e2 => ?_) fun n1 => ?_
  · refine Eq.trans ?_ (planes_at _ _ y r d 1 e0 e1 e2).symm
    unfold k0_pay16
    pointwise []
    exact product_14 _ _ _ _ _ (by simp [wide])
  refine canon_plane 0 _ _ _ y _ (fun r d e0 e1 e2 => ?_) fun n0 => ?_
  · refine Eq.trans ?_ (planes_at _ _ y r d 0 e0 e1 e2).symm
    unfold k0_pay15
    pointwise []
    exact product_14 _ _ _ _ _ (by simp [wide])
  have := (y 0).isLt
  exact absurd (show (y 0).val < 8 from this) (by omega)

theorem out_C (c : Dev nD) (i : grid0.Coords)
    (arg1 : Memref sig .tc .vmem S4096x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S1x4096x1024 .bf16) (harg4 : arg4.IsWhole) (arg5 : Memref sig .tc .vmem S8x256x128 .bf16) (harg5 : arg5.IsWhole)
    (hc0 : ¬cond0_0 i) (hc1 : ¬cond0_1 i) (hc2 : cond0_2 i) (x0 x1 x2 : Vec Ideal S4096x256 .bf16) (x3 : Vec Ideal S1x4096x1024 .bf16) (y : S8x256x128.Idx) :
    out0_C_4 c i arg1 harg1 arg2 harg2 arg3 harg3 arg4 harg4 arg5 harg5 hc0 hc1 hc2 x0 x1 x2 x3 y = planes x2 x3 y := by
  unfold out0_C_4
  rw [View.read_writes_eq_canon _ _ _ (cover0_C_4 c i arg1 harg1 arg2 harg2 arg3 harg3 arg4 harg4 arg5 harg5 hc0 hc1 hc2 x0 x1 x2 x3)]
  unfold kernelRun0_C
  dsimp only
  sl_unfold_words
  simp only [View.readAt_eq_ld, harg1.read_unread, harg2.read_unread, harg3.read_unread, harg4.read_unread, View.ld_unit_zero (S := S4096x256) hz2, View.ld_unit_zero (S := S1x4096x1024) hz3]
  refine canon_plane 7 _ _ _ y _ (fun r d e0 e1 e2 => ?_) fun n7 => ?_
  · refine Eq.trans ?_ (planes_at _ _ y r d 7 e0 e1 e2).symm
    unfold k0_pay6
    pointwise []
    exact product_21 _ _ _ _ _ (by simp [wide])
  refine canon_plane 6 _ _ _ y _ (fun r d e0 e1 e2 => ?_) fun n6 => ?_
  · refine Eq.trans ?_ (planes_at _ _ y r d 6 e0 e1 e2).symm
    unfold k0_pay5
    pointwise []
    exact product_21 _ _ _ _ _ (by simp [wide])
  refine canon_plane 5 _ _ _ y _ (fun r d e0 e1 e2 => ?_) fun n5 => ?_
  · refine Eq.trans ?_ (planes_at _ _ y r d 5 e0 e1 e2).symm
    unfold k0_pay4 k0_pay27
    pointwise []
    exact product_21 _ _ _ _ _ (by simp [wide])
  refine canon_plane 4 _ _ _ y _ (fun r d e0 e1 e2 => ?_) fun n4 => ?_
  · refine Eq.trans ?_ (planes_at _ _ y r d 4 e0 e1 e2).symm
    unfold k0_pay26
    pointwise []
    exact product_21 _ _ _ _ _ (by simp [wide])
  refine canon_plane 3 _ _ _ y _ (fun r d e0 e1 e2 => ?_) fun n3 => ?_
  · refine Eq.trans ?_ (planes_at _ _ y r d 3 e0 e1 e2).symm
    unfold k0_pay25
    pointwise []
    exact product_21 _ _ _ _ _ (by simp [wide])
  refine canon_plane 2 _ _ _ y _ (fun r d e0 e1 e2 => ?_) fun n2 => ?_
  · refine Eq.trans ?_ (planes_at _ _ y r d 2 e0 e1 e2).symm
    unfold k0_pay24
    pointwise []
    exact product_21 _ _ _ _ _ (by simp [wide])
  refine canon_plane 1 _ _ _ y _ (fun r d e0 e1 e2 => ?_) fun n1 => ?_
  · refine Eq.trans ?_ (planes_at _ _ y r d 1 e0 e1 e2).symm
    unfold k0_pay23
    pointwise []
    exact product_21 _ _ _ _ _ (by simp [wide])
  refine canon_plane 0 _ _ _ y _ (fun r d e0 e1 e2 => ?_) fun n0 => ?_
  · refine Eq.trans ?_ (planes_at _ _ y r d 0 e0 e1 e2).symm
    unfold k0_pay22
    pointwise []
    exact product_21 _ _ _ _ _ (by simp [wide])
  have := (y 0).isLt
  exact absurd (show (y 0).val < 8 from this) (by omega)

end Cert.Kernel6Ideal.Gen

end
-- ==== Proof.WuKernel.lean ====
module

public import proofs.«01_k».proof.Proof.Gen.Kernel6Ideal.Value
public import proofs.«01_k».proof.Proof.WuTile
public import Idealize.ShloMosaic.Lib.Pipeline.ValueKit

/-!
# The up projections' gradient in their weights: what the kernel's result array ends holding

The three branches side by side, transposed, each times its own gradient, whatever they hold; column `128 d + l` is column `l` of plane `d`.
-/

@[expose] public section

noncomputable section

open scoped BigOperators
open Idealize.ShloMosaic Idealize.SL.Sem

namespace Cert.Kernel6Ideal.Gen

variable (m : (ℓ : Loc nD τ sig) → Buf (Elt Ideal) ℓ)

/-- The argument arrays of a device: the branches `Y`, side by side in three arrays, and the gradients `U`. -/
structure IsParts (c : Dev nD) (Y : Fin 4096 → Fin 1536 → EReal) (U : Fin 3 → Fin 4096 → Fin 1024 → EReal) : Prop where
  c0 : ∀ s (l : Fin 512) (j : Fin 1536), j.val = 0 + l.val → m ((c.tc : Thread nD τ).loc main_arg0) (ix2 s l) = Y s j
  c1 : ∀ s (l : Fin 512) (j : Fin 1536), j.val = 512 + l.val → m ((c.tc : Thread nD τ).loc main_arg1) (ix2 s l) = Y s j
  c2 : ∀ s (l : Fin 512) (j : Fin 1536), j.val = 1024 + l.val → m ((c.tc : Thread nD τ).loc main_arg2) (ix2 s l) = Y s j
  u : ∀ k s j, m ((c.tc : Thread nD τ).loc main_arg3) (ix3 k s j) = U k s j

/-- Column `r` of the block of point `t`, among all columns. -/
def col (t : Fin cfg0.N) (r : Fin 256) : Fin 1536 := ⟨256 * t.val + r.val, by have : t.val < 6 := t.isLt; omega⟩

/-- The branch a column belongs to. -/
def branch (j : Fin 1536) : Fin 3 := ⟨j.val / 512, by have := j.isLt; omega⟩

theorem idx (t : Fin cfg0.N) :
    (t.val < 2 → win0_0.index t = ![0, t.val - 0]) ∧ ((2 ≤ t.val ∧ t.val < 4) → win0_1.index t = ![0, t.val - 2]) ∧ (4 ≤ t.val → win0_2.index t = ![0, t.val - 4]) ∧
    win0_3.index t = ![t.val / 2, 0, 0] ∧ win0_4.index t = ![0, t.val, 0] := by
  revert t; decide +kernel

section

variable {c : Dev nD} {Y : Fin 4096 → Fin 1536 → EReal} {U : Fin 3 → Fin 4096 → Fin 1024 → EReal} (R : IsParts m c Y U)

include R

theorem blk_0 (t : Fin cfg0.N) (h : t.val < 2) (s : Fin 4096) (r : Fin 256) : iblk m c 0 t (ix2 s r) = Y s (col t r) := by
  have e := (idx t).1 h
  have ht : t.val < 6 := t.isLt
  refine Eq.trans ?_ (R.c0 s ⟨(t.val - 0) * 256 + r.val, by omega⟩ (col t r) (by dsimp only [col]; omega))
  unfold iblk
  rw [View.read_apply]
  show V m c main_arg0 _ = _
  rw [V_main_arg0]
  congr 1
  blk_ext [e]

theorem blk_1 (t : Fin cfg0.N) (h : (2 ≤ t.val ∧ t.val < 4)) (s : Fin 4096) (r : Fin 256) : iblk m c 1 t (ix2 s r) = Y s (col t r) := by
  have e := (idx t).2.1 h
  have ht : t.val < 6 := t.isLt
  refine Eq.trans ?_ (R.c1 s ⟨(t.val - 2) * 256 + r.val, by omega⟩ (col t r) (by dsimp only [col]; omega))
  unfold iblk
  rw [View.read_apply]
  show V m c main_arg1 _ = _
  rw [V_main_arg1]
  congr 1
  blk_ext [e]

theorem blk_2 (t : Fin cfg0.N) (h : 4 ≤ t.val) (s : Fin 4096) (r : Fin 256) : iblk m c 2 t (ix2 s r) = Y s (col t r) := by
  have e := (idx t).2.2.1 h
  have ht : t.val < 6 := t.isLt
  refine Eq.trans ?_ (R.c2 s ⟨(t.val - 4) * 256 + r.val, by omega⟩ (col t r) (by dsimp only [col]; omega))
  unfold iblk
  rw [View.read_apply]
  show V m c main_arg2 _ = _
  rw [V_main_arg2]
  congr 1
  blk_ext [e]

theorem blk_3 (t : Fin cfg0.N) (r : Fin 256) (s : Fin 4096) (j : Fin 1024) : iblk m c 3 t (ix3 0 s j) = U (branch (col t r)) s j := by
  have e := (idx t).2.2.2.1
  have ht : t.val < 6 := t.isLt
  have hb : (branch (col t r)).val = t.val / 2 := by dsimp only [branch, col]; omega
  refine Eq.trans ?_ (R.u (branch (col t r)) s j)
  unfold iblk
  rw [View.read_apply]
  show V m c main_arg3 _ = _
  rw [V_main_arg3]
  congr 1
  blk_ext [e, hb]

/-- What every point leaves in the output's block. -/
theorem outs (t : Fin cfg0.N) (y : S8x256x128.Idx) :
    outsAt0 m c t.val t.isLt y = ∑ s, Y s (col t (y 1)) * U (branch (col t (y 1))) s (wide (y 0) (y 2)) := by
  have ht : t.val < 6 := t.isLt
  by_cases hA : t.val < 2
  · rw [outsAt0_A m c t (by omega) (by omega) (by omega), out_A]
    unfold planes
    exact Finset.sum_congr rfl fun s _ => congrArg₂ (· * ·) (blk_0 m R t (by omega) s (y 1)) (blk_3 m R t (y 1) s _)
  by_cases hB : t.val < 4
  · rw [outsAt0_B m c t (by omega) (by omega) (by omega), out_B]
    unfold planes
    exact Finset.sum_congr rfl fun s _ => congrArg₂ (· * ·) (blk_1 m R t (by omega) s (y 1)) (blk_3 m R t (y 1) s _)
  rw [outsAt0_C m c t (by omega) (by omega) (by omega), out_C]
  unfold planes
  exact Finset.sum_congr rfl fun s _ => congrArg₂ (· * ·) (blk_2 m R t (by omega) s (y 1)) (blk_3 m R t (y 1) s _)

/-- The result array. -/
theorem final : (dats m 0 c).arrAt 4 cfg0.N = fun x : S8x1536x128.Idx => ∑ s, Y s (x 1) * U (branch (x 1)) s (wide (x 0) (x 2)) := by
  refine (dats m 0 c).arrAt_eq_of_covers 4 _ (by decide +kernel) fun t _ y => ?_
  have e := (idx t).2.2.2.2
  blk_simp
  rw [after0_4]
  have h0 : (win0_4.blk t).view.emb y 0 = (y 0 : Fin 8) := Fin.ext (by blk_simp [e])
  have h1 : (win0_4.blk t).view.emb y 1 = col t (y 1) := Fin.ext (by blk_simp [e]; show t.val * 256 + (y 1).val = 256 * t.val + (y 1).val; omega)
  have h2 : (win0_4.blk t).view.emb y 2 = (y 2 : Fin 128) := Fin.ext (by blk_simp [e])
  rw [h0, h1, h2]
  exact outs m R t y

end

end Cert.Kernel6Ideal.Gen

end
-- ==== Proof.WuReference.lean ====
module

public import proofs.«01_k».proof.Proof.Gen.Reference6Ideal.Read
public import Idealize.ShloMosaic.Lib.Pointwise
public import Idealize.ShloMosaic.Lib.Pipeline.ValueKit

/-!
# The up projections' gradient in their weights: what the reference computes
-/

@[expose] public section

noncomputable section

open scoped BigOperators
open Idealize.ShloMosaic Idealize.SL.Sem

namespace Cert.Reference6Ideal.Read
open Cert.Reference6Ideal Cert.Reference6Ideal.Gen

variable [Facts]

/-- The argument arrays: the branches `Y`, side by side in three arrays, and the gradients `U`. -/
structure AreParts (x0 x1 x2 : Vec Ideal S4096x512 .bf16) (x3 : Vec Ideal S3x4096x1024 .bf16)
    (Y : Fin 4096 → Fin 1536 → EReal) (U : Fin 3 → Fin 4096 → Fin 1024 → EReal) : Prop where
  c0 : ∀ s (l : Fin 512) (j : Fin 1536), j.val = 0 + l.val → x0 (ix2 s l) = Y s j
  c1 : ∀ s (l : Fin 512) (j : Fin 1536), j.val = 512 + l.val → x1 (ix2 s l) = Y s j
  c2 : ∀ s (l : Fin 512) (j : Fin 1536), j.val = 1024 + l.val → x2 (ix2 s l) = Y s j
  u : ∀ k s j, x3 (ix3 k s j) = U k s j

theorem branch_0 (x0 : Vec Ideal S4096x512 .bf16) (x3 : Vec Ideal S3x4096x1024 .bf16) (r : Fin 512) (j : Fin 1024) :
    val_main_v19 (F := Ideal) x0 x3 (ix2 r j) = ∑ s : Fin 4096, x0 (ix2 s r) * x3 (ix3 0 s j) := by
  refine (val_main_v19_apply x0 x3 _).trans ((val_main_v18_apply x0 x3 _).trans ?_)
  refine Finset.sum_congr rfl fun s _ => (mul_comm _ _).trans (congrArg₂ (· * ·) ?_ ?_)
  · show x0 _ = _
    congr 1
    blk_ext [ridx_main_v18, idx_main_v19]
  · refine (val_main_v9_apply x3 _).trans ((val_main_v8_apply x3 _).trans ?_)
    show x3 _ = _
    congr 1
    blk_ext [lidx_main_v18, idx_main_v19, idx_main_v8, idx_main_v9]

theorem branch_1 (x1 : Vec Ideal S4096x512 .bf16) (x3 : Vec Ideal S3x4096x1024 .bf16) (r : Fin 512) (j : Fin 1024) :
    val_main_v17 (F := Ideal) x1 x3 (ix2 r j) = ∑ s : Fin 4096, x1 (ix2 s r) * x3 (ix3 1 s j) := by
  refine (val_main_v17_apply x1 x3 _).trans ((val_main_v16_apply x1 x3 _).trans ?_)
  refine Finset.sum_congr rfl fun s _ => (mul_comm _ _).trans (congrArg₂ (· * ·) ?_ ?_)
  · show x1 _ = _
    congr 1
    blk_ext [ridx_main_v16, idx_main_v17]
  · refine (val_main_v11_apply x3 _).trans ((val_main_v10_apply x3 _).trans ?_)
    show x3 _ = _
    congr 1
    blk_ext [lidx_main_v16, idx_main_v17, idx_main_v10, idx_main_v11]

theorem branch_2 (x2 : Vec Ideal S4096x512 .bf16) (x3 : Vec Ideal S3x4096x1024 .bf16) (r : Fin 512) (j : Fin 1024) :
    val_main_v15 (F := Ideal) x2 x3 (ix2 r j) = ∑ s : Fin 4096, x2 (ix2 s r) * x3 (ix3 2 s j) := by
  refine (val_main_v15_apply x2 x3 _).trans ((val_main_v14_apply x2 x3 _).trans ?_)
  refine Finset.sum_congr rfl fun s _ => (mul_comm _ _).trans (congrArg₂ (· * ·) ?_ ?_)
  · show x2 _ = _
    congr 1
    blk_ext [ridx_main_v14, idx_main_v15]
  · refine (val_main_v13_apply x3 _).trans ((val_main_v12_apply x3 _).trans ?_)
    show x3 _ = _
    congr 1
    blk_ext [lidx_main_v14, idx_main_v15, idx_main_v12, idx_main_v13]

/-- The three products, one below the other. -/
theorem stacked {x0 x1 x2 : Vec Ideal S4096x512 .bf16} {x3 : Vec Ideal S3x4096x1024 .bf16} {Y : Fin 4096 → Fin 1536 → EReal} {U : Fin 3 → Fin 4096 → Fin 1024 → EReal}
    (R : AreParts x0 x1 x2 x3 Y U) (r : Fin 1536) (k : Fin 3) (hk : k.val = r.val / 512) (j : Fin 1024) :
    val_main_v20 (F := Ideal) x0 x1 x2 x3 (ix2 r j) = ∑ s : Fin 4096, Y s r * U k s j := by
  have e0 : ∀ l : Fin 512, r.val = 0 + l.val → val_main_v19 (F := Ideal) x0 x3 (ix2 l j) = ∑ s : Fin 4096, Y s r * U k s j := fun l h => by
    obtain rfl : k = 0 := Fin.ext (by rw [hk]; show r.val / 512 = 0; omega)
    exact (branch_0 x0 x3 l j).trans (Finset.sum_congr rfl fun s _ => congrArg₂ (· * ·) (R.c0 s l r h) (R.u 0 s j))
  have e1 : ∀ l : Fin 512, r.val = 512 + l.val → val_main_v17 (F := Ideal) x1 x3 (ix2 l j) = ∑ s : Fin 4096, Y s r * U k s j := fun l h => by
    obtain rfl : k = 1 := Fin.ext (by rw [hk]; show r.val / 512 = 1; omega)
    exact (branch_1 x1 x3 l j).trans (Finset.sum_congr rfl fun s _ => congrArg₂ (· * ·) (R.c1 s l r h) (R.u 1 s j))
  have e2 : ∀ l : Fin 512, r.val = 1024 + l.val → val_main_v15 (F := Ideal) x2 x3 (ix2 l j) = ∑ s : Fin 4096, Y s r * U k s j := fun l h => by
    obtain rfl : k = 2 := Fin.ext (by rw [hk]; show r.val / 512 = 2; omega)
    exact (branch_2 x2 x3 l j).trans (Finset.sum_congr rfl fun s _ => congrArg₂ (· * ·) (R.c2 s l r h) (R.u 2 s j))
  clear R hk
  unfold val_main_v20
  generalize val_main_v19 (F := Ideal) x0 x3 = A at e0 ⊢
  generalize val_main_v17 (F := Ideal) x1 x3 = B at e1 ⊢
  generalize val_main_v15 (F := Ideal) x2 x3 = C at e2 ⊢
  pointwise []
  split_ifs
  all_goals first
    | (exfalso; omega)
    | exact e0 _ (by dsimp only; omega)
    | exact e1 _ (by dsimp only; omega)
    | exact e2 _ (by dsimp only; omega)

/-- The result at an index: plane, row, column. -/
theorem result {x0 x1 x2 : Vec Ideal S4096x512 .bf16} {x3 : Vec Ideal S3x4096x1024 .bf16} {Y : Fin 4096 → Fin 1536 → EReal} {U : Fin 3 → Fin 4096 → Fin 1024 → EReal}
    (R : AreParts x0 x1 x2 x3 Y U) (i : S8x1536x128.Idx) (k : Fin 3) (hk : k.val = (i 1).val / 512) (j : Fin 1024) (hj : j.val = 128 * (i 0).val + (i 2).val) :
    val_main_v23 (F := Ideal) x0 x1 x2 x3 i = ∑ s : Fin 4096, Y s (i 1) * U k s j := by
  have e : idx_main_v21 (idx_main_v22 i) = ix2 (i 1 : Fin 1536) j := by
    have h0 : (i 0).val < 8 := (i 0).isLt
    have h1 : (i 1).val < 1536 := (i 1).isLt
    have h2 : (i 2).val < 128 := (i 2).isLt
    blk_ext [idx_main_v21, idx_main_v22]
    all_goals omega
  refine (val_main_v22_apply x0 x1 x2 x3 i).trans ((val_main_v21_apply x0 x1 x2 x3 _).trans ?_)
  rw [e]
  exact stacked R (i 1) k hk j

end Cert.Reference6Ideal.Read

end
-- ==== Proof.WuClaim.lean ====
module

public import proofs.«01_k».proof.Defs
public import proofs.«01_k».proof.Proof.WuKernel
public import proofs.«01_k».proof.Proof.WuReference

/-!
# The up projections' gradient in their weights: kernel and reference agree

Whatever the arguments hold, both runs end with the same array.
-/

@[expose] public section

noncomputable section

namespace Cert.Wu
open Idealize.ShloMosaic Idealize.SL.Sem

/-- The branches, side by side. -/
def beside (a b d : Fin 4096 → Fin 512 → EReal) (s : Fin 4096) (j : Fin 1536) : EReal :=
  if h0 : j.val < 512 then a s ⟨j.val, h0⟩ else if h1 : j.val < 1024 then b s ⟨j.val - 512, by omega⟩ else d s ⟨j.val - 1024, by have := j.isLt; omega⟩

theorem beside_0 (a b d : Fin 4096 → Fin 512 → EReal) (s : Fin 4096) (l : Fin 512) (j : Fin 1536) (h : j.val = 0 + l.val) : a s l = beside a b d s j := by
  unfold beside
  rw [dif_pos (by omega)]
  exact congrArg (a s) (Fin.ext (by dsimp only; omega))

theorem beside_1 (a b d : Fin 4096 → Fin 512 → EReal) (s : Fin 4096) (l : Fin 512) (j : Fin 1536) (h : j.val = 512 + l.val) : b s l = beside a b d s j := by
  unfold beside
  rw [dif_neg (by omega), dif_pos (by omega)]
  exact congrArg (b s) (Fin.ext (by dsimp only; omega))

theorem beside_2 (a b d : Fin 4096 → Fin 512 → EReal) (s : Fin 4096) (l : Fin 512) (j : Fin 1536) (h : j.val = 1024 + l.val) : d s l = beside a b d s j := by
  unfold beside
  rw [dif_neg (by omega), dif_neg (by omega)]
  exact congrArg (d s) (Fin.ext (by dsimp only; omega))

/-- Any argument arrays are the three branches and their gradients. -/
theorem isParts (m : (ℓ : Loc Cert.Kernel6Ideal.nD Cert.Kernel6Ideal.τ Cert.Kernel6Ideal.sig) → Buf (Elt Ideal) ℓ) (c : Dev Cert.Kernel6Ideal.nD) :
    ∃ (Y : Fin 4096 → Fin 1536 → EReal) (U : Fin 3 → Fin 4096 → Fin 1024 → EReal), Cert.Kernel6Ideal.Gen.IsParts m c Y U :=
  ⟨beside
      (fun s l => (m ((c.tc : Thread Cert.Kernel6Ideal.nD Cert.Kernel6Ideal.τ).loc Cert.Kernel6Ideal.main_arg0)) (ix2 s l))
      (fun s l => (m ((c.tc : Thread Cert.Kernel6Ideal.nD Cert.Kernel6Ideal.τ).loc Cert.Kernel6Ideal.main_arg1)) (ix2 s l))
      (fun s l => (m ((c.tc : Thread Cert.Kernel6Ideal.nD Cert.Kernel6Ideal.τ).loc Cert.Kernel6Ideal.main_arg2)) (ix2 s l)),
    fun k s j => (m ((c.tc : Thread Cert.Kernel6Ideal.nD Cert.Kernel6Ideal.τ).loc Cert.Kernel6Ideal.main_arg3)) (ix3 k s j),
    fun s l j hj => by rw [← beside_0 _ _ _ s l j hj],
    fun s l j hj => by rw [← beside_1 _ _ _ s l j hj],
    fun s l j hj => by rw [← beside_2 _ _ _ s l j hj],
    fun _ _ _ => rfl⟩

theorem algebraic : Cert.algebraic_Kernel6Ideal_Reference6Ideal := by
  intro m g m' g' _ hagree
  refine ⟨fun c => (Cert.Kernel6Ideal.Gen.dats m 0 c).arrAt 4 Cert.Kernel6Ideal.cfg0.N, Cert.Kernel6Ideal.Value.run_blocks m g, ?_⟩
  refine (θ_run _ _ _).mono (fun r h c => ?_) (Cert.Reference6Ideal.Value.run m' g')
  obtain ⟨q0, hargs⟩ := h c
  obtain ⟨a0, a1, a2, a3⟩ := hagree c
  obtain ⟨Y, U, R⟩ := isParts m c
  have R' : Cert.Reference6Ideal.Read.AreParts
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3)) Y U :=
    ⟨fun s l j hj => (congrFun a0 _).trans (R.c0 s l j hj), fun s l j hj => (congrFun a1 _).trans (R.c1 s l j hj),
      fun s l j hj => (congrFun a2 _).trans (R.c2 s l j hj), fun k s j => (congrFun a3 _).trans (R.u k s j)⟩
  refine ⟨q0.trans ?_, hargs⟩
  rw [Cert.Reference6Ideal.Read.val_main_v23_eq]
  exact (funext fun i => Cert.Reference6Ideal.Read.result R' i (Cert.Kernel6Ideal.Gen.branch (i 1)) rfl (Cert.Kernel6Ideal.Gen.wide (i 0) (i 2)) rfl).trans
    (Cert.Kernel6Ideal.Gen.final m R).symm

end Cert.Wu

end
-- ==== Proof.KvFwdFrames.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run

/-!
# The memory's keys and values: frames

Each program runs to its end, leaves its arguments as they were and every semaphore counter at zero.
-/

@[expose] public section

namespace Cert.KvFwd
open Idealize.ShloMosaic Idealize.SL.Sem

theorem frame_kernel : Cert.quiescent_Kernel7 := fun m ρ _ => Cert.Kernel7.Gen.frame m ρ

theorem frame_kernelIdeal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

end Cert.KvFwd
-- ==== Proof.KvMath.lean ====
module

public import proofs.«01_k».proof.Proof.ProjMath

/-!
# The memory's keys and values: the mathematics

The memory's rows are normalised by their root mean square and scaled by a gain, and multiplied by weights.  The first function is what the
gain multiplies; the next two are the results of the forward call, the last two those of the backward call.
-/

@[expose] public section

noncomputable section

open scoped BigOperators
open Idealize.ShloMosaic Idealize.SL.Sem

namespace Cert.Kv

/-- Row `s` of an array. -/
def row {R : ℕ} (x : (⟨2, ![R, 1024]⟩ : Shape).Idx → EReal) (s : Fin R) (k : Fin 1024) : EReal := x (ix2 s k)

/-- The normalised row, before the gain. -/
def unit (x : Fin 1024 → EReal) (k : Fin 1024) : EReal :=
  x k * Ideal.rsqrt (Ideal.div (∑ j, x j * x j) (Ideal.ofBits FTy.f32 1149239296#32) + Ideal.ofBits FTy.f32 897988541#32)

/-- The normalised rows. -/
def normed (x : (⟨2, ![256, 1024]⟩ : Shape).Idx → EReal) (g : (⟨2, ![1, 1024]⟩ : Shape).Idx → EReal) (y : (⟨2, ![256, 1024]⟩ : Shape).Idx) : EReal :=
  unit (row x (y 0)) (y 1) * g (ix2 0 (y 1))

/-- Their products with the weights. -/
def keysValues (x : (⟨2, ![256, 1024]⟩ : Shape).Idx → EReal) (g : (⟨2, ![1, 1024]⟩ : Shape).Idx → EReal) (w : (⟨2, ![1024, 1024]⟩ : Shape).Idx → EReal)
    (y : (⟨2, ![256, 1024]⟩ : Shape).Idx) : EReal :=
  ∑ k : Fin 1024, normed x g (ix2 (y 0) k) * w (ix2 k (y 1))

/-- The weights' gradient. -/
def gradW (n d : (⟨2, ![256, 1024]⟩ : Shape).Idx → EReal) (y : (⟨2, ![1024, 1024]⟩ : Shape).Idx) : EReal :=
  ∑ s : Fin 256, n (ix2 s (y 0)) * d (ix2 s (y 1))

/-- The gain's gradient. -/
def gradG (x d : (⟨2, ![256, 1024]⟩ : Shape).Idx → EReal) (w : (⟨2, ![1024, 1024]⟩ : Shape).Idx → EReal) (y : (⟨2, ![1, 1024]⟩ : Shape).Idx) : EReal :=
  ∑ s : Fin 256, (∑ k : Fin 1024, d (ix2 s k) * w (ix2 (y 1) k)) * unit (row x s) (y 1)

end Cert.Kv

end
-- ==== Proof.KvFwdKernel.lean ====
module

public import proofs.«01_k».proof.Proof.Gen.Kernel7Ideal.Value
public import proofs.«01_k».proof.Proof.Slabs
public import proofs.«01_k».proof.Proof.KvMath
public import Idealize.ShloMosaic.Lib.Pointwise
public import Idealize.ShloMosaic.Lib.Pipeline.ValueKit

/-!
# The memory's keys and values: what the kernel computes

One grid point takes all arrays whole.
-/

@[expose] public section

noncomputable section

open scoped BigOperators
open Idealize.ShloMosaic Idealize.SL.Sem

namespace Cert.Kernel7Ideal.Gen
open Cert.Slabs Cert.Kv

variable (m : (ℓ : Loc nD τ sig) → Buf (Elt Ideal) ℓ)

/-- The normalised rows. -/
theorem pay1 (x : Vec Ideal S256x1024 .f32) (g : Vec Ideal S1x1024 .f32) (s : Fin 256) (k : Fin 1024) :
    k0_pay1 (F := Ideal) x g (ix2 s k) = normed x g (ix2 s k) := by
  unfold k0_pay1
  pointwise []
  rfl

/-- The block of the normalised rows. -/
theorem out_3 (x : Vec Ideal S256x1024 .f32) (g : Vec Ideal S1x1024 .f32) (w : Vec Ideal S1024x1024 .bf16) (s : Fin 256) (k : Fin 1024) :
    out0_3 (F := Ideal) x g w (ix2 s k) = normed x g (ix2 s k) := by
  unfold out0_3 r0_0 r0_1
  rw [View.canon_unit_zero (S := S256x1024) hz2, View.ld_unit_zero (S := S256x1024) hz2, View.ld_unit_zero (S := S1x1024) hz2]
  exact pay1 x g s k

/-- The block of the keys and values. -/
theorem out_4 (x : Vec Ideal S256x1024 .f32) (g : Vec Ideal S1x1024 .f32) (w : Vec Ideal S1024x1024 .bf16) (s : Fin 256) (j : Fin 1024) :
    out0_4 (F := Ideal) x g w (ix2 s j) = keysValues x g w (ix2 s j) := by
  unfold out0_4 r0_0 r0_1 r0_2
  rw [View.canon_unit_zero (S := S256x1024) hz2, View.ld_unit_zero (S := S256x1024) hz2, View.ld_unit_zero (S := S1x1024) hz2, View.ld_unit_zero (S := S1024x1024) hz2]
  have e := pay1 x g s
  unfold k0_pay2
  generalize k0_pay1 (F := Ideal) x g = h at e ⊢
  pointwise []
  exact Finset.sum_congr rfl fun k _ => congrArg (· * w (ix2 k j)) (e k)

theorem idx (t : Fin cfg0.N) : win0_0.index t = ![0, 0] ∧ win0_1.index t = ![0, 0] ∧ win0_2.index t = ![0, 0] ∧ win0_3.index t = ![0, 0] ∧ win0_4.index t = ![0, 0] := by
  revert t; decide +kernel

/-- The weights as the region finds them. -/
theorem V_weights (c : Dev nD) (k j : Fin 1024) : V m c main_v0 (ix2 k j) = m ((c.tc : Thread nD τ).loc main_arg2) (ix2 k j) := by
  show StableHlo.after hostOps0 _ _ _ = _
  unfold hostOps0
  simp only [List.flatten_cons, List.flatten_nil, List.append_nil, List.cons_append, List.nil_append]
  rw [StableHlo.after_cons, StableHlo.after_nil, StableHlo.unary_result]
  pointwise []

theorem blk_0 (c : Dev nD) (t : Fin cfg0.N) : iblk m c 0 t = m ((c.tc : Thread nD τ).loc main_arg0) := by
  have e := (idx t).1
  funext y
  unfold iblk
  rw [View.read_apply]
  show V m c main_arg0 _ = _
  rw [V_main_arg0]
  congr 1
  blk_ext [e]

theorem blk_1 (c : Dev nD) (t : Fin cfg0.N) : iblk m c 1 t = m ((c.tc : Thread nD τ).loc main_arg1) := by
  have e := (idx t).2.1
  funext y
  unfold iblk
  rw [View.read_apply]
  show V m c main_arg1 _ = _
  rw [V_main_arg1]
  congr 1
  blk_ext [e]

theorem blk_2 (c : Dev nD) (t : Fin cfg0.N) (k j : Fin 1024) : iblk m c 2 t (ix2 k j) = m ((c.tc : Thread nD τ).loc main_arg2) (ix2 k j) := by
  have e := (idx t).2.2.1
  unfold iblk
  rw [View.read_apply]
  refine Eq.trans ?_ (V_weights m c k j)
  show V m c main_v0 _ = _
  congr 1
  blk_ext [e]

/-- The first result array. -/
theorem final3 (c : Dev nD) : (dats m 0 c).arrAt 3 cfg0.N = normed (m ((c.tc : Thread nD τ).loc main_arg0)) (m ((c.tc : Thread nD τ).loc main_arg1)) := by
  refine (dats m 0 c).arrAt_eq_of_covers 3 _ (by decide +kernel) fun t _ y => ?_
  have e := (idx t).2.2.2.1
  blk_simp
  rw [after0_3]
  have hy : y = ix2 (y 0 : Fin 256) (y 1 : Fin 1024) := eq_ix2 y
  have h : (win0_3.blk t).view.emb y = ix2 (y 0 : Fin 256) (y 1 : Fin 1024) := by blk_ext [e]
  rw [h, hy]
  refine (out_3 _ _ _ (y 0) (y 1)).trans ?_
  rw [blk_0, blk_1]
  rfl

/-- The second. -/
theorem final4 (c : Dev nD) : (dats m 0 c).arrAt 4 cfg0.N
    = keysValues (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have e := (idx t).2.2.2.2
  blk_simp
  rw [after0_4]
  have hy : y = ix2 (y 0 : Fin 256) (y 1 : Fin 1024) := eq_ix2 y
  have h : (win0_4.blk t).view.emb y = ix2 (y 0 : Fin 256) (y 1 : Fin 1024) := by blk_ext [e]
  rw [h, hy]
  refine (out_4 _ _ _ (y 0) (y 1)).trans ?_
  rw [blk_0, blk_1]
  exact Finset.sum_congr rfl fun k _ => congrArg _ (blk_2 m c t k (y 1))

end Cert.Kernel7Ideal.Gen

end
-- ==== Proof.KvFwdReference.lean ====
module

public import proofs.«01_k».proof.Proof.Gen.Reference7Ideal.Read
public import proofs.«01_k».proof.Proof.KvMath
public import Idealize.ShloMosaic.Lib.Pointwise
public import Idealize.ShloMosaic.Lib.Pipeline.ValueKit

/-!
# The memory's keys and values: what the reference computes
-/

@[expose] public section

noncomputable section

open scoped BigOperators
open Idealize.ShloMosaic Idealize.SL.Sem

namespace Cert.Reference7Ideal.Read
open Cert.Reference7Ideal Cert.Reference7Ideal.Gen Cert.Kv

variable [Facts]

/-- The normalised rows. -/
theorem rows (x0 : Vec Ideal S256x1024 .f32) (x1 : Vec Ideal S1x1024 .f32) (s : Fin 256) (k : Fin 1024) :
    val_main_v11 (F := Ideal) x0 x1 (ix2 s k) = normed x0 x1 (ix2 s k) := by
  unfold val_main_v11 val_main_v10 val_main_v9 val_main_v8 val_main_v7 val_main_v6 val_main_v5 val_main_v4 val_main_v3 val_main_v2 val_main_v1 val_main_v0
  unfold val_main_cst val_main_cst_0 val_main_cst_1
  pointwise []
  rfl

/-- The first result. -/
theorem result_12 (x0 : Vec Ideal S256x1024 .f32) (x1 : Vec Ideal S1x1024 .f32) (y : S256x1024.Idx) : val_main_v12 (F := Ideal) x0 x1 y = normed x0 x1 y := by
  rw [eq_ix2 y]
  exact rows x0 x1 (y 0) (y 1)

/-- The second. -/
theorem result_14 (x0 : Vec Ideal S256x1024 .f32) (x1 : Vec Ideal S1x1024 .f32) (x2 : Vec Ideal S1024x1024 .f32) (y : S256x1024.Idx) :
    val_main_v14 (F := Ideal) x0 x1 x2 y = keysValues x0 x1 x2 y := by
  refine (congrArg (val_main_v14 (F := Ideal) x0 x1 x2) (eq_ix2 y)).trans ?_
  unfold keysValues
  generalize (y 0 : Fin 256) = s
  generalize (y 1 : Fin 1024) = j
  have e := rows x0 x1 s
  unfold val_main_v14 val_main_v13
  generalize val_main_v11 (F := Ideal) x0 x1 = h at e ⊢
  pointwise []
  exact Finset.sum_congr rfl fun k _ => congrArg (· * x2 (ix2 k j)) (e k)

end Cert.Reference7Ideal.Read

end
-- ==== Proof.KvFwdClaim.lean ====
module

public import proofs.«01_k».proof.Defs
public import proofs.«01_k».proof.Proof.KvFwdKernel
public import proofs.«01_k».proof.Proof.KvFwdReference

/-!
# The memory's keys and values: kernel and reference agree

Whatever the arguments hold, both runs end with the same two arrays.
-/

@[expose] public section

noncomputable section

namespace Cert.KvFwd
open Idealize.ShloMosaic Idealize.SL.Sem

theorem algebraic : Cert.algebraic_Kernel7Ideal_Reference7Ideal := by
  intro m g m' g' _ hagree
  refine ⟨fun c => (Cert.Kernel7Ideal.Gen.dats m 0 c).arrAt 3 Cert.Kernel7Ideal.cfg0.N, fun c => (Cert.Kernel7Ideal.Gen.dats m 0 c).arrAt 4 Cert.Kernel7Ideal.cfg0.N, Cert.Kernel7Ideal.Value.run_blocks m g, ?_⟩
  refine (θ_run _ _ _).mono (fun r h c => ?_) (Cert.Reference7Ideal.Value.run m' g')
  obtain ⟨q0, q1, hargs⟩ := h c
  obtain ⟨a0, a1, a2⟩ := hagree c
  refine ⟨q0.trans ?_, q1.trans ?_, hargs⟩
  · rw [Cert.Reference7Ideal.Read.val_main_v12_eq]
    refine (funext fun i => Cert.Reference7Ideal.Read.result_12 _ _ i).trans (Eq.trans ?_ (Cert.Kernel7Ideal.Gen.final3 m c).symm)
    rw [a0, a1]
  · rw [Cert.Reference7Ideal.Read.val_main_v14_eq]
    refine (funext fun i => Cert.Reference7Ideal.Read.result_14 _ _ _ i).trans (Eq.trans ?_ (Cert.Kernel7Ideal.Gen.final4 m c).symm)
    rw [a0, a1, a2]

end Cert.KvFwd

end
-- ==== Proof.KvBwdFrames.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run

/-!
# The gradient of the memory's keys and values: frames

Each program runs to its end, leaves its arguments as they were and every semaphore counter at zero.
-/

@[expose] public section

namespace Cert.KvBwd
open Idealize.ShloMosaic Idealize.SL.Sem

theorem frame_kernel : Cert.quiescent_Kernel8 := fun m ρ _ => Cert.Kernel8.Gen.frame m ρ

theorem frame_kernelIdeal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

end Cert.KvBwd
-- ==== Proof.KvBwdKernel.lean ====
module

public import proofs.«01_k».proof.Proof.Gen.Kernel8Ideal.Value
public import proofs.«01_k».proof.Proof.Slabs
public import proofs.«01_k».proof.Proof.KvMath
public import Idealize.ShloMosaic.Lib.Pointwise
public import Idealize.ShloMosaic.Lib.Pipeline.ValueKit

/-!
# The gradient of the memory's keys and values: what the kernel computes

One grid point takes all arrays whole.
-/

@[expose] public section

noncomputable section

open scoped BigOperators
open Idealize.ShloMosaic Idealize.SL.Sem

namespace Cert.Kernel8Ideal.Gen
open Cert.Slabs Cert.Kv

variable (m : (ℓ : Loc nD τ sig) → Buf (Elt Ideal) ℓ)

/-- The weights' gradient. -/
theorem out_5 (x : Vec Ideal S256x1024 .f32) (g : Vec Ideal S1x1024 .f32) (n : Vec Ideal S256x1024 .bf16) (d : Vec Ideal S256x1024 .f32) (w : Vec Ideal S1024x1024 .bf16) (i j : Fin 1024) :
    out0_5 (F := Ideal) x g n d w (ix2 i j) = gradW n d (ix2 i j) := by
  unfold out0_5 r0_0 r0_1
  rw [View.canon_unit_zero (S := S1024x1024) hz2, View.ld_unit_zero (S := S256x1024) hz2, View.ld_unit_zero (S := S256x1024) hz2]
  unfold k0_pay2 k0_pay1
  pointwise []
  rfl

/-- The gain's gradient. -/
theorem out_6 (x : Vec Ideal S256x1024 .f32) (g : Vec Ideal S1x1024 .f32) (n : Vec Ideal S256x1024 .bf16) (d : Vec Ideal S256x1024 .f32) (w : Vec Ideal S1024x1024 .bf16) (j : Fin 1024) :
    out0_6 (F := Ideal) x g n d w (ix2 0 j) = gradG x d w (ix2 0 j) := by
  unfold out0_6 r0_0 r0_1 r0_2
  rw [View.canon_unit_zero (S := S1x1024) hz2, View.ld_unit_zero (S := S256x1024) hz2, View.ld_unit_zero (S := S256x1024) hz2, View.ld_unit_zero (S := S1024x1024) hz2]
  unfold k0_pay3 k0_pay1
  pointwise []
  rfl

theorem idx (t : Fin cfg0.N) : (win0_0.index t = ![0, 0] ∧ win0_2.index t = ![0, 0] ∧ win0_3.index t = ![0, 0]) ∧ win0_4.index t = ![0, 0]
    ∧ win0_5.index t = ![0, 0] ∧ win0_6.index t = ![0, 0] := by
  revert t; decide +kernel

/-- The weights as the region finds them. -/
theorem V_weights (c : Dev nD) (k j : Fin 1024) : V m c main_v0 (ix2 k j) = m ((c.tc : Thread nD τ).loc main_arg4) (ix2 k j) := by
  show StableHlo.after hostOps0 _ _ _ = _
  unfold hostOps0
  simp only [List.flatten_cons, List.flatten_nil, List.append_nil, List.cons_append, List.nil_append]
  rw [StableHlo.after_cons, StableHlo.after_nil, StableHlo.unary_result]
  pointwise []

theorem blk_0 (c : Dev nD) (t : Fin cfg0.N) : iblk m c 0 t = m ((c.tc : Thread nD τ).loc main_arg0) := by
  have e := (idx t).1.1
  funext y
  unfold iblk
  rw [View.read_apply]
  show V m c main_arg0 _ = _
  rw [V_main_arg0]
  congr 1
  blk_ext [e]

theorem blk_2 (c : Dev nD) (t : Fin cfg0.N) : iblk m c 2 t = m ((c.tc : Thread nD τ).loc main_arg2) := by
  have e := (idx t).1.2.1
  funext y
  unfold iblk
  rw [View.read_apply]
  show V m c main_arg2 _ = _
  rw [V_main_arg2]
  congr 1
  blk_ext [e]

theorem blk_3 (c : Dev nD) (t : Fin cfg0.N) : iblk m c 3 t = m ((c.tc : Thread nD τ).loc main_arg3) := by
  have e := (idx t).1.2.2
  funext y
  unfold iblk
  rw [View.read_apply]
  show V m c main_arg3 _ = _
  rw [V_main_arg3]
  congr 1
  blk_ext [e]

theorem blk_4 (c : Dev nD) (t : Fin cfg0.N) (k j : Fin 1024) : iblk m c 4 t (ix2 k j) = m ((c.tc : Thread nD τ).loc main_arg4) (ix2 k j) := by
  have e := (idx t).2.1
  unfold iblk
  rw [View.read_apply]
  refine Eq.trans ?_ (V_weights m c k j)
  show V m c main_v0 _ = _
  congr 1
  blk_ext [e]

/-- The first result array. -/
theorem final5 (c : Dev nD) : (dats m 0 c).arrAt 5 cfg0.N = gradW (m ((c.tc : Thread nD τ).loc main_arg2)) (m ((c.tc : Thread nD τ).loc main_arg3)) := by
  refine (dats m 0 c).arrAt_eq_of_covers 5 _ (by decide +kernel) fun t _ y => ?_
  have e := (idx t).2.2.1
  blk_simp
  rw [after0_5]
  have hy : y = ix2 (y 0 : Fin 1024) (y 1 : Fin 1024) := eq_ix2 y
  have h : (win0_5.blk t).view.emb y = ix2 (y 0 : Fin 1024) (y 1 : Fin 1024) := by blk_ext [e]
  rw [h, hy]
  refine (out_5 _ _ _ _ _ (y 0) (y 1)).trans ?_
  rw [blk_2, blk_3]
  rfl

/-- The second. -/
theorem final6 (c : Dev nD) : (dats m 0 c).arrAt 6 cfg0.N
    = gradG (m ((c.tc : Thread nD τ).loc main_arg0)) (m ((c.tc : Thread nD τ).loc main_arg3)) (m ((c.tc : Thread nD τ).loc main_arg4)) := by
  refine (dats m 0 c).arrAt_eq_of_covers 6 _ (by decide +kernel) fun t _ y => ?_
  have e := (idx t).2.2.2
  blk_simp
  rw [after0_6]
  have hy : y = ix2 (0 : Fin 1) (y 1 : Fin 1024) := (eq_ix2 y).trans (congrArg (fun i : Fin 1 => ix2 i (y 1 : Fin 1024)) (Subsingleton.elim _ _))
  have h : (win0_6.blk t).view.emb y = ix2 (y 0 : Fin 1) (y 1 : Fin 1024) := by blk_ext [e]
  rw [h, hy]
  refine (out_6 _ _ _ _ _ (y 1)).trans ?_
  rw [blk_0, blk_3]
  exact Finset.sum_congr rfl fun s _ => congrArg (· * _) (Finset.sum_congr rfl fun k _ => congrArg _ (blk_4 m c t (y 1) k))

end Cert.Kernel8Ideal.Gen

end
-- ==== Proof.KvBwdReference.lean ====
module

public import proofs.«01_k».proof.Proof.Gen.Reference8Ideal.Read
public import proofs.«01_k».proof.Proof.KvMath
public import Idealize.ShloMosaic.Lib.Pointwise
public import Idealize.ShloMosaic.Lib.Pipeline.ValueKit

/-!
# The gradient of the memory's keys and values: what the reference computes
-/

@[expose] public section

noncomputable section

open scoped BigOperators
open Idealize.ShloMosaic Idealize.SL.Sem

namespace Cert.Reference8Ideal.Read
open Cert.Reference8Ideal Cert.Reference8Ideal.Gen Cert.Kv

variable [Facts]

/-- The normalised rows, before the gain. -/
theorem rows (x0 : Vec Ideal S256x1024 .f32) (s : Fin 256) (k : Fin 1024) : val_main_v13 (F := Ideal) x0 (ix2 s k) = unit (row x0 s) k := by
  unfold val_main_v13 val_main_v12 val_main_v11 val_main_v10 val_main_v9 val_main_v8 val_main_v7 val_main_v6 val_main_v5 val_main_v4
  unfold val_main_cst val_main_cst_0 val_main_cst_1
  pointwise []
  rfl

/-- The weights' gradient. -/
theorem result_21 (x2 : Vec Ideal S256x1024 .bf16) (x3 : Vec Ideal S256x1024 .f32) (y : S1024x1024.Idx) : val_main_v21 (F := Ideal) x2 x3 y = gradW x2 x3 y := by
  refine (congrArg (val_main_v21 (F := Ideal) x2 x3) (eq_ix2 y)).trans ?_
  unfold gradW
  generalize (y 0 : Fin 1024) = i
  generalize (y 1 : Fin 1024) = j
  unfold val_main_v21 val_main_v3 val_main_v2 val_main_v0
  pointwise []
  exact Finset.sum_congr rfl fun s _ => mul_comm _ _

/-- The gain's gradient. -/
theorem result_20 (x0 x3 : Vec Ideal S256x1024 .f32) (x4 : Vec Ideal S1024x1024 .f32) (y : S1x1024.Idx) : val_main_v20 (F := Ideal) x0 x3 x4 y = gradG x0 x3 x4 y := by
  refine (congrArg (val_main_v20 (F := Ideal) x0 x3 x4) (eq_ix2 y)).trans ?_
  unfold gradG
  generalize (y 0 : Fin 1) = i
  generalize (y 1 : Fin 1024) = j
  have e := fun s => rows x0 s j
  unfold val_main_v20 val_main_v19 val_main_v18 val_main_v17 val_main_cst_2
  generalize val_main_v13 (F := Ideal) x0 = h at e ⊢
  pointwise []
  exact Finset.sum_congr rfl fun s _ => (mul_comm _ _).trans (congrArg _ (e s))

end Cert.Reference8Ideal.Read

end
-- ==== Proof.KvBwdClaim.lean ====
module

public import proofs.«01_k».proof.Defs
public import proofs.«01_k».proof.Proof.KvBwdKernel
public import proofs.«01_k».proof.Proof.KvBwdReference

/-!
# The gradient of the memory's keys and values: kernel and reference agree

Whatever the arguments hold, both runs end with the same two arrays.
-/

@[expose] public section

noncomputable section

namespace Cert.KvBwd
open Idealize.ShloMosaic Idealize.SL.Sem

theorem algebraic : Cert.algebraic_Kernel8Ideal_Reference8Ideal := by
  intro m g m' g' _ hagree
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, Cert.Kernel8Ideal.Value.run_blocks m g, ?_⟩
  refine (θ_run _ _ _).mono (fun r h c => ?_) (Cert.Reference8Ideal.Value.run m' g')
  obtain ⟨q0, q1, hargs⟩ := h c
  obtain ⟨a0, a1, a2, a3, a4⟩ := hagree c
  refine ⟨q0.trans ?_, q1.trans ?_, hargs⟩
  · rw [Cert.Reference8Ideal.Read.val_main_v21_eq]
    refine (funext fun i => Cert.Reference8Ideal.Read.result_21 _ _ i).trans (Eq.trans ?_ (Cert.Kernel8Ideal.Gen.final5 m c).symm)
    rw [a2, a3]
  · rw [Cert.Reference8Ideal.Read.val_main_v20_eq]
    refine (funext fun i => Cert.Reference8Ideal.Read.result_20 _ _ _ i).trans (Eq.trans ?_ (Cert.Kernel8Ideal.Gen.final6 m c).symm)
    rw [a0, a3, a4]

end Cert.KvBwd

end
-- ==== Proof.lean ====
/- The certificate's claim: each conjunct is a theorem of the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MemFrames
public import proofs.«01_k».proof.Proof.MemClaim
public import proofs.«01_k».proof.Proof.DhFrames
public import proofs.«01_k».proof.Proof.DhClaim
public import proofs.«01_k».proof.Proof.GwFrames
public import proofs.«01_k».proof.Proof.GwClaim
public import proofs.«01_k».proof.Proof.ProjFrames
public import proofs.«01_k».proof.Proof.ProjClaim
public import proofs.«01_k».proof.Proof.WoFrames
public import proofs.«01_k».proof.Proof.WoClaim
public import proofs.«01_k».proof.Proof.WuFrames
public import proofs.«01_k».proof.Proof.WuClaim
public import proofs.«01_k».proof.Proof.KvFwdFrames
public import proofs.«01_k».proof.Proof.KvFwdClaim
public import proofs.«01_k».proof.Proof.KvBwdFrames
public import proofs.«01_k».proof.Proof.KvBwdClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite2.Gen.facts,
    Cert.Mem.frame_kernel, Cert.Mem.frame_kernelIdeal, Cert.Mem.frame_kernelIdeal_pre, Cert.Mem.frame_reference,
    Cert.Mem.frame_reference_pre,
    Cert.Dh.frame_kernel, Cert.Dh.frame_kernelIdeal, Cert.Dh.frame_kernelIdeal_pre, Cert.Dh.frame_reference,
    Cert.Dh.frame_reference_pre,
    Cert.Gw.frame_kernel, Cert.Gw.frame_kernelIdeal, Cert.Gw.frame_reference,
    Cert.Proj.frame_kernel, Cert.Proj.frame_kernelIdeal, Cert.Proj.frame_reference,
    Cert.Wo.frame_kernel, Cert.Wo.frame_kernelIdeal, Cert.Wo.frame_reference,
    Cert.Wu.frame_kernel, Cert.Wu.frame_kernelIdeal, Cert.Wu.frame_reference,
    Cert.KvFwd.frame_kernel, Cert.KvFwd.frame_kernelIdeal, Cert.KvFwd.frame_reference,
    Cert.KvBwd.frame_kernel, Cert.KvBwd.frame_kernelIdeal, Cert.KvBwd.frame_reference,
    trivial, Cert.Mem.algebraic, trivial, Cert.Dh.algebraic, trivial, Cert.Gw.algebraic,
    trivial, Cert.Proj.algebraic, trivial, Cert.Wo.algebraic, trivial, Cert.Wu.algebraic,
    trivial, Cert.KvFwd.algebraic, trivial, Cert.KvBwd.algebraic⟩

end Cert.Proof

end
